-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v4)) (v3 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_v3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)) (v1 : (c : Dev Cert.Kernel3Ideal.nD) → Buf (Elt Ideal) ((c.tc : Thread Cert.Kernel3Ideal.nD Cert.Kernel3Ideal.τ).loc Cert.Kernel3Ideal.main_v17)) (v2 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_v17) = v1 c
          ∧ r.2.mem ((c.tc : Thread Cert.Kernel3Ideal.nD Cert.Kernel3Ideal.τ).loc Cert.Kernel3Ideal.main_v12) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v48) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)) (v1 : (c : Dev Cert.Kernel5Ideal.nD) → Buf (Elt Ideal) ((c.tc : Thread Cert.Kernel5Ideal.nD Cert.Kernel5Ideal.τ).loc Cert.Kernel5Ideal.main_v3)) (v2 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_v3) = v1 c
          ∧ r.2.mem ((c.tc : Thread Cert.Kernel5Ideal.nD Cert.Kernel5Ideal.τ).loc Cert.Kernel5Ideal.main_v4) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v2)) (v2 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v2) = v1 c
          ∧ r.2.mem ((c.tc : Thread Cert.Kernel7Ideal.nD Cert.Kernel7Ideal.τ).loc Cert.Kernel7Ideal.main_v3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_v18) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)) (v1 : (c : Dev Cert.Kernel8Ideal.nD) → Buf (Elt Ideal) ((c.tc : Thread Cert.Kernel8Ideal.nD Cert.Kernel8Ideal.τ).loc Cert.Kernel8Ideal.main_v2)) (v2 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_v2) = v1 c
          ∧ r.2.mem ((c.tc : Thread Cert.Kernel8Ideal.nD Cert.Kernel8Ideal.τ).loc Cert.Kernel8Ideal.main_v3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_v15) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v82) = v1 c
          ∧ r.2.mem ((c.tc : Thread Cert.Reference9Ideal.nD Cert.Reference9Ideal.τ).loc Cert.Reference9Ideal.main_v83) = v2 c
          ∧ r.2.mem ((c.tc : Thread Cert.Reference9Ideal.nD Cert.Reference9Ideal.τ).loc Cert.Reference9Ideal.main_v84) = v3 c
          ∧ r.2.mem ((c.tc : Thread Cert.Reference9Ideal.nD Cert.Reference9Ideal.τ).loc Cert.Reference9Ideal.main_v85) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v70) = v0 c
          ∧ r.2.mem ((c.tc : Thread Cert.Reference10Ideal.nD Cert.Reference10Ideal.τ).loc Cert.Reference10Ideal.main_v65) = v1 c
          ∧ r.2.mem ((c.tc : Thread Cert.Reference10Ideal.nD Cert.Reference10Ideal.τ).loc Cert.Reference10Ideal.main_v71) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S1536x4096 : Shape := ⟨2, ![1536, 4096]⟩
abbrev S1024x4096 : Shape := ⟨2, ![1024, 4096]⟩
abbrev S1x16 : Shape := ⟨2, ![1, 16]⟩
abbrev S_ : Shape := ⟨0, ![]⟩

class Facts : Prop where
  bitsLt_bf16_f32 : FTy.bits .bf16 < FTy.bits .f32
  bcast_S_S1536x4096 : S_.BroadcastsInDim S1536x4096 (![] : Fin 0 → Fin S1536x4096.rank)
  reducesTo_S1536x4096_S_d0_1 : S1536x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S1536x4096 .bf16) (main_arg1 : FVec F S1024x4096 .bf16) (main_arg2 : FVec F S1x16 .f32) : IVec S_ 1 :=
  let main_v0 : FVec F S1536x4096 .f32 := (extf .f32 · bitsLt_bf16_f32) main_arg0
  let main_v1 : FVec F S1536x4096 .f32 := Host.absf main_v0
  let main_cst : FVec F S_ .f32 := constant S_ .f32 0x7F800000#32
  let main_v2 : FVec F S1536x4096 .f32 := broadcastInDim S1536x4096 ![] bcast_S_S1536x4096 main_cst
  let main_v3 : IVec S1536x4096 1 := cmpf .olt main_v1 main_v2
  let main_c : IVec S_ 1 := constantI S_ 1 1#1
  let main_v4 : IVec S_ 1 := (fun x v => Host.reduce IntOp.andi x v reducesTo_S1536x4096_S_d0_1 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S1x16 .f32 := Host.absf main_arg2
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  let main_c_3 : IVec S_ 1 := constantI S_ 1 1#1
  let main_v14 : IVec S_ 1 := (fun x v => Host.reduce IntOp.andi x v reducesTo_S1x16_S_d0_1 h_S_) main_v13 main_c_3
  let main_v15 : IVec S_ 1 := andi main_v10 main_v14
  main_v15
-- ==== Pre_finite4.lean ====
abbrev S4096x2048 : Shape := ⟨2, ![4096, 2048]⟩
abbrev S4096x6144 : Shape := ⟨2, ![4096, 6144]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x6144 : S_.BroadcastsInDim S4096x6144 (![] : Fin 0 → Fin S4096x6144.rank)
  reducesTo_S4096x6144_S_d0_1 : S4096x6144.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : FVec F S4096x6144 .f32) (main_arg3 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x6144 .f32 := Host.absf main_arg2
  let main_cst_2 : FVec F S_ .f32 := constant S_ .f32 0x7F800000#32
  let main_v10 : FVec F S4096x6144 .f32 := broadcastInDim S4096x6144 ![] bcast_S_S4096x6144 main_cst_2
  let main_v11 : IVec S4096x6144 1 := cmpf .olt main_v9 main_v10
  let main_c_3 : IVec S_ 1 := constantI S_ 1 1#1
  let main_v12 : IVec S_ 1 := (fun x v => Host.reduce IntOp.andi x v reducesTo_S4096x6144_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Kernel.lean ====
abbrev S1536x4096 : Shape := ⟨2, ![1536, 4096]⟩
abbrev S1024x4096 : Shape := ⟨2, ![1024, 4096]⟩
abbrev S1x16 : Shape := ⟨2, ![1, 16]⟩
abbrev S4x4x1 : Shape := ⟨3, ![4, 4, 1]⟩
abbrev S4x4x1x128 : Shape := ⟨4, ![4, 4, 1, 128]⟩
abbrev S4x4x128 : Shape := ⟨3, ![4, 4, 128]⟩
abbrev S4x1x512 : Shape := ⟨3, ![4, 1, 512]⟩
abbrev S1536x1 : Shape := ⟨2, ![1536, 1]⟩
abbrev S1024x128 : Shape := ⟨2, ![1024, 128]⟩
abbrev S256x128 : Shape := ⟨2, ![256, 128]⟩
abbrev S1536x128 : Shape := ⟨2, ![1536, 128]⟩
abbrev S256x512 : Shape := ⟨2, ![256, 512]⟩
abbrev S64x128 : Shape := ⟨2, ![64, 128]⟩
abbrev S64x256 : Shape := ⟨2, ![64, 256]⟩
abbrev S64x512 : Shape := ⟨2, ![64, 512]⟩
abbrev S1x1x512 : Shape := ⟨3, ![1, 1, 512]⟩
abbrev S1x512 : Shape := ⟨2, ![1, 512]⟩
abbrev S512 : Shape := ⟨1, ![512]⟩
abbrev S1536 : Shape := ⟨1, ![1536]⟩
abbrev S1x128 : Shape := ⟨2, ![1, 128]⟩
abbrev S1 : Shape := ⟨1, ![1]⟩
abbrev S1x1 : Shape := ⟨2, ![1, 1]⟩

abbrev nBuf : Space → Nat
  | .hbm => 10
  | .vmem => 21
  | .smem => 0
  | _ => 0

abbrev bufTy : (tb : Table) → Fin (tcTables nBuf tb) → BufTy
  | .hbm, ⟨0, _⟩ => ⟨S1536x4096, .bf16⟩
  | .hbm, ⟨1, _⟩ => ⟨S1024x4096, .bf16⟩
  | .hbm, ⟨2, _⟩ => ⟨S1x16, .f32⟩
  | .hbm, ⟨3, _⟩ => ⟨S4x4x1, .f32⟩
  | .hbm, ⟨4, _⟩ => ⟨S4x4x1x128, .f32⟩
  | .hbm, ⟨5, _⟩ => ⟨S4x4x128, .f32⟩
  | .hbm, ⟨6, _⟩ => ⟨S4x1x512, .f32⟩
  | .hbm, ⟨7, _⟩ => ⟨S1536x4096, .bf16⟩
  | .hbm, ⟨8, _⟩ => ⟨S1536x1, .f32⟩
  | .hbm, ⟨9, _⟩ => ⟨S1x16, .f32⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1024x128, .bf16⟩
  | .local _ .vmem, ⟨11, _⟩ => ⟨S1024x128, .bf16⟩
  | .local _ .vmem, ⟨12, _⟩ => ⟨S4x1x512, .f32⟩
  | .local _ .vmem, ⟨13, _⟩ => ⟨S1536x128, .bf16⟩
  | .local _ .vmem, ⟨14, _⟩ => ⟨S1536x128, .bf16⟩
  | .local _ .vmem, ⟨15, _⟩ => ⟨S1536x1, .f32⟩
  | .local _ .vmem, ⟨16, _⟩ => ⟨S1x16, .f32⟩
  | .local _ .vmem, ⟨17, _⟩ => ⟨S1536x128, .f32⟩
  | .local _ .vmem, ⟨18, _⟩ => ⟨S1536x128, .f32⟩
  | .local _ .vmem, ⟨19, _⟩ => ⟨S1536x128, .f32⟩
  | .local _ .vmem, ⟨20, _⟩ => ⟨S4x1x512, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c1_i32 : BitVec 32 := 1#32
  let v6 : BitVec 1 := Scalar.cmpi .sge arg0 c1_i32
  let v7 : BitVec 32 := Scalar.extui v6
  let c0_i32_2 : BitVec 32 := 0#32
  let v8 : BitVec 1 := Scalar.cmpi .ne v7 c0_i32_2
  v8

def k0_cond5 (i : grid0.Coords) : BitVec 1 :=
  let arg0 : BitVec 32 := BitVec.ofNat 32 (i 0).val
  let c32_i32_5 : BitVec 32 := 32#32
  let v12 : BitVec 1 := Scalar.cmpi .eq arg0 c32_i32_5
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![c4_i32.toNat, v0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c5_i32 : BitVec 32 := 5#32
  let c0_i32 : BitVec 32 := 0#32
  ![c5_i32.toNat, v0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![c4_i32.toNat, v2.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![c5_i32.toNat, v2.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1536x4096 : Shape := ⟨2, ![1536, 4096]⟩
abbrev S1024x4096 : Shape := ⟨2, ![1024, 4096]⟩
abbrev S1x16 : Shape := ⟨2, ![1, 16]⟩
abbrev S4096x1536 : Shape := ⟨2, ![4096, 1536]⟩
abbrev S1x4096x1536 : Shape := ⟨3, ![1, 4096, 1536]⟩
abbrev S4096x1024 : Shape := ⟨2, ![4096, 1024]⟩
abbrev S1x4096x1024 : Shape := ⟨3, ![1, 4096, 1024]⟩
abbrev S_ : Shape := ⟨0, ![]⟩
abbrev S1536 : Shape := ⟨1, ![1536]⟩
abbrev S1x1x1536 : Shape := ⟨3, ![1, 1, 1536]⟩
abbrev S1x32x128x4x4x64 : Shape := ⟨6, ![1, 32, 128, 4, 4, 64]⟩
abbrev S1x4096x256 : Shape := ⟨3, ![1, 4096, 256]⟩
abbrev S1x32x128x4x64 : Shape := ⟨5, ![1, 32, 128, 4, 64]⟩
abbrev S1x1x128x4x64 : Shape := ⟨5, ![1, 1, 128, 4, 64]⟩
abbrev S1x31x128x4x64 : Shape := ⟨5, ![1, 31, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x64x4x128 : Shape := ⟨6, ![1, 32, 4, 64, 4, 128]⟩
abbrev S1x32x4x64x256 : Shape := ⟨5, ![1, 32, 4, 64, 256]⟩
abbrev S1x4x4x1 : Shape := ⟨4, ![1, 4, 4, 1]⟩
abbrev S32x4x4x128 : Shape := ⟨4, ![32, 4, 4, 128]⟩
abbrev S1x32x4x128x4x64 : Shape := ⟨6, ![1, 32, 4, 128, 4, 64]⟩
abbrev S1x32x4x256x64 : Shape := ⟨5, ![1, 32, 4, 256, 64]⟩
abbrev S1x1536 : Shape := ⟨2, ![1, 1536]⟩
abbrev S1536x1 : Shape := ⟨2, ![1536, 1]⟩

abbrev nBuf : Space → Nat
  | .hbm => 227
  | .vmem => 0
  | .smem => 0
  | _ => 0

abbrev hbmTy0_0 (i : Nat) : BufTy := match i % 128 with
  | 0 => ⟨S1536x4096, .bf16⟩
  | 1 => ⟨S1024x4096, .bf16⟩
  | 2 => ⟨S1x16, .f32⟩
  | 3 => ⟨S1536x4096, .f32⟩
  | 4 => ⟨S4096x1536, .f32⟩
  | 5 => ⟨S1x4096x1536, .f32⟩
  | 6 => ⟨S1024x4096, .f32⟩
  | 7 => ⟨S4096x1024, .f32⟩
  | 8 => ⟨S1x4096x1024, .f32⟩
  | 9 => ⟨S_, .f32⟩
  | 10 => ⟨S1536, .f32⟩
  | 11 => ⟨S1x1x1536, .f32⟩
  | 12 => ⟨S1x4096x1536, .f32⟩
  | 13 => ⟨S1x4096x1536, .f32⟩
  | 14 => ⟨S1x4096x1024, .f32⟩
  | 15 => ⟨S1x32x128x4x4x64, .f32⟩
  | 16 => ⟨S1x4096x256, .f32⟩
  | 17 => ⟨S1x32x128x4x64, .f32⟩
  | 18 => ⟨S1x4096x256, .f32⟩
  | 19 => ⟨S1x32x128x4x64, .f32⟩
  | 20 => ⟨S1x1x128x4x64, .f32⟩
  | 21 => ⟨S_, .f32⟩
  | 22 => ⟨S1x1x128x4x64, .f32⟩
  | 23 => ⟨S1x31x128x4x64, .f32⟩
  | 24 => ⟨S1x32x128x4x64, .f32⟩
  | 25 => ⟨S_, .f32⟩
  | 26 => ⟨S1x1x128x4x64, .f32⟩
  | 27 => ⟨S1x32x256x4x64, .f32⟩
  | 28 => ⟨S1x1x128x4x64, .f32⟩
  | 29 => ⟨S_, .f32⟩
  | 30 => ⟨S1x1x128x4x64, .f32⟩
  | 31 => ⟨S1x31x128x4x64, .f32⟩
  | 32 => ⟨S1x32x128x4x64, .f32⟩
  | 33 => ⟨S_, .f32⟩
  | 34 => ⟨S1x1x128x4x64, .f32⟩
  | 35 => ⟨S1x32x256x4x64, .f32⟩
  | 36 => ⟨S1x32x4x256x128x4, .f32⟩
  | 37 => ⟨S1x32x4x4x128x256, .f32⟩
  | 38 => ⟨S_, .f32⟩
  | 39 => ⟨S1x32x4x4x128x256, .f32⟩
  | 40 => ⟨S1x32x4x4x128x256, .f32⟩
  | 41 => ⟨S128, .i32⟩
  | 42 => ⟨S_, .i32⟩
  | 43 => ⟨S128, .i32⟩
  | 44 => ⟨S128, .i32⟩
  | 45 => ⟨S256, .i32⟩
  | 46 => ⟨S128x1, .i32⟩
  | 47 => ⟨S1x256, .i32⟩
  | 48 => ⟨S128x256, .i32⟩
  | 49 => ⟨S128x256, .i32⟩
  | 50 => ⟨S128x256, .i32⟩
  | 51 => ⟨S_, .i32⟩
  | 52 => ⟨S128x256, .i32⟩
  | 53 => ⟨S128x256, .i1⟩
  | 54 => ⟨S_, .i32⟩
  | 55 => ⟨S128x256, .i32⟩
  | 56 => ⟨S128x256, .i1⟩
  | 57 => ⟨S128x256, .i1⟩
  | 58 => ⟨S32, .i32⟩
  | 59 => ⟨S32x1x1, .i32⟩
  | 60 => ⟨S1x128x256, .i1⟩
  | 61 => ⟨S_, .i32⟩
  | 62 => ⟨S32x1x1, .i32⟩
  | 63 => ⟨S32x1x1, .i1⟩
  | 64 => ⟨S1x1x256, .i32⟩
  | 65 => ⟨S_, .i32⟩
  | 66 => ⟨S1x1x256, .i32⟩
  | 67 => ⟨S1x1x256, .i1⟩
  | 68 => ⟨S32x1x256, .i1⟩
  | 69 => ⟨S32x1x256, .i1⟩
  | 70 => ⟨S32x1x256, .i1⟩
  | 71 => ⟨S32x1x256, .i1⟩
  | 72 => ⟨S32x128x256, .i1⟩
  | 73 => ⟨S32x128x256, .i1⟩
  | 74 => ⟨S32x128x256, .i1⟩
  | 75 => ⟨S1x32x1x1x128x256, .i1⟩
  | 76 => ⟨S_, .f32⟩
  | 77 => ⟨S_, .f32⟩
  | 78 => ⟨S1x32x4x4x128x256, .i1⟩
  | 79 => ⟨S1x32x4x4x128x256, .f32⟩
  | 80 => ⟨S1x32x4x4x128x256, .f32⟩
  | 81 => ⟨S_, .f32⟩
  | 82 => ⟨S1x32x4x4x128x256, .f32⟩
  | 83 => ⟨S1x1x4x4x1x1, .f32⟩
  | 84 => ⟨S_, .f32⟩
  | 85 => ⟨S1x32x4x4x128, .f32⟩
  | 86 => ⟨S1x32x4x4x128x1, .f32⟩
  | 87 => ⟨S1x32x4x4x128x256, .f32⟩
  | 88 => ⟨S1x32x4x4x128x256, .i1⟩
  | 89 => ⟨S1x32x4x4x128x256, .f32⟩
  | 90 => ⟨S_, .f32⟩
  | 91 => ⟨S1x32x4x4x128, .f32⟩
  | 92 => ⟨S1x32x4x4x128x1, .f32⟩
  | 93 => ⟨S1x32x4x4x128x1, .f32⟩
  | 94 => ⟨S1x32x4x4x128x1, .f32⟩
  | 95 => ⟨S1x32x4x4x128x1, .f32⟩
  | 96 => ⟨S1x32x4x4x128x1, .i1⟩
  | 97 => ⟨S1x32x4x4x128x1, .f32⟩
  | 98 => ⟨S1x32x4x4x128x1, .i1⟩
  | 99 => ⟨S_, .f32⟩
  | 100 => ⟨S1x32x4x4x128x1, .f32⟩
  | 101 => ⟨S_, .f32⟩
  | 102 => ⟨S1x32x4x4x128x1, .f32⟩
  | 103 => ⟨S_, .f32⟩
  | 104 => ⟨S1x32x4x4x128x1, .f32⟩
  | 105 => ⟨S1x32x4x4x128x1, .f32⟩
  | 106 => ⟨S1x32x4x4x128x1, .f32⟩
  | 107 => ⟨S1x32x4x4x128x1, .f32⟩
  | 108 => ⟨S1x32x4x4x128x1, .i1⟩
  | 109 => ⟨S1x32x4x4x128x1, .f32⟩
  | 110 => ⟨S1x32x4x4x128x1, .i1⟩
  | 111 => ⟨S_, .f32⟩
  | 112 => ⟨S1x32x4x4x128x1, .f32⟩
  | 113 => ⟨S_, .f32⟩
  | 114 => ⟨S1x32x4x4x128x1, .f32⟩
  | 115 => ⟨S_, .f32⟩
  | 116 => ⟨S1x32x4x4x128x1, .f32⟩
  | 117 => ⟨S1x32x4x4x128x1, .f32⟩
  | 118 => ⟨S1x32x4x4x128x1, .f32⟩
  | 119 => ⟨S1x32x4x4x128x256, .f32⟩
  | 120 => ⟨S1x32x4x4x128x256, .f32⟩
  | 121 => ⟨S1x32x4x4x128x256, .f32⟩
  | 122 => ⟨S_, .f32⟩
  | 123 => ⟨S1x32x4x4x128, .f32⟩
  | 124 => ⟨S1x32x4x4x128x1, .f32⟩
  | 125 => ⟨S1x32x4x4x128x1, .f32⟩
  | 126 => ⟨S1x32x4x4x128x1, .f32⟩
  | 127 => ⟨S1x32x4x4x128x1, .f32⟩
  | _ => ⟨S1536x4096, .bf16⟩

abbrev hbmTy0_1 (i : Nat) : BufTy := match i % 128 with
  | 0 => ⟨S1x32x4x4x128x1, .f32⟩
  | 1 => ⟨S1x32x4x4x128x256, .f32⟩
  | 2 => ⟨S1x32x4x4x128x256, .f32⟩
  | 3 => ⟨S1x32x4x4x128x1, .f32⟩
  | 4 => ⟨S_, .f32⟩
  | 5 => ⟨S1x32x4x4x128x1, .f32⟩
  | 6 => ⟨S1x32x4x4x128x1, .f32⟩
  | 7 => ⟨S1x32x4x64x4x128, .f32⟩
  | 8 => ⟨S1x32x128x4x4x64, .f32⟩
  | 9 => ⟨S1x4096x1024, .f32⟩
  | 10 => ⟨S1x32x128x4x4x64, .f32⟩
  | 11 => ⟨S1x32x4x64x4x128, .f32⟩
  | 12 => ⟨S1x32x4x4x128x256, .f32⟩
  | 13 => ⟨S1x32x4x64x256, .f32⟩
  | 14 => ⟨S1x32x256x4x64, .f32⟩
  | 15 => ⟨S1x32x4x4x128x256, .f32⟩
  | 16 => ⟨S1x32x4x4x128x256, .f32⟩
  | 17 => ⟨S1x32x4x4x128x256, .f32⟩
  | 18 => ⟨S_, .f32⟩
  | 19 => ⟨S1x32x4x4x128, .f32⟩
  | 20 => ⟨S1x32x4x4x128x1, .f32⟩
  | 21 => ⟨S1x32x4x4x128x1, .f32⟩
  | 22 => ⟨S1x32x4x4x128x256, .f32⟩
  | 23 => ⟨S1x32x4x4x128x256, .f32⟩
  | 24 => ⟨S1x32x4x4x128x1, .f32⟩
  | 25 => ⟨S_, .f32⟩
  | 26 => ⟨S1x4x4x1, .f32⟩
  | 27 => ⟨S1x1x4x4x1x1, .f32⟩
  | 28 => ⟨S1x32x4x4x128x1, .f32⟩
  | 29 => ⟨S_, .f32⟩
  | 30 => ⟨S32x4x4x128, .f32⟩
  | 31 => ⟨S1x32x4x4x128, .f32⟩
  | 32 => ⟨S1x32x4x4x128x256, .f32⟩
  | 33 => ⟨S1x32x4x4x128x256, .f32⟩
  | 34 => ⟨S1x32x4x4x128x256, .f32⟩
  | 35 => ⟨S1x32x4x4x128x256, .f32⟩
  | 36 => ⟨S_, .f32⟩
  | 37 => ⟨S1x32x4x4x128, .f32⟩
  | 38 => ⟨S1x32x4x4x128x1, .f32⟩
  | 39 => ⟨S1x32x4x4x128x1, .f32⟩
  | 40 => ⟨S1x32x4x4x128x1, .f32⟩
  | 41 => ⟨S_, .f32⟩
  | 42 => ⟨S1x4x4x1, .f32⟩
  | 43 => ⟨S1x1x4x4x1x1, .f32⟩
  | 44 => ⟨S1x1x4x4x1x1, .f32⟩
  | 45 => ⟨S1x32x4x4x128x1, .f32⟩
  | 46 => ⟨S_, .f32⟩
  | 47 => ⟨S32x4x4x128, .f32⟩
  | 48 => ⟨S1x32x4x4x128, .f32⟩
  | 49 => ⟨S1x32x4x4x128, .f32⟩
  | 50 => ⟨S1x32x4x4x128x256, .f32⟩
  | 51 => ⟨S1x32x4x4x128x256, .f32⟩
  | 52 => ⟨S1x32x4x4x128x256, .f32⟩
  | 53 => ⟨S1x16, .f32⟩
  | 54 => ⟨S_, .f32⟩
  | 55 => ⟨S1x32x4x4x128x256, .f32⟩
  | 56 => ⟨S1x32x4x4x128x256, .f32⟩
  | 57 => ⟨S_, .f32⟩
  | 58 => ⟨S1x32x4x4x128x256, .f32⟩
  | 59 => ⟨S1x32x4x4x128x256, .f32⟩
  | 60 => ⟨S1x32x4x256x128x4, .f32⟩
  | 61 => ⟨S1x32x4x128x4x64, .f32⟩
  | 62 => ⟨S1x32x128x4x4x64, .f32⟩
  | 63 => ⟨S1x32x4x256x64, .f32⟩
  | 64 => ⟨S1x32x256x4x64, .f32⟩
  | 65 => ⟨S1x32x128x4x64, .f32⟩
  | 66 => ⟨S1x32x128x4x64, .f32⟩
  | 67 => ⟨S1x1x128x4x64, .f32⟩
  | 68 => ⟨S1x31x128x4x64, .f32⟩
  | 69 => ⟨S_, .f32⟩
  | 70 => ⟨S1x32x128x4x64, .f32⟩
  | 71 => ⟨S1x32x128x4x64, .f32⟩
  | 72 => ⟨S1x32x128x4x64, .f32⟩
  | 73 => ⟨S1x32x128x4x64, .f32⟩
  | 74 => ⟨S1x1x128x4x64, .f32⟩
  | 75 => ⟨S1x31x128x4x64, .f32⟩
  | 76 => ⟨S_, .f32⟩
  | 77 => ⟨S1x32x128x4x64, .f32⟩
  | 78 => ⟨S1x32x128x4x64, .f32⟩
  | 79 => ⟨S1x4096x256, .f32⟩
  | 80 => ⟨S_, .f32⟩
  | 81 => ⟨S1x4096x1536, .f32⟩
  | 82 => ⟨S1x4096x256, .f32⟩
  | 83 => ⟨S_, .f32⟩
  | 84 => ⟨S1x4096x1536, .f32⟩
  | 85 => ⟨S1x4096x1536, .f32⟩
  | 86 => ⟨S1x4096x1024, .f32⟩
  | 87 => ⟨S_, .f32⟩
  | 88 => ⟨S1x4096x1536, .f32⟩
  | 89 => ⟨S1x4096x1536, .f32⟩
  | 90 => ⟨S_, .f32⟩
  | 91 => ⟨S1x1536, .f32⟩
  | 92 => ⟨S1x1x1536, .f32⟩
  | 93 => ⟨S_, .f32⟩
  | 94 => ⟨S1536, .f32⟩
  | 95 => ⟨S4096x1536, .f32⟩
  | 96 => ⟨S1536x4096, .f32⟩
  | 97 => ⟨S1536x4096, .bf16⟩
  | 98 => ⟨S1536x1, .f32⟩
  | _ => ⟨S1536x4096, .bf16⟩

abbrev hbmTy (i : Nat) : BufTy := match i / 128 with
  | 0 => hbmTy0_0 i
  | 1 => hbmTy0_1 i
  | _ => ⟨S1536x4096, .bf16⟩

abbrev bufTy : (tb : Table) → Fin (tcTables nBuf tb) → BufTy
  | .hbm, ⟨i, _⟩ => hbmTy i
  | _, _ => ⟨S1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_call0_v0 : Ref sig .tc := ⟨.hbm, 77, rfl⟩
abbrev main_v62_1 : Ref sig .tc := ⟨.hbm, 78, rfl⟩
abbrev main_call0_v2 : Ref sig .tc := ⟨.hbm, 79, rfl⟩
abbrev main_v62_0 : Ref sig .tc := ⟨.hbm, 80, rfl⟩
abbrev main_call0_cst : Ref sig .tc := ⟨.hbm, 81, rfl⟩
abbrev main_v62_2 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_cst_13 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_cst_17 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_19 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_20 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_21 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_22 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_23 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_24 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_25 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_call1_cst : Ref sig .tc := ⟨.hbm, 182, rfl⟩
abbrev main_call1_v0 : Ref sig .tc := ⟨.hbm, 183, rfl⟩
abbrev main_v146 : Ref sig .tc := ⟨.hbm, 184, rfl⟩
abbrev main_cst_26 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_27 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_28 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_29 : Ref sig .tc := ⟨.hbm, 208, rfl⟩
abbrev main_v167 : Ref sig .tc := ⟨.hbm, 209, rfl⟩
abbrev main_v168 : Ref sig .tc := ⟨.hbm, 210, rfl⟩
abbrev main_cst_30 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_31 : Ref sig .tc := ⟨.hbm, 215, rfl⟩
abbrev main_v172 : Ref sig .tc := ⟨.hbm, 216, rfl⟩
abbrev main_v173 : Ref sig .tc := ⟨.hbm, 217, rfl⟩
abbrev main_cst_32 : Ref sig .tc := ⟨.hbm, 218, rfl⟩
abbrev main_v174 : Ref sig .tc := ⟨.hbm, 219, rfl⟩
abbrev main_v175 : Ref sig .tc := ⟨.hbm, 220, rfl⟩
abbrev main_cst_33 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩
abbrev S512x4096 : Shape := ⟨2, ![512, 4096]⟩
abbrev S512x1024 : Shape := ⟨2, ![512, 1024]⟩
abbrev S4096x512 : Shape := ⟨2, ![4096, 512]⟩
abbrev S8x1024x512 : Shape := ⟨3, ![8, 1024, 512]⟩
abbrev S1x1024x512 : Shape := ⟨3, ![1, 1024, 512]⟩
abbrev S1024x512 : Shape := ⟨2, ![1024, 512]⟩

abbrev nBuf : Space → Nat
  | .hbm => 10
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .bf16⟩
  | .hbm, ⟨5, _⟩ => ⟨S4096x1024, .f32⟩
  | .hbm, ⟨6, _⟩ => ⟨S4096x4096, .bf16⟩
  | .hbm, ⟨7, _⟩ => ⟨S4096x1024, .bf16⟩
  | .hbm, ⟨8, _⟩ => ⟨S8x1024x512, .bf16⟩
  | .hbm, ⟨9, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x4096, .bf16⟩
  | .local _ .vmem, ⟨7, _⟩ => ⟨S512x4096, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S4096x512, .bf16⟩
  | .local _ .vmem, ⟨20, _⟩ => ⟨S4096x512, .bf16⟩
  | .local _ .vmem, ⟨21, _⟩ => ⟨S4096x1024, .bf16⟩
  | .local _ .vmem, ⟨22, _⟩ => ⟨S512x1024, .bf16⟩
  | .local _ .vmem, ⟨23, _⟩ => ⟨S512x1024, .bf16⟩
  | .local _ .vmem, ⟨24, _⟩ => ⟨S4096x1024, .bf16⟩
  | .local _ .vmem, ⟨25, _⟩ => ⟨S4096x512, .bf16⟩
  | .local _ .vmem, ⟨26, _⟩ => ⟨S4096x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S512x4096, .bf16⟩
  | .local _ .vmem, ⟨30, _⟩ => ⟨S512x4096, .bf16⟩
  | .local _ .vmem, ⟨31, _⟩ => ⟨S1024x4096, .bf16⟩
  | .local _ .vmem, ⟨32, _⟩ => ⟨S512x1024, .f32⟩
  | .local _ .vmem, ⟨33, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1024x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S1024x4096, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S1024x4096, .f32⟩
  | .hbm, ⟨31, _⟩ => ⟨S4096x1024, .f32⟩
  | .hbm, ⟨32, _⟩ => ⟨S1024x8x512, .f32⟩
  | .hbm, ⟨33, _⟩ => ⟨S8x1024x512, .f32⟩
  | .hbm, ⟨34, _⟩ => ⟨S8x1024x512, .bf16⟩
  | .hbm, ⟨35, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel3.lean ====
abbrev S4096x1024 : Shape := ⟨2, ![4096, 1024]⟩
abbrev S6176x1024 : Shape := ⟨2, ![6176, 1024]⟩
abbrev S4096x2048 : Shape := ⟨2, ![4096, 2048]⟩
abbrev S4096x32 : Shape := ⟨2, ![4096, 32]⟩
abbrev S32x1024 : Shape := ⟨2, ![32, 1024]⟩
abbrev S_ : Shape := ⟨0, ![]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩
abbrev S2048x1024 : Shape := ⟨2, ![2048, 1024]⟩
abbrev S4096x512 : Shape := ⟨2, ![4096, 512]⟩
abbrev S512x1024 : Shape := ⟨2, ![512, 1024]⟩
abbrev S8x772x1024 : Shape := ⟨3, ![8, 772, 1024]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 29
  | .vmem => 45
  | .smem => 0
  | _ => 0

abbrev bufTy : (tb : Table) → Fin (tcTables nBuf tb) → BufTy
  | .hbm, ⟨0, _⟩ => ⟨S4096x1024, .bf16⟩
  | .hbm, ⟨1, _⟩ => ⟨S6176x1024, .bf16⟩
  | .hbm, ⟨2, _⟩ => ⟨S4096x2048, .bf16⟩
  | .hbm, ⟨3, _⟩ => ⟨S4096x2048, .bf16⟩
  | .hbm, ⟨4, _⟩ => ⟨S4096x1024, .bf16⟩
  | .hbm, ⟨5, _⟩ => ⟨S4096x1024, .bf16⟩
  | .hbm, ⟨6, _⟩ => ⟨S4096x32, .f32⟩
  | .hbm, ⟨7, _⟩ => ⟨S32x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S4096x128, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x128, .bf16⟩
  | .hbm, ⟨16, _⟩ => ⟨S2048x1024, .bf16⟩
  | .hbm, ⟨17, _⟩ => ⟨S2048x1024, .bf16⟩
  | .hbm, ⟨18, _⟩ => ⟨S1024x1024, .bf16⟩
  | .hbm, ⟨19, _⟩ => ⟨S1024x1024, .bf16⟩
  | .hbm, ⟨20, _⟩ => ⟨S128x1024, .bf16⟩
  | .hbm, ⟨21, _⟩ => ⟨S32x1024, .bf16⟩
  | .hbm, ⟨22, _⟩ => ⟨S6176x1024, .bf16⟩
  | .hbm, ⟨23, _⟩ => ⟨S8x772x1024, .bf16⟩
  | .hbm, ⟨24, _⟩ => ⟨S2048x1024, .bf16⟩
  | .hbm, ⟨25, _⟩ => ⟨S2048x1024, .bf16⟩
  | .hbm, ⟨26, _⟩ => ⟨S1024x1024, .bf16⟩
  | .hbm, ⟨27, _⟩ => ⟨S1024x1024, .bf16⟩
  | .hbm, ⟨28, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | .local _ .vmem, ⟨5, _⟩ => ⟨S4096x512, .bf16⟩
  | .local _ .vmem, ⟨6, _⟩ => ⟨S4096x512, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | .local _ .vmem, ⟨10, _⟩ => ⟨S4096x512, .bf16⟩
  | .local _ .vmem, ⟨11, _⟩ => ⟨S4096x512, .bf16⟩
  | .local _ .vmem, ⟨12, _⟩ => ⟨S4096x1024, .bf16⟩
  | .local _ .vmem, ⟨13, _⟩ => ⟨S512x1024, .bf16⟩
  | .local _ .vmem, ⟨14, _⟩ => ⟨S512x1024, .bf16⟩
  | .local _ .vmem, ⟨15, _⟩ => ⟨S4096x512, .bf16⟩
  | .local _ .vmem, ⟨16, _⟩ => ⟨S4096x512, .bf16⟩
  | .local _ .vmem, ⟨17, _⟩ => ⟨S4096x1024, .bf16⟩
  | .local _ .vmem, ⟨18, _⟩ => ⟨S512x1024, .bf16⟩
  | .local _ .vmem, ⟨19, _⟩ => ⟨S512x1024, .bf16⟩
  | .local _ .vmem, ⟨20, _⟩ => ⟨S4096x512, .bf16⟩
  | .local _ .vmem, ⟨21, _⟩ => ⟨S4096x512, .bf16⟩
  | .local _ .vmem, ⟨22, _⟩ => ⟨S4096x1024, .bf16⟩
  | .local _ .vmem, ⟨23, _⟩ => ⟨S512x1024, .bf16⟩
  | .local _ .vmem, ⟨24, _⟩ => ⟨S512x1024, .bf16⟩
  | .local _ .vmem, ⟨25, _⟩ => ⟨S4096x128, .bf16⟩
  | .local _ .vmem, ⟨26, _⟩ => ⟨S4096x1024, .bf16⟩
  | .local _ .vmem, ⟨27, _⟩ => ⟨S128x1024, .bf16⟩
  | .local _ .vmem, ⟨28, _⟩ => ⟨S256x2048, .bf16⟩
  | .local _ .vmem, ⟨29, _⟩ => ⟨S256x2048, .bf16⟩
  | .local _ .vmem, ⟨30, _⟩ => ⟨S256x2048, .bf16⟩
  | .local _ .vmem, ⟨31, _⟩ => ⟨S256x2048, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x128, .bf16⟩
  | .local _ .vmem, ⟨37, _⟩ => ⟨S256x128, .bf16⟩
  | .local _ .vmem, ⟨38, _⟩ => ⟨S2048x1024, .bf16⟩
  | .local _ .vmem, ⟨39, _⟩ => ⟨S2048x1024, .bf16⟩
  | .local _ .vmem, ⟨40, _⟩ => ⟨S1024x1024, .bf16⟩
  | .local _ .vmem, ⟨41, _⟩ => ⟨S1024x1024, .bf16⟩
  | .local _ .vmem, ⟨42, _⟩ => ⟨S128x1024, .bf16⟩
  | .local _ .vmem, ⟨43, _⟩ => ⟨S256x1024, .f32⟩
  | .local _ .vmem, ⟨44, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc6_stg3_0 : Ref sig .tc := ⟨.vmem, 34, rfl⟩
abbrev cc6_stg3_1 : Ref sig .tc := ⟨.vmem, 35, rfl⟩
abbrev cc6_stg4_0 : Ref sig .tc := ⟨.vmem, 36, rfl⟩
abbrev cc6_stg4_1 : Ref sig .tc := ⟨.vmem, 37, rfl⟩
abbrev cc6_stg5_0 : Ref sig .tc := ⟨.vmem, 38, rfl⟩
abbrev cc6_stg6_0 : Ref sig .tc := ⟨.vmem, 39, rfl⟩
abbrev cc6_stg7_0 : Ref sig .tc := ⟨.vmem, 40, rfl⟩
abbrev cc6_stg8_0 : Ref sig .tc := ⟨.vmem, 41, rfl⟩
abbrev cc6_stg9_0 : Ref sig .tc := ⟨.vmem, 42, rfl⟩
abbrev cc6_stg10_0 : Ref sig .tc := ⟨.vmem, 43, rfl⟩
abbrev cc6_stg10_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem2_0 : DmaSem sig := 27
abbrev cc6_sem0_0 : DmaSem sig := 28
abbrev cc6_sem0_1 : DmaSem sig := 29
abbrev cc6_sem1_0 : DmaSem sig := 30
abbrev cc6_sem1_1 : DmaSem sig := 31
abbrev cc6_sem2_0 : DmaSem sig := 32
abbrev cc6_sem2_1 : DmaSem sig := 33
abbrev cc6_sem3_0 : DmaSem sig := 34
abbrev cc6_sem3_1 : DmaSem sig := 35
abbrev cc6_sem4_0 : DmaSem sig := 36
abbrev cc6_sem4_1 : DmaSem sig := 37
abbrev cc6_sem5_0 : DmaSem sig := 38
abbrev cc6_sem6_0 : DmaSem sig := 39
abbrev cc6_sem7_0 : DmaSem sig := 40
abbrev cc6_sem8_0 : DmaSem sig := 41
abbrev cc6_sem9_0 : DmaSem sig := 42
abbrev cc6_sem10_0 : DmaSem sig := 43
abbrev cc6_sem10_1 : DmaSem sig := 44

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4096x128 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S128x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev grid6 : Pipeline.Grid := ⟨2, ![16, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_10 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S256x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S256x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S256x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S256x128 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 1 → Memref sig .tc .vmem S2048x1024 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, true]

abbrev stage6_6 : Fin 1 → Memref sig .tc .vmem S2048x1024 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, true]

abbrev stage6_7 : Fin 1 → Memref sig .tc .vmem S1024x1024 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false, true]

abbrev stage6_8 : Fin 1 → Memref sig .tc .vmem S1024x1024 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false, true]

abbrev stage6_9 : Fin 1 → Memref sig .tc .vmem S128x1024 .bf16 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false, true]

abbrev stage6_10 : Fin 2 → Memref sig .tc .vmem S256x1024 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true, true]
-- ==== Reference3Ideal.lean ====
abbrev S4096x1024 : Shape := ⟨2, ![4096, 1024]⟩
abbrev S6176x1024 : Shape := ⟨2, ![6176, 1024]⟩
abbrev S4096x2048 : Shape := ⟨2, ![4096, 2048]⟩
abbrev S4096x32 : Shape := ⟨2, ![4096, 32]⟩
abbrev S1024x6176 : Shape := ⟨2, ![1024, 6176]⟩
abbrev S4096x6176 : Shape := ⟨2, ![4096, 6176]⟩
abbrev S_ : Shape := ⟨0, ![]⟩
abbrev S4096x128 : Shape := ⟨2, ![4096, 128]⟩
abbrev S8x772x1024 : Shape := ⟨3, ![8, 772, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6176x1024, .bf16⟩
  | .hbm, ⟨2, _⟩ => ⟨S4096x2048, .bf16⟩
  | .hbm, ⟨3, _⟩ => ⟨S4096x2048, .bf16⟩
  | .hbm, ⟨4, _⟩ => ⟨S4096x1024, .bf16⟩
  | .hbm, ⟨5, _⟩ => ⟨S4096x1024, .bf16⟩
  | .hbm, ⟨6, _⟩ => ⟨S4096x32, .f32⟩
  | .hbm, ⟨7, _⟩ => ⟨S4096x1024, .f32⟩
  | .hbm, ⟨8, _⟩ => ⟨S6176x1024, .f32⟩
  | .hbm, ⟨9, _⟩ => ⟨S1024x6176, .f32⟩
  | .hbm, ⟨10, _⟩ => ⟨S4096x6176, .f32⟩
  | .hbm, ⟨11, _⟩ => ⟨S4096x2048, .f32⟩
  | .hbm, ⟨12, _⟩ => ⟨S4096x2048, .f32⟩
  | .hbm, ⟨13, _⟩ => ⟨S4096x1024, .f32⟩
  | .hbm, ⟨14, _⟩ => ⟨S4096x1024, .f32⟩
  | .hbm, ⟨15, _⟩ => ⟨S4096x6176, .f32⟩
  | .hbm, ⟨16, _⟩ => ⟨S6176x1024, .f32⟩
  | .hbm, ⟨17, _⟩ => ⟨S1024x6176, .f32⟩
  | .hbm, ⟨18, _⟩ => ⟨S4096x1024, .f32⟩
  | .hbm, ⟨19, _⟩ => ⟨S4096x32, .f32⟩
  | .hbm, ⟨20, _⟩ => ⟨S_, .i32⟩
  | .hbm, ⟨21, _⟩ => ⟨S_, .f32⟩
  | .hbm, ⟨22, _⟩ => ⟨S4096x128, .f32⟩
  | .hbm, ⟨23, _⟩ => ⟨S6176x1024, .f32⟩
  | .hbm, ⟨24, _⟩ => ⟨S8x772x1024, .f32⟩
  | .hbm, ⟨25, _⟩ => ⟨S8x772x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel4.lean ====
abbrev S4096x2048 : Shape := ⟨2, ![4096, 2048]⟩
abbrev S4096x6144 : Shape := ⟨2, ![4096, 6144]⟩
abbrev S1x2048 : Shape := ⟨2, ![1, 2048]⟩
abbrev S256x2048 : Shape := ⟨2, ![256, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x6144, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v315 : BitVec 1 := Scalar.cmpi .eq arg0 c0_i32
  let v316 : BitVec 32 := Scalar.extui v315
  let c0_i32_84 : BitVec 32 := 0#32
  let v317 : BitVec 1 := Scalar.cmpi .ne v316 c0_i32_84
  v317

def k0_cond2 (i : grid0.Coords) : BitVec 1 :=
  let arg0 : BitVec 32 := BitVec.ofNat 32 (i 0).val
  let c0_i32 : BitVec 32 := 0#32
  let v315 : BitVec 1 := Scalar.cmpi .eq arg0 c0_i32
  let v_true : BitVec 1 := 1#1
  let v318 : BitVec 1 := Scalar.xori v315 v_true
  let v319 : BitVec 32 := Scalar.extui v318
  let c0_i32_85 : BitVec 32 := 0#32
  let v320 : BitVec 1 := Scalar.cmpi .ne v319 c0_i32_85
  v320

def k0_cond3 (i : grid0.Coords) : BitVec 1 :=
  let arg0 : BitVec 32 := BitVec.ofNat 32 (i 0).val
  let c0_i32 : BitVec 32 := 0#32
  let v315 : BitVec 1 := Scalar.cmpi .eq arg0 c0_i32
  let v321 : BitVec 32 := Scalar.extui v315
  let c0_i32_86 : BitVec 32 := 0#32
  let v322 : BitVec 1 := Scalar.cmpi .ne v321 c0_i32_86
  v322

def k0_cond4 (i : grid0.Coords) : BitVec 1 :=
  let arg0 : BitVec 32 := BitVec.ofNat 32 (i 0).val
  let c0_i32 : BitVec 32 := 0#32
  let v315 : BitVec 1 := Scalar.cmpi .eq arg0 c0_i32
  let true_87 : BitVec 1 := 1#1
  let v323 : BitVec 1 := Scalar.xori v315 true_87
  let v324 : BitVec 32 := Scalar.extui v323
  let c0_i32_88 : BitVec 32 := 0#32
  let v325 : BitVec 1 := Scalar.cmpi .ne v324 c0_i32_88
  v325

def k0_cond5 (i : grid0.Coords) : BitVec 1 :=
  let arg0 : BitVec 32 := BitVec.ofNat 32 (i 0).val
  let c0_i32 : BitVec 32 := 0#32
  let v315 : BitVec 1 := Scalar.cmpi .eq arg0 c0_i32
  let v326 : BitVec 32 := Scalar.extui v315
  let c0_i32_89 : BitVec 32 := 0#32
  let v327 : BitVec 1 := Scalar.cmpi .ne v326 c0_i32_89
  v327

def k0_cond6 (i : grid0.Coords) : BitVec 1 :=
  let arg0 : BitVec 32 := BitVec.ofNat 32 (i 0).val
  let c0_i32 : BitVec 32 := 0#32
  let v315 : BitVec 1 := Scalar.cmpi .eq arg0 c0_i32
  let true_90 : BitVec 1 := 1#1
  let v328 : BitVec 1 := Scalar.xori v315 true_90
  let v329 : BitVec 32 := Scalar.extui v328
  let c0_i32_91 : BitVec 32 := 0#32
  let v330 : BitVec 1 := Scalar.cmpi .ne v329 c0_i32_91
  v330

def k0_cond7 (i : grid0.Coords) : BitVec 1 :=
  let arg0 : BitVec 32 := BitVec.ofNat 32 (i 0).val
  let c0_i32 : BitVec 32 := 0#32
  let v315 : BitVec 1 := Scalar.cmpi .eq arg0 c0_i32
  let v331 : BitVec 32 := Scalar.extui v315
  let c0_i32_92 : BitVec 32 := 0#32
  let v332 : BitVec 1 := Scalar.cmpi .ne v331 c0_i32_92
  v332

def k0_cond8 (i : grid0.Coords) : BitVec 1 :=
  let arg0 : BitVec 32 := BitVec.ofNat 32 (i 0).val
  let c0_i32 : BitVec 32 := 0#32
  let v315 : BitVec 1 := Scalar.cmpi .eq arg0 c0_i32
  let true_93 : BitVec 1 := 1#1
  let v333 : BitVec 1 := Scalar.xori v315 true_93
  let v334 : BitVec 32 := Scalar.extui v333
  let c0_i32_94 : BitVec 32 := 0#32
  let v335 : BitVec 1 := Scalar.cmpi .ne v334 c0_i32_94
  v335

def k0_cond9 (i : grid0.Coords) : BitVec 1 :=
  let arg0 : BitVec 32 := BitVec.ofNat 32 (i 0).val
  let c0_i32 : BitVec 32 := 0#32
  let v315 : BitVec 1 := Scalar.cmpi .eq arg0 c0_i32
  let v336 : BitVec 32 := Scalar.extui v315
  let c0_i32_95 : BitVec 32 := 0#32
  let v337 : BitVec 1 := Scalar.cmpi .ne v336 c0_i32_95
  v337

def k0_cond10 (i : grid0.Coords) : BitVec 1 :=
  let arg0 : BitVec 32 := BitVec.ofNat 32 (i 0).val
  let c0_i32 : BitVec 32 := 0#32
  let v315 : BitVec 1 := Scalar.cmpi .eq arg0 c0_i32
  let true_96 : BitVec 1 := 1#1
  let v338 : BitVec 1 := Scalar.xori v315 true_96
  let v339 : BitVec 32 := Scalar.extui v338
  let c0_i32_97 : BitVec 32 := 0#32
  let v340 : BitVec 1 := Scalar.cmpi .ne v339 c0_i32_97
  v340

def k0_cond11 (i : grid0.Coords) : BitVec 1 :=
  let arg0 : BitVec 32 := BitVec.ofNat 32 (i 0).val
  let c0_i32 : BitVec 32 := 0#32
  let v315 : BitVec 1 := Scalar.cmpi .eq arg0 c0_i32
  let v341 : BitVec 32 := Scalar.extui v315
  let c0_i32_98 : BitVec 32 := 0#32
  let v342 : BitVec 1 := Scalar.cmpi .ne v341 c0_i32_98
  v342

def k0_cond12 (i : grid0.Coords) : BitVec 1 :=
  let arg0 : BitVec 32 := BitVec.ofNat 32 (i 0).val
  let c0_i32 : BitVec 32 := 0#32
  let v315 : BitVec 1 := Scalar.cmpi .eq arg0 c0_i32
  let true_99 : BitVec 1 := 1#1
  let v343 : BitVec 1 := Scalar.xori v315 true_99
  let v344 : BitVec 32 := Scalar.extui v343
  let c0_i32_100 : BitVec 32 := 0#32
  let v345 : BitVec 1 := Scalar.cmpi .ne v344 c0_i32_100
  v345

def k0_cond13 (i : grid0.Coords) : BitVec 1 :=
  let arg0 : BitVec 32 := BitVec.ofNat 32 (i 0).val
  let c0_i32 : BitVec 32 := 0#32
  let v315 : BitVec 1 := Scalar.cmpi .eq arg0 c0_i32
  let v346 : BitVec 32 := Scalar.extui v315
  let c0_i32_101 : BitVec 32 := 0#32
  let v347 : BitVec 1 := Scalar.cmpi .ne v346 c0_i32_101
  v347

def k0_cond14 (i : grid0.Coords) : BitVec 1 :=
  let arg0 : BitVec 32 := BitVec.ofNat 32 (i 0).val
  let c0_i32 : BitVec 32 := 0#32
  let v315 : BitVec 1 := Scalar.cmpi .eq arg0 c0_i32
  let true_102 : BitVec 1 := 1#1
  let v348 : BitVec 1 := Scalar.xori v315 true_102
  let v349 : BitVec 32 := Scalar.extui v348
  let c0_i32_103 : BitVec 32 := 0#32
  let v350 : BitVec 1 := Scalar.cmpi .ne v349 c0_i32_103
  v350

def k0_cond15 (i : grid0.Coords) : BitVec 1 :=
  let arg0 : BitVec 32 := BitVec.ofNat 32 (i 0).val
  let c0_i32 : BitVec 32 := 0#32
  let v315 : BitVec 1 := Scalar.cmpi .eq arg0 c0_i32
  let v351 : BitVec 32 := Scalar.extui v315
  let c0_i32_104 : BitVec 32 := 0#32
  let v352 : BitVec 1 := Scalar.cmpi .ne v351 c0_i32_104
  v352

def k0_cond16 (i : grid0.Coords) : BitVec 1 :=
  let arg0 : BitVec 32 := BitVec.ofNat 32 (i 0).val
  let c0_i32 : BitVec 32 := 0#32
  let v315 : BitVec 1 := Scalar.cmpi .eq arg0 c0_i32
  let true_105 : BitVec 1 := 1#1
  let v353 : BitVec 1 := Scalar.xori v315 true_105
  let v354 : BitVec 32 := Scalar.extui v353
  let c0_i32_106 : BitVec 32 := 0#32
  let v355 : BitVec 1 := Scalar.cmpi .ne v354 c0_i32_106
  v355

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x2048 : Shape := ⟨2, ![4096, 2048]⟩
abbrev S4096x6144 : Shape := ⟨2, ![4096, 6144]⟩
abbrev S1x2048 : Shape := ⟨2, ![1, 2048]⟩
abbrev S2048 : Shape := ⟨1, ![2048]⟩
abbrev S_ : Shape := ⟨0, ![]⟩
abbrev S4096x8x256 : Shape := ⟨3, ![4096, 8, 256]⟩
abbrev S4096x8 : Shape := ⟨2, ![4096, 8]⟩
abbrev S4096x8x1 : Shape := ⟨3, ![4096, 8, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x6144, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x8x256, .f32⟩
  | .hbm, ⟨21, _⟩ => ⟨S4096x8x256, .f32⟩
  | .hbm, ⟨22, _⟩ => ⟨S_, .f32⟩
  | .hbm, ⟨23, _⟩ => ⟨S4096x8, .f32⟩
  | .hbm, ⟨24, _⟩ => ⟨S4096x8x1, .f32⟩
  | .hbm, ⟨25, _⟩ => ⟨S_, .f32⟩
  | .hbm, ⟨26, _⟩ => ⟨S4096x8x1, .f32⟩
  | .hbm, ⟨27, _⟩ => ⟨S4096x8x1, .f32⟩
  | .hbm, ⟨28, _⟩ => ⟨S_, .f32⟩
  | .hbm, ⟨29, _⟩ => ⟨S4096x8x1, .f32⟩
  | .hbm, ⟨30, _⟩ => ⟨S4096x8x1, .f32⟩
  | .hbm, ⟨31, _⟩ => ⟨S4096x8x1, .f32⟩
  | .hbm, ⟨32, _⟩ => ⟨S4096x8x1, .f32⟩
  | .hbm, ⟨33, _⟩ => ⟨S_, .f32⟩
  | .hbm, ⟨34, _⟩ => ⟨S4096x8x1, .f32⟩
  | .hbm, ⟨35, _⟩ => ⟨S4096x8x1, .f32⟩
  | .hbm, ⟨36, _⟩ => ⟨S4096x8x256, .f32⟩
  | .hbm, ⟨37, _⟩ => ⟨S4096x8x256, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S4096x8x256, .f32⟩
  | .hbm, ⟨51, _⟩ => ⟨S4096x8x256, .f32⟩
  | .hbm, ⟨52, _⟩ => ⟨S_, .f32⟩
  | .hbm, ⟨53, _⟩ => ⟨S4096x8, .f32⟩
  | .hbm, ⟨54, _⟩ => ⟨S4096x8x1, .f32⟩
  | .hbm, ⟨55, _⟩ => ⟨S4096x8x256, .f32⟩
  | .hbm, ⟨56, _⟩ => ⟨S4096x8x256, .f32⟩
  | .hbm, ⟨57, _⟩ => ⟨S4096x8x1, .f32⟩
  | .hbm, ⟨58, _⟩ => ⟨S_, .f32⟩
  | .hbm, ⟨59, _⟩ => ⟨S4096x8x1, .f32⟩
  | .hbm, ⟨60, _⟩ => ⟨S4096x8x1, .f32⟩
  | .hbm, ⟨61, _⟩ => ⟨S_, .f32⟩
  | .hbm, ⟨62, _⟩ => ⟨S4096x8, .f32⟩
  | .hbm, ⟨63, _⟩ => ⟨S4096x8x256, .f32⟩
  | .hbm, ⟨64, _⟩ => ⟨S4096x8x256, .f32⟩
  | .hbm, ⟨65, _⟩ => ⟨S4096x8x256, .f32⟩
  | .hbm, ⟨66, _⟩ => ⟨S4096x8x256, .f32⟩
  | .hbm, ⟨67, _⟩ => ⟨S4096x8x256, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .bf16⟩
  | .hbm, ⟨76, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Kernel5.lean ====
abbrev S4096x2048 : Shape := ⟨2, ![4096, 2048]⟩
abbrev S4096x6144 : Shape := ⟨2, ![4096, 6144]⟩
abbrev S1x2048 : Shape := ⟨2, ![1, 2048]⟩
abbrev S2048x1024 : Shape := ⟨2, ![2048, 1024]⟩
abbrev S4096x1024 : Shape := ⟨2, ![4096, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S1024x2048 : Shape := ⟨2, ![1024, 2048]⟩
abbrev S1024x1024 : Shape := ⟨2, ![1024, 1024]⟩
abbrev S4096x512 : Shape := ⟨2, ![4096, 512]⟩
abbrev S512x1024 : Shape := ⟨2, ![512, 1024]⟩
abbrev S8x256x1024 : Shape := ⟨3, ![8, 256, 1024]⟩

abbrev nBuf : Space → Nat
  | .hbm => 10
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S1x2048, .f32⟩
  | .hbm, ⟨3, _⟩ => ⟨S2048x1024, .bf16⟩
  | .hbm, ⟨4, _⟩ => ⟨S4096x1024, .bf16⟩
  | .hbm, ⟨5, _⟩ => ⟨S4096x2048, .bf16⟩
  | .hbm, ⟨6, _⟩ => ⟨S4096x1024, .f32⟩
  | .hbm, ⟨7, _⟩ => ⟨S2048x1024, .bf16⟩
  | .hbm, ⟨8, _⟩ => ⟨S8x256x1024, .bf16⟩
  | .hbm, ⟨9, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1024x2048, .bf16⟩
  | .local _ .vmem, ⟨8, _⟩ => ⟨S1024x2048, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S4096x512, .bf16⟩
  | .local _ .vmem, ⟨13, _⟩ => ⟨S4096x512, .bf16⟩
  | .local _ .vmem, ⟨14, _⟩ => ⟨S4096x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference5Ideal.lean ====
abbrev S4096x2048 : Shape := ⟨2, ![4096, 2048]⟩
abbrev S4096x6144 : Shape := ⟨2, ![4096, 6144]⟩
abbrev S1x2048 : Shape := ⟨2, ![1, 2048]⟩
abbrev S2048x1024 : Shape := ⟨2, ![2048, 1024]⟩
abbrev S4096x1024 : Shape := ⟨2, ![4096, 1024]⟩
abbrev S2048 : Shape := ⟨1, ![2048]⟩
abbrev S_ : Shape := ⟨0, ![]⟩
abbrev S4096x8x256 : Shape := ⟨3, ![4096, 8, 256]⟩
abbrev S4096x8 : Shape := ⟨2, ![4096, 8]⟩
abbrev S4096x8x1 : Shape := ⟨3, ![4096, 8, 1]⟩
abbrev S1024x2048 : Shape := ⟨2, ![1024, 2048]⟩
abbrev S8x256x1024 : Shape := ⟨3, ![8, 256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S1x2048, .f32⟩
  | .hbm, ⟨3, _⟩ => ⟨S2048x1024, .bf16⟩
  | .hbm, ⟨4, _⟩ => ⟨S4096x1024, .bf16⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x8x256, .f32⟩
  | .hbm, ⟨18, _⟩ => ⟨S4096x8x256, .f32⟩
  | .hbm, ⟨19, _⟩ => ⟨S_, .f32⟩
  | .hbm, ⟨20, _⟩ => ⟨S4096x8, .f32⟩
  | .hbm, ⟨21, _⟩ => ⟨S4096x8x1, .f32⟩
  | .hbm, ⟨22, _⟩ => ⟨S_, .f32⟩
  | .hbm, ⟨23, _⟩ => ⟨S4096x8x1, .f32⟩
  | .hbm, ⟨24, _⟩ => ⟨S4096x8x1, .f32⟩
  | .hbm, ⟨25, _⟩ => ⟨S_, .f32⟩
  | .hbm, ⟨26, _⟩ => ⟨S4096x8x1, .f32⟩
  | .hbm, ⟨27, _⟩ => ⟨S4096x8x1, .f32⟩
  | .hbm, ⟨28, _⟩ => ⟨S4096x8x1, .f32⟩
  | .hbm, ⟨29, _⟩ => ⟨S4096x8x256, .f32⟩
  | .hbm, ⟨30, _⟩ => ⟨S4096x8x256, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .bf16⟩
  | .hbm, ⟨36, _⟩ => ⟨S4096x2048, .f32⟩
  | .hbm, ⟨37, _⟩ => ⟨S2048x1024, .f32⟩
  | .hbm, ⟨38, _⟩ => ⟨S4096x1024, .f32⟩
  | .hbm, ⟨39, _⟩ => ⟨S4096x1024, .f32⟩
  | .hbm, ⟨40, _⟩ => ⟨S1024x2048, .f32⟩
  | .hbm, ⟨41, _⟩ => ⟨S2048x1024, .f32⟩
  | .hbm, ⟨42, _⟩ => ⟨S4096x2048, .f32⟩
  | .hbm, ⟨43, _⟩ => ⟨S8x256x1024, .f32⟩
  | .hbm, ⟨44, _⟩ => ⟨S8x256x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel6.lean ====
abbrev S4096x1024 : Shape := ⟨2, ![4096, 1024]⟩
abbrev S6176x1024 : Shape := ⟨2, ![6176, 1024]⟩
abbrev S4096x6144 : Shape := ⟨2, ![4096, 6144]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S6176x1024, .bf16⟩
  | .hbm, ⟨2, _⟩ => ⟨S4096x6144, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S6176x1024 : Shape := ⟨2, ![6176, 1024]⟩
abbrev S1024x6176 : Shape := ⟨2, ![1024, 6176]⟩
abbrev S4096x6176 : Shape := ⟨2, ![4096, 6176]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6176x1024, .bf16⟩
  | .hbm, ⟨2, _⟩ => ⟨S4096x1024, .f32⟩
  | .hbm, ⟨3, _⟩ => ⟨S6176x1024, .f32⟩
  | .hbm, ⟨4, _⟩ => ⟨S1024x6176, .f32⟩
  | .hbm, ⟨5, _⟩ => ⟨S4096x6176, .f32⟩
  | .hbm, ⟨6, _⟩ => ⟨S4096x6144, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S1024x4096 : Shape := ⟨2, ![1024, 4096]⟩
abbrev S1024x1024 : Shape := ⟨2, ![1024, 1024]⟩
abbrev S1x1024 : Shape := ⟨2, ![1, 1024]⟩
abbrev S4096x1024 : Shape := ⟨2, ![4096, 1024]⟩
abbrev S512x4096 : Shape := ⟨2, ![512, 4096]⟩
abbrev S512x1024 : Shape := ⟨2, ![512, 1024]⟩
abbrev S8x128x1024 : Shape := ⟨3, ![8, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .bf16⟩
  | .hbm, ⟨1, _⟩ => ⟨S1024x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S1024x1024, .bf16⟩
  | .hbm, ⟨6, _⟩ => ⟨S8x128x1024, .bf16⟩
  | .hbm, ⟨7, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S512x4096, .bf16⟩
  | .local _ .vmem, ⟨7, _⟩ => ⟨S512x4096, .bf16⟩
  | .local _ .vmem, ⟨8, _⟩ => ⟨S4096x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1024x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference7Ideal.lean ====
abbrev S1024x4096 : Shape := ⟨2, ![1024, 4096]⟩
abbrev S1024x1024 : Shape := ⟨2, ![1024, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S8x128x1024 : Shape := ⟨3, ![8, 128, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1024x1024, .bf16⟩
  | .hbm, ⟨2, _⟩ => ⟨S1x1024, .f32⟩
  | .hbm, ⟨3, _⟩ => ⟨S4096x1024, .bf16⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S1024, .f32⟩
  | .hbm, ⟨18, _⟩ => ⟨S1024x1024, .f32⟩
  | .hbm, ⟨19, _⟩ => ⟨S1024x1024, .f32⟩
  | .hbm, ⟨20, _⟩ => ⟨S4096x1024, .f32⟩
  | .hbm, ⟨21, _⟩ => ⟨S8x128x1024, .f32⟩
  | .hbm, ⟨22, _⟩ => ⟨S8x128x1024, .bf16⟩
  | .hbm, ⟨23, _⟩ => ⟨S1024x4096, .f32⟩
  | .hbm, ⟨24, _⟩ => ⟨S1024x4096, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel8.lean ====
abbrev S1536x1024 : Shape := ⟨2, ![1536, 1024]⟩
abbrev S4096x1024 : Shape := ⟨2, ![4096, 1024]⟩
abbrev S1536x1 : Shape := ⟨2, ![1536, 1]⟩
abbrev S1536x4096 : Shape := ⟨2, ![1536, 4096]⟩
abbrev S768x1024 : Shape := ⟨2, ![768, 1024]⟩
abbrev S1024x1024 : Shape := ⟨2, ![1024, 1024]⟩
abbrev S768x1 : Shape := ⟨2, ![768, 1]⟩
abbrev S512x4096 : Shape := ⟨2, ![512, 4096]⟩
abbrev S512x1024 : Shape := ⟨2, ![512, 1024]⟩
abbrev S8x192x1024 : Shape := ⟨3, ![8, 192, 1024]⟩

abbrev nBuf : Space → Nat
  | .hbm => 8
  | .vmem => 18
  | .smem => 0
  | _ => 0

abbrev bufTy : (tb : Table) → Fin (tcTables nBuf tb) → BufTy
  | .hbm, ⟨0, _⟩ => ⟨S1536x1024, .bf16⟩
  | .hbm, ⟨1, _⟩ => ⟨S4096x1024, .bf16⟩
  | .hbm, ⟨2, _⟩ => ⟨S1536x1, .f32⟩
  | .hbm, ⟨3, _⟩ => ⟨S1536x4096, .bf16⟩
  | .hbm, ⟨4, _⟩ => ⟨S1536x4096, .bf16⟩
  | .hbm, ⟨5, _⟩ => ⟨S1536x1024, .bf16⟩
  | .hbm, ⟨6, _⟩ => ⟨S8x192x1024, .bf16⟩
  | .hbm, ⟨7, _⟩ => ⟨S4096x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1, .f32⟩
  | .local _ .vmem, ⟨5, _⟩ => ⟨S768x1, .f32⟩
  | .local _ .vmem, ⟨6, _⟩ => ⟨S768x1024, .bf16⟩
  | .local _ .vmem, ⟨7, _⟩ => ⟨S768x1024, .bf16⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S512x1024, .bf16⟩
  | .local _ .vmem, ⟨12, _⟩ => ⟨S512x1024, .bf16⟩
  | .local _ .vmem, ⟨13, _⟩ => ⟨S1536x1024, .bf16⟩
  | .local _ .vmem, ⟨14, _⟩ => ⟨S1536x1024, .bf16⟩
  | .local _ .vmem, ⟨15, _⟩ => ⟨S1536x1024, .bf16⟩
  | .local _ .vmem, ⟨16, _⟩ => ⟨S1024x1024, .f32⟩
  | .local _ .vmem, ⟨17, _⟩ => ⟨S1024x1024, .f32⟩
  | _, _ => ⟨S1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![3, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1536x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1536x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference8Ideal.lean ====
abbrev S1536x1024 : Shape := ⟨2, ![1536, 1024]⟩
abbrev S4096x1024 : Shape := ⟨2, ![4096, 1024]⟩
abbrev S1536x1 : Shape := ⟨2, ![1536, 1]⟩
abbrev S1536x4096 : Shape := ⟨2, ![1536, 4096]⟩
abbrev S1024x1536 : Shape := ⟨2, ![1024, 1536]⟩
abbrev S1536 : Shape := ⟨1, ![1536]⟩
abbrev S4096x1536 : Shape := ⟨2, ![4096, 1536]⟩
abbrev S1x1536 : Shape := ⟨2, ![1, 1536]⟩
abbrev S_ : Shape := ⟨0, ![]⟩
abbrev S8x192x1024 : Shape := ⟨3, ![8, 192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1536x1024, .bf16⟩
  | .hbm, ⟨1, _⟩ => ⟨S4096x1024, .bf16⟩
  | .hbm, ⟨2, _⟩ => ⟨S1536x1, .f32⟩
  | .hbm, ⟨3, _⟩ => ⟨S1536x4096, .bf16⟩
  | .hbm, ⟨4, _⟩ => ⟨S4096x1024, .f32⟩
  | .hbm, ⟨5, _⟩ => ⟨S1536x1024, .f32⟩
  | .hbm, ⟨6, _⟩ => ⟨S1024x1536, .f32⟩
  | .hbm, ⟨7, _⟩ => ⟨S1536, .f32⟩
  | .hbm, ⟨8, _⟩ => ⟨S4096x1536, .f32⟩
  | .hbm, ⟨9, _⟩ => ⟨S1x1536, .f32⟩
  | .hbm, ⟨10, _⟩ => ⟨S4096x1536, .f32⟩
  | .hbm, ⟨11, _⟩ => ⟨S4096x1536, .f32⟩
  | .hbm, ⟨12, _⟩ => ⟨S1536x4096, .f32⟩
  | .hbm, ⟨13, _⟩ => ⟨S4096x1536, .f32⟩
  | .hbm, ⟨14, _⟩ => ⟨S_, .f32⟩
  | .hbm, ⟨15, _⟩ => ⟨S1536, .f32⟩
  | .hbm, ⟨16, _⟩ => ⟨S1x1536, .f32⟩
  | .hbm, ⟨17, _⟩ => ⟨S_, .f32⟩
  | .hbm, ⟨18, _⟩ => ⟨S1536, .f32⟩
  | .hbm, ⟨19, _⟩ => ⟨S1536x1024, .f32⟩
  | .hbm, ⟨20, _⟩ => ⟨S1024x1536, .f32⟩
  | .hbm, ⟨21, _⟩ => ⟨S4096x1024, .f32⟩
  | .hbm, ⟨22, _⟩ => ⟨S1536x4096, .f32⟩
  | .hbm, ⟨23, _⟩ => ⟨S1536x4096, .bf16⟩
  | .hbm, ⟨24, _⟩ => ⟨S1536x1024, .f32⟩
  | .hbm, ⟨25, _⟩ => ⟨S8x192x1024, .f32⟩
  | .hbm, ⟨26, _⟩ => ⟨S8x192x1024, .bf16⟩
  | _, _ => ⟨S1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_15 : BitVec 32 := 0#32
  let v36 : BitVec 1 := Scalar.cmpi .ne v35 c0_i32_15
  v36

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v66 : BitVec 32 := Scalar.extui v0
  let c0_i32_28 : BitVec 32 := 0#32
  let v67 : BitVec 1 := Scalar.cmpi .ne v66 c0_i32_28
  v67

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v68 : BitVec 1 := Scalar.xori v0 true_29
  let v69 : BitVec 32 := Scalar.extui v68
  let c0_i32_30 : BitVec 32 := 0#32
  let v70 : BitVec 1 := Scalar.cmpi .ne v69 c0_i32_30
  v70

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v73 : BitVec 32 := Scalar.extui v0
  let c0_i32_32 : BitVec 32 := 0#32
  let v74 : BitVec 1 := Scalar.cmpi .ne v73 c0_i32_32
  v74

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v75 : BitVec 1 := Scalar.xori v0 true_33
  let v76 : BitVec 32 := Scalar.extui v75
  let c0_i32_34 : BitVec 32 := 0#32
  let v77 : BitVec 1 := Scalar.cmpi .ne v76 c0_i32_34
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S_, .f32⟩
  | .hbm, ⟨108, _⟩ => ⟨S1024, .f32⟩
  | .hbm, ⟨109, _⟩ => ⟨S1x1024, .f32⟩
  | .hbm, ⟨110, _⟩ => ⟨S4096x1024, .bf16⟩
  | .hbm, ⟨111, _⟩ => ⟨S1x1024, .f32⟩
  | .hbm, ⟨112, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_18 : Ref sig .tc := ⟨.hbm, 104, rfl⟩
abbrev main_v79 : Ref sig .tc := ⟨.hbm, 105, rfl⟩
abbrev main_v80 : Ref sig .tc := ⟨.hbm, 106, rfl⟩
abbrev main_cst_19 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Kernel10.lean ====
abbrev S4096x2048 : Shape := ⟨2, ![4096, 2048]⟩
abbrev S4096x6144 : Shape := ⟨2, ![4096, 6144]⟩
abbrev S4x4096 : Shape := ⟨2, ![4, 4096]⟩
abbrev S4x2048 : Shape := ⟨2, ![4, 2048]⟩
abbrev S1x2048 : Shape := ⟨2, ![1, 2048]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S1016x512 : Shape := ⟨2, ![1016, 512]⟩
abbrev S512 : Shape := ⟨1, ![512]⟩

abbrev nBuf : Space → Nat
  | .hbm => 7
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4x4096, .f32⟩
  | .hbm, ⟨3, _⟩ => ⟨S4x2048, .f32⟩
  | .hbm, ⟨4, _⟩ => ⟨S4096x2048, .bf16⟩
  | .hbm, ⟨5, _⟩ => ⟨S4x2048, .f32⟩
  | .hbm, ⟨6, _⟩ => ⟨S1x2048, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S4x512, .f32⟩
  | .local _ .vmem, ⟨10, _⟩ => ⟨S1024x512, .bf16⟩
  | .local _ .vmem, ⟨11, _⟩ => ⟨S1024x512, .bf16⟩
  | .local _ .vmem, ⟨12, _⟩ => ⟨S4x512, .f32⟩
  | .local _ .vmem, ⟨13, _⟩ => ⟨S4x512, .f32⟩
  | .local _ .vmem, ⟨14, _⟩ => ⟨S1x512, .f32⟩
  | .local _ .vmem, ⟨15, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_15 : BitVec 32 := 0#32
  let v56 : BitVec 1 := Scalar.cmpi .eq arg1 c0_i32_15
  let v69 : BitVec 32 := Scalar.extui v56
  let c0_i32_20 : BitVec 32 := 0#32
  let v70 : BitVec 1 := Scalar.cmpi .ne v69 c0_i32_20
  v70

def k0_cond2 (i : grid0.Coords) : BitVec 1 :=
  let arg1 : BitVec 32 := BitVec.ofNat 32 (i 1).val
  let c0_i32_15 : BitVec 32 := 0#32
  let v56 : BitVec 1 := Scalar.cmpi .eq arg1 c0_i32_15
  let v_true : BitVec 1 := 1#1
  let v71 : BitVec 1 := Scalar.xori v56 v_true
  let v72 : BitVec 32 := Scalar.extui v71
  let c0_i32_21 : BitVec 32 := 0#32
  let v73 : BitVec 1 := Scalar.cmpi .ne v72 c0_i32_21
  v73

def k0_cond3 (i : grid0.Coords) : BitVec 1 :=
  let arg1 : BitVec 32 := BitVec.ofNat 32 (i 1).val
  let c0_i32_15 : BitVec 32 := 0#32
  let v56 : BitVec 1 := Scalar.cmpi .eq arg1 c0_i32_15
  let v86 : BitVec 32 := Scalar.extui v56
  let c0_i32_25 : BitVec 32 := 0#32
  let v87 : BitVec 1 := Scalar.cmpi .ne v86 c0_i32_25
  v87

def k0_cond4 (i : grid0.Coords) : BitVec 1 :=
  let arg1 : BitVec 32 := BitVec.ofNat 32 (i 1).val
  let c0_i32_15 : BitVec 32 := 0#32
  let v56 : BitVec 1 := Scalar.cmpi .eq arg1 c0_i32_15
  let true_26 : BitVec 1 := 1#1
  let v88 : BitVec 1 := Scalar.xori v56 true_26
  let v89 : BitVec 32 := Scalar.extui v88
  let c0_i32_27 : BitVec 32 := 0#32
  let v90 : BitVec 1 := Scalar.cmpi .ne v89 c0_i32_27
  v90

def k0_cond5 (i : grid0.Coords) : BitVec 1 :=
  let arg1 : BitVec 32 := BitVec.ofNat 32 (i 1).val
  let c0_i32_15 : BitVec 32 := 0#32
  let v56 : BitVec 1 := Scalar.cmpi .eq arg1 c0_i32_15
  let v103 : BitVec 32 := Scalar.extui v56
  let c0_i32_31 : BitVec 32 := 0#32
  let v104 : BitVec 1 := Scalar.cmpi .ne v103 c0_i32_31
  v104

def k0_cond6 (i : grid0.Coords) : BitVec 1 :=
  let arg1 : BitVec 32 := BitVec.ofNat 32 (i 1).val
  let c0_i32_15 : BitVec 32 := 0#32
  let v56 : BitVec 1 := Scalar.cmpi .eq arg1 c0_i32_15
  let true_32 : BitVec 1 := 1#1
  let v105 : BitVec 1 := Scalar.xori v56 true_32
  let v106 : BitVec 32 := Scalar.extui v105
  let c0_i32_33 : BitVec 32 := 0#32
  let v107 : BitVec 1 := Scalar.cmpi .ne v106 c0_i32_33
  v107

def k0_cond7 (i : grid0.Coords) : BitVec 1 :=
  let arg1 : BitVec 32 := BitVec.ofNat 32 (i 1).val
  let c0_i32_15 : BitVec 32 := 0#32
  let v56 : BitVec 1 := Scalar.cmpi .eq arg1 c0_i32_15
  let v111 : BitVec 32 := Scalar.extui v56
  let c0_i32_35 : BitVec 32 := 0#32
  let v112 : BitVec 1 := Scalar.cmpi .ne v111 c0_i32_35
  v112

def k0_cond8 (i : grid0.Coords) : BitVec 1 :=
  let arg1 : BitVec 32 := BitVec.ofNat 32 (i 1).val
  let c0_i32_15 : BitVec 32 := 0#32
  let v56 : BitVec 1 := Scalar.cmpi .eq arg1 c0_i32_15
  let true_36 : BitVec 1 := 1#1
  let v113 : BitVec 1 := Scalar.xori v56 true_36
  let v114 : BitVec 32 := Scalar.extui v113
  let c0_i32_37 : BitVec 32 := 0#32
  let v115 : BitVec 1 := Scalar.cmpi .ne v114 c0_i32_37
  v115

def k0_cond9 (i : grid0.Coords) : BitVec 1 :=
  let arg1 : BitVec 32 := BitVec.ofNat 32 (i 1).val
  let c0_i32_15 : BitVec 32 := 0#32
  let v56 : BitVec 1 := Scalar.cmpi .eq arg1 c0_i32_15
  let v118 : BitVec 32 := Scalar.extui v56
  let c0_i32_39 : BitVec 32 := 0#32
  let v119 : BitVec 1 := Scalar.cmpi .ne v118 c0_i32_39
  v119

def k0_cond10 (i : grid0.Coords) : BitVec 1 :=
  let arg1 : BitVec 32 := BitVec.ofNat 32 (i 1).val
  let c0_i32_15 : BitVec 32 := 0#32
  let v56 : BitVec 1 := Scalar.cmpi .eq arg1 c0_i32_15
  let true_40 : BitVec 1 := 1#1
  let v120 : BitVec 1 := Scalar.xori v56 true_40
  let v121 : BitVec 32 := Scalar.extui v120
  let c0_i32_41 : BitVec 32 := 0#32
  let v122 : BitVec 1 := Scalar.cmpi .ne v121 c0_i32_41
  v122

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference10Ideal.lean ====
abbrev S4096x2048 : Shape := ⟨2, ![4096, 2048]⟩
abbrev S4096x6144 : Shape := ⟨2, ![4096, 6144]⟩
abbrev S4x4096 : Shape := ⟨2, ![4, 4096]⟩
abbrev S4x2048 : Shape := ⟨2, ![4, 2048]⟩
abbrev S_ : Shape := ⟨0, ![]⟩
abbrev S2048 : Shape := ⟨1, ![2048]⟩
abbrev S3x2048 : Shape := ⟨2, ![3, 2048]⟩
abbrev S4099x2048 : Shape := ⟨2, ![4099, 2048]⟩
abbrev S1x2048 : Shape := ⟨2, ![1, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4x4096, .f32⟩
  | .hbm, ⟨3, _⟩ => ⟨S4096x2048, .f32⟩
  | .hbm, ⟨4, _⟩ => ⟨S4x2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S3x2048, .f32⟩
  | .hbm, ⟨9, _⟩ => ⟨S4099x2048, .f32⟩
  | .hbm, ⟨10, _⟩ => ⟨S_, .f32⟩
  | .hbm, ⟨11, _⟩ => ⟨S3x2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4x2048, .f32⟩
  | .hbm, ⟨51, _⟩ => ⟨S_, .f32⟩
  | .hbm, ⟨52, _⟩ => ⟨S4099x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4x2048, .f32⟩
  | .hbm, ⟨61, _⟩ => ⟨S4x2048, .f32⟩
  | .hbm, ⟨62, _⟩ => ⟨S_, .f32⟩
  | .hbm, ⟨63, _⟩ => ⟨S4099x2048, .f32⟩
  | .hbm, ⟨64, _⟩ => ⟨S4099x2048, .f32⟩
  | .hbm, ⟨65, _⟩ => ⟨S4096x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4x2048, .f32⟩
  | .hbm, ⟨73, _⟩ => ⟨S4x2048, .f32⟩
  | .hbm, ⟨74, _⟩ => ⟨S_, .f32⟩
  | .hbm, ⟨75, _⟩ => ⟨S4099x2048, .f32⟩
  | .hbm, ⟨76, _⟩ => ⟨S4099x2048, .f32⟩
  | .hbm, ⟨77, _⟩ => ⟨S4096x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S4096x2048, .f32⟩
  | .hbm, ⟨82, _⟩ => ⟨S4096x2048, .f32⟩
  | .hbm, ⟨83, _⟩ => ⟨S_, .f32⟩
  | .hbm, ⟨84, _⟩ => ⟨S4x2048, .f32⟩
  | .hbm, ⟨85, _⟩ => ⟨S4x2048, .f32⟩
  | .hbm, ⟨86, _⟩ => ⟨S_, .f32⟩
  | .hbm, ⟨87, _⟩ => ⟨S4099x2048, .f32⟩
  | .hbm, ⟨88, _⟩ => ⟨S4099x2048, .f32⟩
  | .hbm, ⟨89, _⟩ => ⟨S3x2048, .f32⟩
  | .hbm, ⟨90, _⟩ => ⟨S4096x2048, .f32⟩
  | .hbm, ⟨91, _⟩ => ⟨S4096x2048, .bf16⟩
  | .hbm, ⟨92, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_11 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_cst_13 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_14 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_cst_16 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Proof.Frames.lean ====
/- The facts the precondition states, and the reference's run with its counters. -/
module

public import proofs.«01_k».proof.Proof.Gen.ReferenceIdeal.Run
public import proofs.«01_k».proof.Defs
public import Idealize.ShloMosaic.Lib.Quiescent

@[expose] public section

set_option maxRecDepth 16384

noncomputable section

namespace Cert.Attn

open Idealize.ShloMosaic Idealize.SL.Sem

theorem finite_facts : Cert.Pre_finite.Facts where
  bitsLt_bf16_f32 := by decide
  bcast_S_S1536x4096 := by decide
  reducesTo_S1536x4096_S_d0_1 := by decide
  h_S_ := by decide
  bcast_S_S1024x4096 := by decide
  reducesTo_S1024x4096_S_d0_1 := by decide
  bcast_S_S1x16 := by decide
  reducesTo_S1x16_S_d0_1 := by decide

theorem frame_reference : @Cert.quiescent_ReferenceIdeal Cert.ReferenceIdeal.Gen.facts := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem frame_reference_finite : @Cert.quiescent_ReferenceIdeal_pre_finite Cert.ReferenceIdeal.Gen.facts finite_facts := fun m ρ _ =>
  frame_reference m ρ trivial

end Cert.Attn

end
-- ==== Proof.Row.lean ====
/- One row of the attention's gradient over the extended reals: 256 scores of which the masked ones are −∞, a sink, and the
   256 inner products of the output's gradient with the values. Both programs' arithmetic on such a row, when the numbers
   that enter it are real, is the real arithmetic of the softmax and of its gradient, whatever maximum is subtracted. -/
module

public import Idealize.ShloMosaic.PureOps.Ideal
public import Idealize.ShloMosaic.Lib.Pointwise

@[expose] public section

noncomputable section

namespace Cert.Attn

open Idealize.ShloMosaic

/-- A sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The real row -/

variable {ι : Type} [Fintype ι] (M : ι → Prop) [DecidablePred M] (sc g : ι → ℝ) (σ : ℝ)

/-- The exponential of an unmasked score; zero at a masked one. -/
def E (s : ι) : ℝ := if M s then Real.exp (sc s) else 0

/-- The normaliser: the exponentials of the unmasked scores and of the sink. -/
def Z : ℝ := (∑ s, E M sc s) + Real.exp σ

/-- The probability of a score. -/
def Pr (s : ι) : ℝ := E M sc s / Z M sc σ

/-- The probability of the sink. -/
def Ps : ℝ := Real.exp σ / Z M sc σ

/-- The mean of the gradients under the probabilities. -/
def Dl : ℝ := ∑ s, Pr M sc σ s * g s

/-- The gradient of a score. -/
def Ds (s : ι) : ℝ := Pr M sc σ s * (g s - Dl M sc g σ)

theorem E_nonneg (s : ι) : 0 ≤ E M sc s := by unfold E; split <;> positivity

theorem Z_pos : 0 < Z M sc σ :=
  add_pos_of_nonneg_of_pos (Finset.sum_nonneg fun s _ => E_nonneg M sc s) (Real.exp_pos _)

theorem Pr_masked {s : ι} (h : ¬M s) : Pr M sc σ s = 0 := by simp [Pr, E, h]

theorem Ds_masked {s : ι} (h : ¬M s) : Ds M sc g σ s = 0 := by simp [Ds, Pr_masked M sc σ h]

/-! ## The extended row -/

/-- A score of the row, −∞ where it is masked. -/
def S (s : ι) : EReal := if M s then (sc s : EReal) else ⊥

/-- The maximum of a row with an unmasked score, over −∞, is a real number, which one of the unmasked scores is. -/
theorem fold_max (h : ∃ s, M s) : ∃ μ : ℝ, (Finset.univ.fold max ⊥ (S M sc)) = (μ : EReal) := by
  have key : ∀ t : Finset ι, (t.fold max ⊥ (S M sc) = ⊥ ∧ ∀ s ∈ t, ¬M s) ∨ ∃ μ : ℝ, t.fold max ⊥ (S M sc) = (μ : EReal) := by
    classical
    intro t
    induction t using Finset.induction_on with
    | empty => left; simp
    | insert a t ha ih =>
      rw [Finset.fold_insert ha]
      by_cases hm : M a
      · right
        rcases ih with ⟨ih, _⟩ | ⟨μ, ih⟩
        · exact ⟨sc a, by rw [ih]; simp [S, hm]⟩
        · refine ⟨max (sc a) μ, ?_⟩
          rw [ih]; simp only [S, hm, if_true]
          exact (EReal.coe_strictMono.monotone.map_max).symm
      · rcases ih with ⟨ih, hn⟩ | ⟨μ, ih⟩
        · left; refine ⟨by rw [ih]; simp [S, hm], ?_⟩
          intro s hs
          rcases Finset.mem_insert.1 hs with rfl | hs
          · exact hm
          · exact hn s hs
        · right; exact ⟨μ, by rw [ih]; simp [S, hm]⟩
  rcases key Finset.univ with ⟨_, hn⟩ | hμ
  · obtain ⟨s, hs⟩ := h
    exact absurd hs (hn s (Finset.mem_univ _))
  · exact hμ

/-- The maximum of the row and the sink is a real number. -/
theorem max_real (h : ∃ s, M s) : ∃ μ : ℝ, max (Finset.univ.fold max ⊥ (S M sc)) (σ : EReal) = (μ : EReal) := by
  obtain ⟨μ, hμ⟩ := fold_max M sc h
  exact ⟨max μ σ, by rw [hμ]; exact (EReal.coe_strictMono.monotone.map_max).symm⟩

theorem exp_S (μ : ℝ) (s : ι) : Ideal.exp (S M sc s - (μ : EReal)) = ((E M sc s * Real.exp (-μ) : ℝ) : EReal) := by
  unfold S E
  split
  · rw [← EReal.coe_sub, Ideal.exp_coe, ← Real.exp_add, sub_eq_add_neg]
  · simp [EReal.bot_sub]

theorem exp_sink (μ : ℝ) : Ideal.exp ((σ : EReal) - (μ : EReal)) = ((Real.exp σ * Real.exp (-μ) : ℝ) : EReal) := by
  rw [← EReal.coe_sub, Ideal.exp_coe, ← Real.exp_add, sub_eq_add_neg]

theorem den (μ : ℝ) : (∑ s, Ideal.exp (S M sc s - (μ : EReal))) + Ideal.exp ((σ : EReal) - (μ : EReal))
    = ((Z M sc σ * Real.exp (-μ) : ℝ) : EReal) := by
  rw [exp_sink, Finset.sum_congr rfl fun s _ => exp_S M sc μ s, ← coe_sum, ← EReal.coe_add, ← Finset.sum_mul, ← add_mul]
  rfl

theorem den_ne (μ : ℝ) : Z M sc σ * Real.exp (-μ) ≠ 0 := (mul_pos (Z_pos M sc σ) (Real.exp_pos _)).ne'

/-- A real quotient, read in the extended reals. -/
theorem div_real (x : ℝ) {y : ℝ} (h : y ≠ 0) : Ideal.div (x : EReal) (y : EReal) = ((x / y : ℝ) : EReal) := by
  rw [Ideal.div_coe h, ← EReal.coe_mul, mul_one_div]

theorem one_div_real {y : ℝ} (h : y ≠ 0) : Ideal.div 1 (y : EReal) = ((1 / y : ℝ) : EReal) := by
  have := div_real 1 h
  rwa [EReal.coe_one] at this

/-! ### The kernel's row: the exponentials times the reciprocal of the normaliser -/

theorem kernel_p (μ : ℝ) (s : ι) :
    Ideal.exp (S M sc s - (μ : EReal))
      * Ideal.div 1 ((∑ s, Ideal.exp (S M sc s - (μ : EReal))) + Ideal.exp ((σ : EReal) - (μ : EReal)))
    = (Pr M sc σ s : EReal) := by
  rw [den, exp_S, one_div_real (den_ne M sc σ μ), ← EReal.coe_mul]
  congr 1
  have h1 := (Z_pos M sc σ).ne'
  have h2 := (Real.exp_pos (-μ)).ne'
  unfold Pr; field_simp

theorem kernel_ps (μ : ℝ) :
    Ideal.exp ((σ : EReal) - (μ : EReal))
      * Ideal.div 1 ((∑ s, Ideal.exp (S M sc s - (μ : EReal))) + Ideal.exp ((σ : EReal) - (μ : EReal)))
    = (Ps M sc σ : EReal) := by
  rw [den, exp_sink, one_div_real (den_ne M sc σ μ), ← EReal.coe_mul]
  congr 1
  have h1 := (Z_pos M sc σ).ne'
  have h2 := (Real.exp_pos (-μ)).ne'
  unfold Ps; field_simp

/-! ### The reference's row: quotients, the gradient of a quotient, and the gradient through the maximum, which is zero -/

variable (μ : ℝ)

/-- An exponential, less the maximum. -/
def Eμ (s : ι) : ℝ := E M sc s * Real.exp (-μ)

/-- The normaliser, less the maximum. -/
def Zμ : ℝ := Z M sc σ * Real.exp (-μ)

theorem Zμ_ne : Zμ M sc σ μ ≠ 0 := den_ne M sc σ μ

/-- The gradient of the normaliser, negated. -/
def Wμ : ℝ := ∑ s, g s * (1 / (Zμ M sc σ μ * Zμ M sc σ μ)) * Eμ M sc μ s

theorem Pr_eq (s : ι) : Eμ M sc μ s / Zμ M sc σ μ = Pr M sc σ s := by
  have h1 := (Z_pos M sc σ).ne'
  have h2 := (Real.exp_pos (-μ)).ne'
  unfold Eμ Zμ Pr; field_simp

theorem Wμ_eq : Wμ M sc g σ μ = Dl M sc g σ / Zμ M sc σ μ := by
  unfold Wμ Dl
  rw [Finset.sum_div]
  refine Finset.sum_congr rfl fun s _ => ?_
  rw [← Pr_eq M sc σ μ s]
  have := Zμ_ne M sc σ μ
  field_simp

/-- The gradient of a score through its exponential. -/
theorem Ds_eq (s : ι) : (g s / Zμ M sc σ μ + -Wμ M sc g σ μ) * Eμ M sc μ s = Ds M sc g σ s := by
  rw [Wμ_eq]; unfold Ds
  rw [← Pr_eq M sc σ μ s]
  have := Zμ_ne M sc σ μ
  field_simp
  ring

/-- The gradient of the sink through its exponential. -/
theorem sink_eq : -Wμ M sc g σ μ * (Real.exp σ * Real.exp (-μ)) = -(Ps M sc σ * Dl M sc g σ) := by
  rw [Wμ_eq]
  have h1 := (Z_pos M sc σ).ne'
  have h2 := (Real.exp_pos (-μ)).ne'
  unfold Ps Zμ; field_simp

theorem sum_E : ∑ s, E M sc s = Z M sc σ - Real.exp σ := by unfold Z; ring

theorem sum_Pr : ∑ s, Pr M sc σ s = 1 - Ps M sc σ := by
  have h1 := (Z_pos M sc σ).ne'
  unfold Pr Ps
  rw [← Finset.sum_div, sum_E M sc σ]; field_simp

/-- The gradient through the subtracted maximum is zero: the probabilities do not depend on it. -/
theorem max_eq : -(-(Ps M sc σ * Dl M sc g σ)) + ∑ s, -Ds M sc g σ s = 0 := by
  have h : ∑ s, Ds M sc g σ s = Dl M sc g σ - (1 - Ps M sc σ) * Dl M sc g σ := by
    unfold Ds
    simp only [mul_sub, Finset.sum_sub_distrib]
    rw [← Finset.sum_mul, sum_Pr]; rfl
  rw [Finset.sum_neg_distrib, h]; ring

end Cert.Attn

end
-- ==== Proof.Tile.lean ====
/- One head group of one block of the kernel: from the blocks' keys, values, queries and output gradients, the vectors the
   body computes, as definitions, and their entries when the numbers that enter are real. -/
module

public import proofs.«01_k».proof.Proof.Gen.KernelIdeal.Skeleton
public import proofs.«01_k».proof.Proof.Row
public import Idealize.ShloMosaic.Lib.Pointwise
public import Idealize.ShloMosaic.Lib.IdealHost

@[expose] public section

set_option maxRecDepth 16384

noncomputable section

namespace Cert.Attn

open Idealize.ShloMosaic Idealize.ShloMosaic.TcCoe Idealize.SL.Sem
open Cert.KernelIdeal Cert.KernelIdeal.Gen

/-! ## Constants -/

theorem ofBits_eighth : Ideal.ofBits .f32 0x3E000000#32 = ((1 / 8 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_bot : Ideal.ofBits .f32 0xFF800000#32 = ⊥ := by
  simp [Ideal.ofBits, Ideal.ieee]

/-! ## The vectors of a head group -/

variable (mask : IVec S256x512 1) (K V : FVec Ideal S64x256 .bf16) (Q O : FVec Ideal S64x512 .bf16) (sk : FVec Ideal S1x512 .f32)

/-- The masked scores. -/
def tS : FVec Ideal S256x512 .f32 :=
  select mask (mulf (matmul dot_S64x256_S64x512_S256x512_0_0_1_1_n_n none K Q (constant S256x512 .f32 0x00000000#32))
    (broadcast S256x512 (Scalar.ofBits .f32 0x3E000000#32))) (broadcast S256x512 (Scalar.ofBits .f32 0xFF800000#32))

/-- The maximum of a query's scores and its sink. -/
def tM : FVec Ideal S1x512 .f32 :=
  maximumf (shapeCast S1x512 (multiReduction .maximumf [0] S512 (tS mask K Q) 0xFF800000#32 reduces_S256x512_S512 (.inl rfl) rfl)
    shapeCasts_S512_S1x512) sk

/-- The exponentials of the scores. -/
def tE : FVec Ideal S256x512 .f32 :=
  exp (subf (tS mask K Q) (broadcastTo S256x512 (tM mask K Q sk) broadcasts_S1x512_S256x512))

/-- The exponential of the sink. -/
def tEs : FVec Ideal S1x512 .f32 := exp (subf sk (tM mask K Q sk))

/-- The reciprocal of the normaliser. -/
def tI : FVec Ideal S1x512 .f32 :=
  divf (broadcast S1x512 (Scalar.ofBits .f32 0x3F800000#32))
    (addf (shapeCast S1x512 (multiReduction .add [0] S512 (tE mask K Q sk) 0x00000000#32 reduces_S256x512_S512 (.inl rfl) rfl)
      shapeCasts_S512_S1x512) (tEs mask K Q sk))

/-- The probabilities. -/
def tP : FVec Ideal S256x512 .f32 :=
  mulf (tE mask K Q sk) (broadcastTo S256x512 (tI mask K Q sk) broadcasts_S1x512_S256x512)

/-- The sinks' probabilities. -/
def tPs : FVec Ideal S1x512 .f32 := mulf (tEs mask K Q sk) (tI mask K Q sk)

/-- The gradients of the probabilities. -/
def tG : FVec Ideal S256x512 .f32 :=
  matmul dot_S64x256_S64x512_S256x512_0_0_1_1_n_n none V O (constant S256x512 .f32 0x00000000#32)

/-- The mean gradient of a query's probabilities. -/
def tD : FVec Ideal S1x512 .f32 :=
  shapeCast S1x512 (multiReduction .add [0] S512 (mulf (tP mask K Q sk) (tG V O)) 0x00000000#32 reduces_S256x512_S512 (.inl rfl) rfl)
    shapeCasts_S512_S1x512

/-- The gradients of the products of queries and keys. -/
def tDst : FVec Ideal S256x512 .bf16 :=
  truncf .bf16 (mulf (mulf (tP mask K Q sk) (subf (tG V O) (broadcastTo S256x512 (tD mask K V Q O sk) broadcasts_S1x512_S256x512)))
    (broadcast S256x512 (Scalar.ofBits .f32 0x3E000000#32))) bitsLt_bf16_f32

/-- The gradients of the queries. -/
def tDq : FVec Ideal S64x512 .f32 :=
  matmul dot_S64x256_S256x512_S64x512_1_0_0_1_n_n none K (tDst mask K V Q O sk) (constant S64x512 .f32 0x00000000#32)

/-- The gradients of the keys. -/
def tDk : FVec Ideal S64x256 .f32 :=
  matmul dot_S64x512_S256x512_S64x256_1_1_0_0_n_n none Q (tDst mask K V Q O sk) (constant S64x256 .f32 0x00000000#32)

/-- The gradients of the values. -/
def tDv : FVec Ideal S64x256 .f32 :=
  matmul dot_S64x512_S256x512_S64x256_1_1_0_0_n_n none O (truncf .bf16 (tP mask K Q sk) bitsLt_bf16_f32)
    (constant S64x256 .f32 0x00000000#32)

/-- The gradients of the sinks, added to what was there. -/
def tSink (a : FVec Ideal S1x1x512 .f32) : FVec Ideal S1x1x512 .f32 :=
  shapeCast S1x1x512 (addf (shapeCast S1x512 a shapeCasts_S1x1x512_S1x512)
    (subf (broadcast S1x512 (Scalar.ofBits .f32 0x00000000#32)) (mulf (tPs mask K Q sk) (tD mask K V Q O sk))))
    shapeCasts_S1x512_S1x1x512

/-! ## Their entries -/

variable {mask K V Q O sk} {M : Fin 512 → Fin 256 → Prop} [∀ j, DecidablePred (M j)] {k v : Fin 64 → Fin 256 → ℝ}
  {q o : Fin 64 → Fin 512 → ℝ} {σ : Fin 512 → ℝ}

/-- The scaled product of a query and a key. -/
def scR (k : Fin 64 → Fin 256 → ℝ) (q : Fin 64 → Fin 512 → ℝ) (j : Fin 512) (s : Fin 256) : ℝ := (∑ d, k d s * q d j) * (1 / 8)

/-- The product of an output gradient and a value. -/
def gR (v : Fin 64 → Fin 256 → ℝ) (o : Fin 64 → Fin 512 → ℝ) (j : Fin 512) (s : Fin 256) : ℝ := ∑ d, v d s * o d j

section real

variable (hM : ∀ s j, mask (ix2 s j) = if M j s then 1#1 else 0#1) (hK : ∀ d s, K (ix2 d s) = (k d s : EReal))
  (hQ : ∀ d j, Q (ix2 d j) = (q d j : EReal)) (hV : ∀ d s, V (ix2 d s) = (v d s : EReal))
  (hO : ∀ d j, O (ix2 d j) = (o d j : EReal)) (hs : ∀ j, sk (ix2 0 j) = (σ j : EReal)) (he : ∀ j, ∃ s, M j s)

theorem scalar_select {α : Type} (P : Prop) [Decidable P] (a b : α) :
    Scalar.select (if P then 1#1 else 0#1) a b = if P then a else b := by
  by_cases h : P <;> simp [Scalar.select, h]

include hM hK hQ

theorem tS_real (s : Fin 256) (j : Fin 512) : tS mask K Q (ix2 s j) = S (M j) (scR k q j) s := by
  unfold S scR
  pointwise [tS, hM, hK, hQ]
  rw [ofBits_eighth, ofBits_bot, scalar_select]
  simp only [← EReal.coe_mul, ← coe_sum]

include hs he

theorem tM_real (j : Fin 512) : ∃ μ : ℝ, tM mask K Q sk (ix2 0 j) = (μ : EReal) := by
  obtain ⟨μ, h⟩ := max_real (M j) (scR k q j) (σ j) (he j)
  refine ⟨μ, ?_⟩
  rw [← h]
  pointwise [tM, hs, tS_real hM hK hQ]
  rw [ofBits_bot]

theorem tE_real (s : Fin 256) (j : Fin 512) (μ : ℝ) (h : tM mask K Q sk (ix2 0 j) = (μ : EReal)) :
    tE mask K Q sk (ix2 s j) = Ideal.exp (S (M j) (scR k q j) s - (μ : EReal)) := by
  pointwise [tE, h, tS_real hM hK hQ]

theorem tEs_real (j : Fin 512) (μ : ℝ) (h : tM mask K Q sk (ix2 0 j) = (μ : EReal)) :
    tEs mask K Q sk (ix2 0 j) = Ideal.exp ((σ j : EReal) - (μ : EReal)) := by
  pointwise [tEs, h, hs]

theorem tI_real (j : Fin 512) (μ : ℝ) (h : tM mask K Q sk (ix2 0 j) = (μ : EReal)) :
    tI mask K Q sk (ix2 0 j) = Ideal.div 1 ((∑ s, Ideal.exp (S (M j) (scR k q j) s - (μ : EReal)))
      + Ideal.exp ((σ j : EReal) - (μ : EReal))) := by
  have h1 := fun s => tE_real hM hK hQ hs he s j μ h
  have h2 := tEs_real hM hK hQ hs he j μ h
  pointwise [tI, h1, h2]

theorem tP_real (s : Fin 256) (j : Fin 512) : tP mask K Q sk (ix2 s j) = (Pr (M j) (scR k q j) (σ j) s : EReal) := by
  obtain ⟨μ, h⟩ := tM_real hM hK hQ hs he j
  have h1 := tE_real hM hK hQ hs he s j μ h
  have h2 := tI_real hM hK hQ hs he j μ h
  rw [← kernel_p (M j) (scR k q j) (σ j) μ s]
  pointwise [tP, h1, h2]

theorem tPs_real (j : Fin 512) : tPs mask K Q sk (ix2 0 j) = (Ps (M j) (scR k q j) (σ j) : EReal) := by
  obtain ⟨μ, h⟩ := tM_real hM hK hQ hs he j
  have h1 := tEs_real hM hK hQ hs he j μ h
  have h2 := tI_real hM hK hQ hs he j μ h
  rw [← kernel_ps (M j) (scR k q j) (σ j) μ]
  pointwise [tPs, h1, h2]

theorem tDv_real (d : Fin 64) (s : Fin 256) (hO : ∀ d j, O (ix2 d j) = (o d j : EReal)) :
    tDv mask K Q O sk (ix2 d s) = ((∑ j, o d j * Pr (M j) (scR k q j) (σ j) s : ℝ) : EReal) := by
  pointwise [tDv, tP_real hM hK hQ hs he, hO]
  simp only [← EReal.coe_mul, ← coe_sum]

omit hM hK hQ hs he
include hV hO

theorem tG_real (s : Fin 256) (j : Fin 512) : tG V O (ix2 s j) = (gR v o j s : EReal) := by
  unfold gR
  pointwise [tG, hV, hO]
  simp only [← EReal.coe_mul, ← coe_sum]

include hM hK hQ hs he

theorem tD_real (j : Fin 512) : tD mask K V Q O sk (ix2 0 j) = (Dl (M j) (scR k q j) (gR v o j) (σ j) : EReal) := by
  unfold Dl
  pointwise [tD, tP_real hM hK hQ hs he, tG_real hV hO]
  simp only [← EReal.coe_mul, ← coe_sum]

theorem tDst_real (s : Fin 256) (j : Fin 512) :
    tDst mask K V Q O sk (ix2 s j) = ((Ds (M j) (scR k q j) (gR v o j) (σ j) s * (1 / 8) : ℝ) : EReal) := by
  unfold Ds
  pointwise [tDst, tP_real hM hK hQ hs he, tG_real hV hO, tD_real hM hK hQ hV hO hs he]
  rw [ofBits_eighth]
  simp only [← EReal.coe_mul, ← EReal.coe_sub]

theorem tDq_real (d : Fin 64) (j : Fin 512) : tDq mask K V Q O sk (ix2 d j)
    = ((∑ s, k d s * (Ds (M j) (scR k q j) (gR v o j) (σ j) s * (1 / 8)) : ℝ) : EReal) := by
  pointwise [tDq, tDst_real hM hK hQ hV hO hs he, hK]
  simp only [← EReal.coe_mul, ← coe_sum]

theorem tDk_real (d : Fin 64) (s : Fin 256) : tDk mask K V Q O sk (ix2 d s)
    = ((∑ j, q d j * (Ds (M j) (scR k q j) (gR v o j) (σ j) s * (1 / 8)) : ℝ) : EReal) := by
  pointwise [tDk, tDst_real hM hK hQ hV hO hs he, hQ]
  simp only [← EReal.coe_mul, ← coe_sum]

theorem tSink_real (a : FVec Ideal S1x1x512 .f32) (α : Fin 512 → ℝ) (ha : ∀ j, a (ix3 0 0 j) = (α j : EReal)) (j : Fin 512) :
    tSink mask K V Q O sk a (ix3 0 0 j)
    = ((α j + -(Ps (M j) (scR k q j) (σ j) * Dl (M j) (scR k q j) (gR v o j) (σ j)) : ℝ) : EReal) := by
  pointwise [tSink, tPs_real hM hK hQ hs he, tD_real hM hK hQ hV hO hs he, ha]
  rw [← EReal.coe_mul, EReal.coe_add, EReal.coe_neg, zero_sub]

end real

end Cert.Attn

end
-- ==== Proof.Model.lean ====
/- The attention's gradients in real numbers: what both programs leave when their arguments are real. Positions and channels
   are natural numbers; `X r c` is the projections' channel `r` at position `c` (16 heads of queries, 4 of keys, 4 of values,
   64 channels each), `D r c` the output's gradient, `σ h` a head's sink. Block `n` holds positions 128 n … 128 n + 127; a head
   group `kv` is four query heads, whose queries stand side by side in one row of 512: query `j` is head `4 kv + j / 128` at
   position `j % 128` of the block. Its 256 keys are the block before and the block. -/
module

public import proofs.«01_k».proof.Proof.Tile

@[expose] public section

noncomputable section

namespace Cert.Attn

variable (X D : ℕ → ℕ → ℝ) (σ : ℕ → ℝ)

/-- The block before a block; block 0 before itself, where all of it is masked. -/
def kk (n kv d s : ℕ) : ℝ :=
  if s < 128 then X (1024 + 64 * kv + d) (128 * (n - 1) + s) else X (1024 + 64 * kv + d) (128 * n + (s - 128))

def vv (n kv d s : ℕ) : ℝ :=
  if s < 128 then X (1280 + 64 * kv + d) (128 * (n - 1) + s) else X (1280 + 64 * kv + d) (128 * n + (s - 128))

def qq (n kv d j : ℕ) : ℝ := X (256 * kv + 64 * (j / 128) + d) (128 * n + j % 128)

def oo (n kv d j : ℕ) : ℝ := D (256 * kv + 64 * (j / 128) + d) (128 * n + j % 128)

def ss (kv j : ℕ) : ℝ := σ (4 * kv + j / 128)

/-- The keys a query sees: at most 127 positions back, and none before position 0. -/
abbrev MM (n j s : ℕ) : Prop := (s ≤ j % 128 + 128 ∧ j % 128 < s) ∧ ¬(n = 0 ∧ s < 128)

abbrev mM (n : ℕ) (j : Fin 512) (s : Fin 256) : Prop := MM n j s

abbrev kM (n kv : ℕ) (d : Fin 64) (s : Fin 256) : ℝ := kk X n kv d s
abbrev vM (n kv : ℕ) (d : Fin 64) (s : Fin 256) : ℝ := vv X n kv d s
abbrev qM (n kv : ℕ) (d : Fin 64) (j : Fin 512) : ℝ := qq X n kv d j
abbrev oM (n kv : ℕ) (d : Fin 64) (j : Fin 512) : ℝ := oo D n kv d j

/-- A query's probabilities, -/
def rP (n kv : ℕ) (j : Fin 512) (s : Fin 256) : ℝ := Pr (mM n j) (scR (kM X n kv) (qM X n kv) j) (ss σ kv j) s

/-- its scores' gradients, -/
def rDs (n kv : ℕ) (j : Fin 512) (s : Fin 256) : ℝ :=
  Ds (mM n j) (scR (kM X n kv) (qM X n kv) j) (gR (vM X n kv) (oM D n kv) j) (ss σ kv j) s

/-- and its part of its sink's gradient. -/
def rSk (n kv : ℕ) (j : Fin 512) : ℝ :=
  -(Ps (mM n j) (scR (kM X n kv) (qM X n kv) j) (ss σ kv j)
    * Dl (mM n j) (scR (kM X n kv) (qM X n kv) j) (gR (vM X n kv) (oM D n kv) j) (ss σ kv j))

/-- The gradients of a group's queries, keys and values, as its block computes them. -/
def rDq (n kv : ℕ) (d : Fin 64) (j : Fin 512) : ℝ := ∑ s, kM X n kv d s * (rDs X D σ n kv j s * (1 / 8))
def rDk (n kv : ℕ) (d : Fin 64) (s : Fin 256) : ℝ := ∑ j, qM X n kv d j * (rDs X D σ n kv j s * (1 / 8))
def rDv (n kv : ℕ) (d : Fin 64) (s : Fin 256) : ℝ := ∑ j, oM D n kv d j * rP X σ n kv j s

/-- What block `n` gives to its own positions, channel by channel. -/
def new (n : ℕ) (r : Fin 1536) (c : Fin 128) : ℝ :=
  if (r : ℕ) < 1024 then rDq X D σ n (r / 256) ⟨r % 64, by omega⟩ ⟨r % 256 / 64 * 128 + c, by omega⟩
  else if (r : ℕ) < 1280 then rDk X D σ n ((r - 1024) / 64) ⟨(r - 1024) % 64, by omega⟩ ⟨128 + c, by omega⟩
  else rDv X D σ n ((r - 1280) / 64) ⟨(r - 1280) % 64, by omega⟩ ⟨128 + c, by omega⟩

/-- What block `n` gives to the positions of the block before. -/
def prv (n : ℕ) (r : Fin 1536) (c : Fin 128) : ℝ :=
  if (r : ℕ) < 1024 then 0
  else if (r : ℕ) < 1280 then rDk X D σ n ((r - 1024) / 64) ⟨(r - 1024) % 64, by omega⟩ ⟨c, by omega⟩
  else rDv X D σ n ((r - 1280) / 64) ⟨(r - 1280) % 64, by omega⟩ ⟨c, by omega⟩

/-- The gradient at block `n`'s positions: its own part and the next block's. -/
def done (n : ℕ) (r : Fin 1536) (c : Fin 128) : ℝ :=
  new X D σ n r c + if n + 1 < 32 then prv X D σ (n + 1) r c else 0

/-! ## The three results -/

/-- The gradient of the projections. -/
def G (r : Fin 1536) (p : Fin 4096) : ℝ := done X D σ (p / 128) r ⟨p % 128, by omega⟩

/-- The gradient of the bias: over all positions. -/
def Gb (r : Fin 1536) : ℝ := ∑ n : Fin 32, ∑ c : Fin 128, done X D σ n r c

/-- The gradient of a sink: over all positions. -/
def Gs (h : Fin 16) : ℝ := ∑ n : Fin 32, ∑ c : Fin 128, rSk X D σ n (h / 4) ⟨h % 4 * 128 + c, by omega⟩

end Cert.Attn

end
-- ==== Proof.Group.lean ====
/- A head group of a block, at the blocks the kernel reads: each piece the body stores is the model's piece. -/
module

public import proofs.«01_k».proof.Proof.Model

@[expose] public section

set_option maxRecDepth 16384

noncomputable section

namespace Cert.Attn

open Idealize.ShloMosaic Idealize.ShloMosaic.TcCoe Idealize.SL.Sem
open Cert.KernelIdeal Cert.KernelIdeal.Gen

/-- The block before, then the block. -/
def cat2 (a b : FVec Ideal S64x128 .bf16) : FVec Ideal S64x256 .bf16 :=
  concatenate S64x256 1 [⟨S64x128, a⟩, ⟨S64x128, b⟩] concatenates_S64x128_S64x128_S64x256_d1

/-- A group's four heads side by side. -/
def cat4 (a b c d : FVec Ideal S64x128 .bf16) : FVec Ideal S64x512 .bf16 :=
  concatenate S64x512 1 [⟨S64x128, a⟩, ⟨S64x128, b⟩, ⟨S64x128, c⟩, ⟨S64x128, d⟩] concatenates_S64x128_S64x128_S64x128_S64x128_S64x512_d1

/-- A group's sinks as one row. -/
def row (s : FVec Ideal S1x1x512 .f32) : FVec Ideal S1x512 .f32 := shapeCast S1x512 s shapeCasts_S1x1x512_S1x512

/-- The blocks of group `kv` at block `n`, holding the real numbers of the model. -/
structure Blk (X D : ℕ → ℕ → ℝ) (σ : ℕ → ℝ) (n kv : ℕ) (mask : IVec S256x512 1) (k0 k1 v0 v1 : FVec Ideal S64x128 .bf16)
    (q0 q1 q2 q3 o0 o1 o2 o3 : FVec Ideal S64x128 .bf16) (s : FVec Ideal S1x1x512 .f32) : Prop where
  hm : ∀ (s : Fin 256) (j : Fin 512), mask (ix2 s j) = if mM n j s then 1#1 else 0#1
  hk0 : ∀ (d : Fin 64) (c : Fin 128), k0 (ix2 d c) = (X (1024 + 64 * kv + d) (128 * (n - 1) + c) : EReal)
  hk1 : ∀ (d : Fin 64) (c : Fin 128), k1 (ix2 d c) = (X (1024 + 64 * kv + d) (128 * n + c) : EReal)
  hv0 : ∀ (d : Fin 64) (c : Fin 128), v0 (ix2 d c) = (X (1280 + 64 * kv + d) (128 * (n - 1) + c) : EReal)
  hv1 : ∀ (d : Fin 64) (c : Fin 128), v1 (ix2 d c) = (X (1280 + 64 * kv + d) (128 * n + c) : EReal)
  hq0 : ∀ (d : Fin 64) (c : Fin 128), q0 (ix2 d c) = (X (256 * kv + 64 * 0 + d) (128 * n + c) : EReal)
  hq1 : ∀ (d : Fin 64) (c : Fin 128), q1 (ix2 d c) = (X (256 * kv + 64 * 1 + d) (128 * n + c) : EReal)
  hq2 : ∀ (d : Fin 64) (c : Fin 128), q2 (ix2 d c) = (X (256 * kv + 64 * 2 + d) (128 * n + c) : EReal)
  hq3 : ∀ (d : Fin 64) (c : Fin 128), q3 (ix2 d c) = (X (256 * kv + 64 * 3 + d) (128 * n + c) : EReal)
  ho0 : ∀ (d : Fin 64) (c : Fin 128), o0 (ix2 d c) = (D (256 * kv + 64 * 0 + d) (128 * n + c) : EReal)
  ho1 : ∀ (d : Fin 64) (c : Fin 128), o1 (ix2 d c) = (D (256 * kv + 64 * 1 + d) (128 * n + c) : EReal)
  ho2 : ∀ (d : Fin 64) (c : Fin 128), o2 (ix2 d c) = (D (256 * kv + 64 * 2 + d) (128 * n + c) : EReal)
  ho3 : ∀ (d : Fin 64) (c : Fin 128), o3 (ix2 d c) = (D (256 * kv + 64 * 3 + d) (128 * n + c) : EReal)
  hs : ∀ j : Fin 512, s (ix3 0 0 j) = (σ (4 * kv + j / 128) : EReal)

theorem exists_unmasked (n : ℕ) (j : Fin 512) : ∃ s, mM n j s := by
  refine ⟨⟨(j : ℕ) % 128 + 128, by omega⟩, ⟨?_, ?_⟩, ?_⟩ <;> simp

theorem cat2_real (a b : FVec Ideal S64x128 .bf16) (f g : ℕ → ℕ → ℝ) (ha : ∀ (d : Fin 64) (c : Fin 128), a (ix2 d c) = (f d c : EReal))
    (hb : ∀ (d : Fin 64) (c : Fin 128), b (ix2 d c) = (g d c : EReal)) (d : Fin 64) (s : Fin 256) :
    cat2 a b (ix2 d s) = ((if (s : ℕ) < 128 then f d s else g d (s - 128) : ℝ) : EReal) := by
  pointwise [cat2, ha, hb]
  by_cases h : (s : ℕ) < 128
  · rw [dif_pos h, if_pos h]
  · rw [dif_neg h, if_neg h]

theorem cat4_real (a b c e : FVec Ideal S64x128 .bf16) (f : ℕ → ℕ → ℕ → ℝ) (ha : ∀ (d : Fin 64) (x : Fin 128), a (ix2 d x) = (f 0 d x : EReal))
    (hb : ∀ (d : Fin 64) (x : Fin 128), b (ix2 d x) = (f 1 d x : EReal)) (hc : ∀ (d : Fin 64) (x : Fin 128), c (ix2 d x) = (f 2 d x : EReal))
    (he : ∀ (d : Fin 64) (x : Fin 128), e (ix2 d x) = (f 3 d x : EReal)) (d : Fin 64) (j : Fin 512) :
    cat4 a b c e (ix2 d j) = (f (j / 128) d (j % 128) : EReal) := by
  pointwise [cat4, ha, hb, hc, he]
  have h4 : (j : ℕ) / 128 = 0 ∨ (j : ℕ) / 128 = 1 ∨ (j : ℕ) / 128 = 2 ∨ (j : ℕ) / 128 = 3 := by omega
  rcases h4 with h | h | h | h
  · rw [dif_pos (by omega), h, show (j : ℕ) % 128 = j by omega]
  · rw [dif_neg (by omega), dif_pos (by omega), h, show (j : ℕ) % 128 = j - 128 by omega]
  · rw [dif_neg (by omega), dif_neg (by omega), dif_pos (by omega), h, show (j : ℕ) % 128 = j - 128 - 128 by omega]
  · rw [dif_neg (by omega), dif_neg (by omega), dif_neg (by omega), h, show (j : ℕ) % 128 = j - 128 - 128 - 128 by omega]

section pieces

variable {X D : ℕ → ℕ → ℝ} {σ : ℕ → ℝ} {n kv : ℕ} {mask : IVec S256x512 1} {k0 k1 v0 v1 : FVec Ideal S64x128 .bf16}
  {q0 q1 q2 q3 o0 o1 o2 o3 : FVec Ideal S64x128 .bf16} {s : FVec Ideal S1x1x512 .f32}
  (h : Blk X D σ n kv mask k0 k1 v0 v1 q0 q1 q2 q3 o0 o1 o2 o3 s)

include h

theorem Blk.K (d : Fin 64) (s : Fin 256) : cat2 k0 k1 (ix2 d s) = (kM X n kv d s : EReal) :=
  cat2_real _ _ (fun d c => X (1024 + 64 * kv + d) (128 * (n - 1) + c)) (fun d c => X (1024 + 64 * kv + d) (128 * n + c)) h.hk0 h.hk1 d s

theorem Blk.V (d : Fin 64) (s : Fin 256) : cat2 v0 v1 (ix2 d s) = (vM X n kv d s : EReal) :=
  cat2_real _ _ (fun d c => X (1280 + 64 * kv + d) (128 * (n - 1) + c)) (fun d c => X (1280 + 64 * kv + d) (128 * n + c)) h.hv0 h.hv1 d s

theorem Blk.Q (d : Fin 64) (j : Fin 512) : cat4 q0 q1 q2 q3 (ix2 d j) = (qM X n kv d j : EReal) :=
  cat4_real _ _ _ _ (fun r d c => X (256 * kv + 64 * r + d) (128 * n + c)) h.hq0 h.hq1 h.hq2 h.hq3 d j

theorem Blk.O (d : Fin 64) (j : Fin 512) : cat4 o0 o1 o2 o3 (ix2 d j) = (oM D n kv d j : EReal) :=
  cat4_real _ _ _ _ (fun r d c => D (256 * kv + 64 * r + d) (128 * n + c)) h.ho0 h.ho1 h.ho2 h.ho3 d j

theorem Blk.S (j : Fin 512) : row s (ix2 0 j) = (ss σ kv j : EReal) := by
  unfold ss
  pointwise [row, h.hs]

theorem Blk.Dq (d : Fin 64) (j : Fin 512) :
    tDq mask (cat2 k0 k1) (cat2 v0 v1) (cat4 q0 q1 q2 q3) (cat4 o0 o1 o2 o3) (row s) (ix2 d j) = (rDq X D σ n kv d j : EReal) :=
  tDq_real h.hm h.K h.Q h.V h.O h.S (exists_unmasked n) d j

theorem Blk.Dk (d : Fin 64) (c : Fin 256) :
    tDk mask (cat2 k0 k1) (cat2 v0 v1) (cat4 q0 q1 q2 q3) (cat4 o0 o1 o2 o3) (row s) (ix2 d c) = (rDk X D σ n kv d c : EReal) :=
  tDk_real h.hm h.K h.Q h.V h.O h.S (exists_unmasked n) d c

theorem Blk.Dv (d : Fin 64) (c : Fin 256) :
    tDv mask (cat2 k0 k1) (cat4 q0 q1 q2 q3) (cat4 o0 o1 o2 o3) (row s) (ix2 d c) = (rDv X D σ n kv d c : EReal) :=
  tDv_real h.hm h.K h.Q h.S (exists_unmasked n) d c h.O

/-! ### What the body stores -/

omit h in
theorem sliceQ (T : FVec Ideal S64x512 .f32) (a b : ℕ) (hs hs') (x : S64x128.Idx) (d : Fin 64) (j : Fin 512) (hd : (d : ℕ) = a + x 0)
    (hj : (j : ℕ) = b + x 1) : shapeCast S64x128 (extractStridedSlice S64x128 ![a, b] T hs) hs' x = T (ix2 d j) := by
  pointwise
  exact congrArg T ((ix2_inj ..).2 ⟨Fin.ext hd.symm, Fin.ext hj.symm⟩)

omit h in
theorem sliceK (T : FVec Ideal S64x256 .f32) (a b : ℕ) (hs hs') (x : S64x128.Idx) (d : Fin 64) (j : Fin 256) (hd : (d : ℕ) = a + x 0)
    (hj : (j : ℕ) = b + x 1) : shapeCast S64x128 (extractStridedSlice S64x128 ![a, b] T hs) hs' x = T (ix2 d j) := by
  pointwise
  exact congrArg T ((ix2_inj ..).2 ⟨Fin.ext hd.symm, Fin.ext hj.symm⟩)

omit h in
theorem sliceA (o : FVec Ideal S64x128 .f32) (T : FVec Ideal S64x256 .f32) (a b : ℕ) (hs hs') (x : S64x128.Idx) (d : Fin 64) (j : Fin 256)
    (hd : (d : ℕ) = a + x 0) (hj : (j : ℕ) = b + x 1) :
    shapeCast S64x128 (addf o (extractStridedSlice S64x128 ![a, b] T hs)) hs' x = o x + T (ix2 d j) := by
  pointwise
  exact congrArg (o x + ·) (congrArg T ((ix2_inj ..).2 ⟨Fin.ext hd.symm, Fin.ext hj.symm⟩))

/-- One head's queries. -/
theorem Blk.pieceQ (b r : ℕ) (hb : b = 128 * r) (hr : r < 4) (hkv : kv < 4) (hs hs') (x : S64x128.Idx) (y : S1536x128.Idx)
    (h0 : (y 0 : ℕ) = 256 * kv + 64 * r + x 0) (h1 : (y 1 : ℕ) = x 1) :
    shapeCast S64x128 (extractStridedSlice S64x128 ![0, b]
      (tDq mask (cat2 k0 k1) (cat2 v0 v1) (cat4 q0 q1 q2 q3) (cat4 o0 o1 o2 o3) (row s)) hs) hs' x
    = (new X D σ n (y 0) (y 1) : EReal) := by
  have l0 : (x 0 : ℕ) < 64 := (x 0).isLt
  have l1 : (x 1 : ℕ) < 128 := (x 1).isLt
  rw [sliceQ _ 0 b hs hs' x ⟨x 0, l0⟩ ⟨b + x 1, by omega⟩ (Nat.zero_add _).symm rfl, h.Dq]
  unfold new
  rw [if_pos (show ((y 0 : Fin 1536) : ℕ) < 1024 by omega)]
  congr 2
  · omega
  · exact Fin.ext (by simp only []; omega)
  · exact Fin.ext (by simp only []; omega)

/-- A group's keys, at the block's own positions. -/
theorem Blk.pieceK (hkv : kv < 4) (hs hs') (x : S64x128.Idx) (y : S1536x128.Idx)
    (h0 : (y 0 : ℕ) = 1024 + 64 * kv + x 0) (h1 : (y 1 : ℕ) = x 1) :
    shapeCast S64x128 (extractStridedSlice S64x128 ![0, 128]
      (tDk mask (cat2 k0 k1) (cat2 v0 v1) (cat4 q0 q1 q2 q3) (cat4 o0 o1 o2 o3) (row s)) hs) hs' x
    = (new X D σ n (y 0) (y 1) : EReal) := by
  have l0 : (x 0 : ℕ) < 64 := (x 0).isLt
  have l1 : (x 1 : ℕ) < 128 := (x 1).isLt
  rw [sliceK _ 0 128 hs hs' x ⟨x 0, l0⟩ ⟨128 + x 1, by omega⟩ (Nat.zero_add _).symm rfl, h.Dk]
  unfold new
  rw [if_neg (show ¬((y 0 : Fin 1536) : ℕ) < 1024 by omega), if_pos (show ((y 0 : Fin 1536) : ℕ) < 1280 by omega)]
  congr 2
  · omega
  · exact Fin.ext (by simp only []; omega)
  · exact Fin.ext (by simp only []; omega)

/-- A group's values, at the block's own positions. -/
theorem Blk.pieceV (hkv : kv < 4) (hs hs') (x : S64x128.Idx) (y : S1536x128.Idx)
    (h0 : (y 0 : ℕ) = 1280 + 64 * kv + x 0) (h1 : (y 1 : ℕ) = x 1) :
    shapeCast S64x128 (extractStridedSlice S64x128 ![0, 128]
      (tDv mask (cat2 k0 k1) (cat4 q0 q1 q2 q3) (cat4 o0 o1 o2 o3) (row s)) hs) hs' x
    = (new X D σ n (y 0) (y 1) : EReal) := by
  have l0 : (x 0 : ℕ) < 64 := (x 0).isLt
  have l1 : (x 1 : ℕ) < 128 := (x 1).isLt
  rw [sliceK _ 0 128 hs hs' x ⟨x 0, l0⟩ ⟨128 + x 1, by omega⟩ (Nat.zero_add _).symm rfl, h.Dv]
  unfold new
  rw [if_neg (show ¬((y 0 : Fin 1536) : ℕ) < 1024 by omega), if_neg (show ¬((y 0 : Fin 1536) : ℕ) < 1280 by omega)]
  congr 2
  · omega
  · exact Fin.ext (by simp only []; omega)
  · exact Fin.ext (by simp only []; omega)

/-- A group's keys, added at the positions of the block before. -/
theorem Blk.addK (hkv : kv < 4) (hs hs') (a : FVec Ideal S64x128 .f32) (α : ℝ) (x : S64x128.Idx) (y : S1536x128.Idx) (ha : a x = (α : EReal))
    (h0 : (y 0 : ℕ) = 1024 + 64 * kv + x 0) (h1 : (y 1 : ℕ) = x 1) :
    shapeCast S64x128 (addf a (extractStridedSlice S64x128 ![0, 0]
      (tDk mask (cat2 k0 k1) (cat2 v0 v1) (cat4 q0 q1 q2 q3) (cat4 o0 o1 o2 o3) (row s)) hs)) hs' x
    = ((α + prv X D σ n (y 0) (y 1) : ℝ) : EReal) := by
  have l0 : (x 0 : ℕ) < 64 := (x 0).isLt
  have l1 : (x 1 : ℕ) < 128 := (x 1).isLt
  rw [sliceA _ _ 0 0 hs hs' x ⟨x 0, l0⟩ ⟨x 1, by omega⟩ (Nat.zero_add _).symm (Nat.zero_add _).symm, h.Dk, ha, ← EReal.coe_add]
  unfold prv
  rw [if_neg (show ¬((y 0 : Fin 1536) : ℕ) < 1024 by omega), if_pos (show ((y 0 : Fin 1536) : ℕ) < 1280 by omega)]
  congr 3
  · omega
  · exact Fin.ext (by simp only []; omega)
  · exact Fin.ext (by simp only []; omega)

/-- A group's values, added at the positions of the block before. -/
theorem Blk.addV (hkv : kv < 4) (hs hs') (a : FVec Ideal S64x128 .f32) (α : ℝ) (x : S64x128.Idx) (y : S1536x128.Idx) (ha : a x = (α : EReal))
    (h0 : (y 0 : ℕ) = 1280 + 64 * kv + x 0) (h1 : (y 1 : ℕ) = x 1) :
    shapeCast S64x128 (addf a (extractStridedSlice S64x128 ![0, 0]
      (tDv mask (cat2 k0 k1) (cat4 q0 q1 q2 q3) (cat4 o0 o1 o2 o3) (row s)) hs)) hs' x
    = ((α + prv X D σ n (y 0) (y 1) : ℝ) : EReal) := by
  have l0 : (x 0 : ℕ) < 64 := (x 0).isLt
  have l1 : (x 1 : ℕ) < 128 := (x 1).isLt
  rw [sliceA _ _ 0 0 hs hs' x ⟨x 0, l0⟩ ⟨x 1, by omega⟩ (Nat.zero_add _).symm (Nat.zero_add _).symm, h.Dv, ha, ← EReal.coe_add]
  unfold prv
  rw [if_neg (show ¬((y 0 : Fin 1536) : ℕ) < 1024 by omega), if_neg (show ¬((y 0 : Fin 1536) : ℕ) < 1280 by omega)]
  congr 3
  · omega
  · exact Fin.ext (by simp only []; omega)
  · exact Fin.ext (by simp only []; omega)

/-- A group's sinks. -/
theorem Blk.pieceS (a : FVec Ideal S1x1x512 .f32) (α : ℕ → ℝ) (ha : ∀ j : Fin 512, a (ix3 0 0 j) = (α j : EReal)) (x : S1x1x512.Idx) :
    tSink mask (cat2 k0 k1) (cat2 v0 v1) (cat4 q0 q1 q2 q3) (cat4 o0 o1 o2 o3) (row s) a x
    = ((α (x 2) + rSk X D σ n kv (x 2) : ℝ) : EReal) := by
  idx_vars x
  obtain rfl : x0 = 0 := Subsingleton.elim _ _
  obtain rfl : x1 = 0 := Subsingleton.elim _ _
  exact tSink_real h.hm h.K h.Q h.V h.O h.S (exists_unmasked n) a (fun j => α j) ha x2

end pieces

/-! ## The mask -/

/-- A query's position in its block, as the kernel's words compute it. -/
theorem word_q : ∀ j : Fin 512,
    IntOp.addi (Scalar.select (IntOp.andi
        (IntOp.xori
          (IntOp.cmpi .slt (IntOp.remsi .vector (BitVec.ofNat 32 j) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 j) (Scalar.select (Scalar.cmpi .eq 128#32 0#32) 1#32 128#32)) 0#32))
      (IntOp.addi (IntOp.remsi .vector (BitVec.ofNat 32 j) (Scalar.select (Scalar.cmpi .eq 128#32 0#32) 1#32 128#32))
        (Scalar.select (Scalar.cmpi .eq 128#32 0#32) 1#32 128#32))
      (IntOp.remsi .vector (BitVec.ofNat 32 j) (Scalar.select (Scalar.cmpi .eq 128#32 0#32) 1#32 128#32))) 128#32
    = BitVec.ofNat 32 ((⟨j % 128, Nat.mod_lt _ (by decide)⟩ : Fin 128) + 128) := by
  decide +kernel

theorem word_d : ∀ (c : Fin 128) (s : Fin 256),
    IntOp.andi (IntOp.cmpi .sge (IntOp.subi (BitVec.ofNat 32 (c + 128)) (BitVec.ofNat 32 s)) 0#32)
      (IntOp.cmpi .slt (IntOp.subi (BitVec.ofNat 32 (c + 128)) (BitVec.ofNat 32 s)) 128#32)
    = if (s : ℕ) ≤ c + 128 ∧ (c : ℕ) < s then 1#1 else 0#1 := by
  decide +kernel

theorem word_n : ∀ n : Fin 32, Scalar.cmpi .eq (BitVec.ofNat 32 n) 0#32 = if (n : ℕ) = 0 then 1#1 else 0#1 := by decide +kernel

theorem word_s : ∀ s : Fin 256, IntOp.cmpi .slt (BitVec.ofNat 32 s) 128#32 = if (s : ℕ) < 128 then 1#1 else 0#1 := by decide +kernel

theorem mask_at (n : Fin 32) (s : Fin 256) (j : Fin 512) : k0_pay9 (BitVec.ofNat 32 n) (ix2 s j) = if mM n j s then 1#1 else 0#1 := by
  pointwise [k0_pay9]
  rw [word_q, word_d, word_n, word_s]
  unfold mM MM
  by_cases h1 : (s : ℕ) ≤ j % 128 + 128 ∧ (j : ℕ) % 128 < s <;> by_cases h2 : (n : ℕ) = 0 <;> by_cases h3 : (s : ℕ) < 128 <;>
    simp only [h1, h2, h3, if_true, if_false, and_true, and_false, not_true, not_false_iff, true_and, false_and] <;> decide

end Cert.Attn

end
-- ==== Proof.Blocks.lean ====
/- The blocks the kernel's points read: with real arguments each point holds the model's numbers, group by group. -/
module

public import proofs.«01_k».proof.Proof.Gen.KernelIdeal.Value
public import proofs.«01_k».proof.Proof.Group
public import Idealize.ShloMosaic.Lib.Pipeline.ValueKit

@[expose] public section

set_option maxRecDepth 16384

noncomputable section

namespace Cert.Attn

open Idealize.ShloMosaic Idealize.ShloMosaic.TcCoe Idealize.SL.Sem
open Cert.KernelIdeal Cert.KernelIdeal.Gen

/-- A launch's arguments are the real numbers `X`, `D` and `σ`. -/
structure Real (X D : ℕ → ℕ → ℝ) (σ : ℕ → ℝ) (x : S1536x4096.Idx → EReal) (d : S1024x4096.Idx → EReal) (s : S1x16.Idx → EReal) : Prop where
  hx : ∀ (r : Fin 1536) (p : Fin 4096), x (ix2 r p) = (X r p : EReal)
  hd : ∀ (r : Fin 1024) (p : Fin 4096), d (ix2 r p) = (D r p : EReal)
  hs : ∀ h : Fin 16, s (ix2 0 h) = (σ h : EReal)

theorem idx0 : ∀ t : Fin cfg0.N, win0_0.index t = ![0, min t.val 31] := (by decide +kernel : ∀ t : Fin grid0.N, _)
theorem idx1 : ∀ t : Fin cfg0.N, win0_1.index t = ![4, min t.val 31] := (by decide +kernel : ∀ t : Fin grid0.N, _)
theorem idx2 : ∀ t : Fin cfg0.N, win0_2.index t = ![5, min t.val 31] := (by decide +kernel : ∀ t : Fin grid0.N, _)
theorem idx3 : ∀ t : Fin cfg0.N, win0_3.index t = ![4, min t.val 31 - 1] := (by decide +kernel : ∀ t : Fin grid0.N, _)
theorem idx4 : ∀ t : Fin cfg0.N, win0_4.index t = ![5, min t.val 31 - 1] := (by decide +kernel : ∀ t : Fin grid0.N, _)
theorem idx5 : ∀ t : Fin cfg0.N, win0_5.index t = ![0, min t.val 31] := (by decide +kernel : ∀ t : Fin grid0.N, _)
theorem idx6 : ∀ t : Fin cfg0.N, win0_6.index t = ![0, 0, 0] := (by decide +kernel : ∀ t : Fin grid0.N, _)
theorem coord0 : ∀ t : Fin cfg0.N, (grid0.coords t 0 : ℕ) = t.val := (by decide +kernel : ∀ t : Fin grid0.N, _)

variable (m : (ℓ : Loc nD τ sig) → Buf (Elt Ideal) ℓ) {X D : ℕ → ℕ → ℝ} {σ : ℕ → ℝ} (c : Dev nD) (t : Fin cfg0.N)
  (R : Real X D σ (m ((c.tc : Thread nD τ).loc main_arg0)) (m ((c.tc : Thread nD τ).loc main_arg1)) (m ((c.tc : Thread nD τ).loc main_arg2)))
include R

theorem b0 (h : t.val < 32) (r : Fin 1024) (p : Fin 128) : X0_0 m c t (ix2 r p) = (X r (128 * t.val + p) : EReal) := by
  unfold X0_0 Pipeline.Window.fill
  rw [dif_pos (moved0_0 t _)]
  refine Eq.trans ?_ (R.hx ⟨r, by omega⟩ ⟨128 * t.val + p, by omega⟩)
  have h' : min t.val 31 = t.val := by omega
  have e : (win0_0.blk t).view.emb (fun a => ⟨(ix2 r p a).val, (win0_0.moved_iff _ _).mp (moved0_0 t _) a⟩) = ix2 (⟨r, by omega⟩ : Fin 1536) ⟨128 * t.val + p, by omega⟩ := by
    funext a
    apply Fin.ext
    refine (Pipeline.Window.rect_emb_val ..).trans ?_
    match a with
    | 0 => simp [idx0 t]
    | 1 =>
      simp [idx0 t, h']
      exact Nat.mul_comm _ _
  exact congrArg (m _) e

theorem b1 (h : t.val < 32) (r : Fin 256) (p : Fin 128) : iblk m c 1 t (ix2 r p) = (X (1024 + r) (128 * t.val + p) : EReal) := by
  refine Eq.trans ?_ (R.hx ⟨1024 + r, by omega⟩ ⟨128 * t.val + p, by omega⟩)
  have h' : min t.val 31 = t.val := by omega
  blk_point [iblk, V, idx1 t, h']

theorem b2 (h : t.val < 32) (r : Fin 256) (p : Fin 128) : iblk m c 2 t (ix2 r p) = (X (1280 + r) (128 * t.val + p) : EReal) := by
  refine Eq.trans ?_ (R.hx ⟨1280 + r, by omega⟩ ⟨128 * t.val + p, by omega⟩)
  have h' : min t.val 31 = t.val := by omega
  blk_point [iblk, V, idx2 t, h']

theorem b3 (h : t.val < 32) (r : Fin 256) (p : Fin 128) : iblk m c 3 t (ix2 r p) = (X (1024 + r) (128 * (t.val - 1) + p) : EReal) := by
  refine Eq.trans ?_ (R.hx ⟨1024 + r, by omega⟩ ⟨128 * (t.val - 1) + p, by omega⟩)
  have h' : min t.val 31 - 1 = t.val - 1 := by omega
  blk_point [iblk, V, idx3 t, h']

theorem b4 (h : t.val < 32) (r : Fin 256) (p : Fin 128) : iblk m c 4 t (ix2 r p) = (X (1280 + r) (128 * (t.val - 1) + p) : EReal) := by
  refine Eq.trans ?_ (R.hx ⟨1280 + r, by omega⟩ ⟨128 * (t.val - 1) + p, by omega⟩)
  have h' : min t.val 31 - 1 = t.val - 1 := by omega
  blk_point [iblk, V, idx4 t, h']

theorem b5 (h : t.val < 32) (r : Fin 1024) (p : Fin 128) : iblk m c 5 t (ix2 r p) = (D r (128 * t.val + p) : EReal) := by
  refine Eq.trans ?_ (R.hd r ⟨128 * t.val + p, by omega⟩)
  have h' : min t.val 31 = t.val := by omega
  blk_point [iblk, V, idx5 t, h']

theorem b6 (g : Fin 4) (j : Fin 512) : iblk m c 6 t (ix3 g 0 j) = (σ (4 * g + j / 128) : EReal) := by
  refine Eq.trans ?_ (R.hs ⟨4 * g + j / 128, by omega⟩)
  have e : (win0_6.blk t).view.emb (ix3 g 0 j) = ix3 g 0 j := by
    blk_ext [idx6 t]
  blk_simp [iblk]
  entry_read
  rw [e]
  pointwise
  exact congrArg (m _) ((ix2_inj ..).2 ⟨rfl, Fin.ext (congrArg (· + (j : ℕ) / 128) (Nat.mul_comm _ _))⟩)

omit R in
/-- The tiles a group reads of a point's blocks. -/
theorem Blk.of_blocks {n : ℕ} (kv : ℕ) (hkv : kv < 4) {mask : IVec S256x512 1} {q d : FVec Ideal S1024x128 .bf16} {k1 v1 k0 v0 : FVec Ideal S256x128 .bf16}
    {s : FVec Ideal S4x1x512 .f32}
    (hm : ∀ (s : Fin 256) (j : Fin 512), mask (ix2 s j) = if mM n j s then 1#1 else 0#1)
    (hq : ∀ (r : Fin 1024) (p : Fin 128), q (ix2 r p) = (X r (128 * n + p) : EReal))
    (hk1 : ∀ (r : Fin 256) (p : Fin 128), k1 (ix2 r p) = (X (1024 + r) (128 * n + p) : EReal))
    (hv1 : ∀ (r : Fin 256) (p : Fin 128), v1 (ix2 r p) = (X (1280 + r) (128 * n + p) : EReal))
    (hk0 : ∀ (r : Fin 256) (p : Fin 128), k0 (ix2 r p) = (X (1024 + r) (128 * (n - 1) + p) : EReal))
    (hv0 : ∀ (r : Fin 256) (p : Fin 128), v0 (ix2 r p) = (X (1280 + r) (128 * (n - 1) + p) : EReal))
    (hd : ∀ (r : Fin 1024) (p : Fin 128), d (ix2 r p) = (D r (128 * n + p) : EReal))
    (hs : ∀ (g : Fin 4) (j : Fin 512), s (ix3 g 0 j) = (σ (4 * g + j / 128) : EReal))
    {o a0 a1 a2 a3 : ℕ} (ho : o = 64 * kv) (h0 : a0 = 256 * kv + 64 * 0) (h1 : a1 = 256 * kv + 64 * 1) (h2 : a2 = 256 * kv + 64 * 2)
    (h3 : a3 = 256 * kv + 64 * 3) (io : ∀ a, (![o, 0] : Fin 2 → ℕ) a + (![64, 128] : Fin 2 → ℕ) a ≤ S256x128.size a)
    (i0 : ∀ a, (![a0, 0] : Fin 2 → ℕ) a + (![64, 128] : Fin 2 → ℕ) a ≤ S1024x128.size a)
    (i1 : ∀ a, (![a1, 0] : Fin 2 → ℕ) a + (![64, 128] : Fin 2 → ℕ) a ≤ S1024x128.size a)
    (i2 : ∀ a, (![a2, 0] : Fin 2 → ℕ) a + (![64, 128] : Fin 2 → ℕ) a ≤ S1024x128.size a)
    (i3 : ∀ a, (![a3, 0] : Fin 2 → ℕ) a + (![64, 128] : Fin 2 → ℕ) a ≤ S1024x128.size a)
    (is : ∀ a, (![kv, 0, 0] : Fin 3 → ℕ) a + (![1, 1, 512] : Fin 3 → ℕ) a ≤ S4x1x512.size a) :
    Blk X D σ n kv mask (View.ld (Val := Elt Ideal) (e' := .bf16) (S := S256x128) k0 (Rect.unit ![o, 0] ![64, 128] io)) (View.ld (Val := Elt Ideal) (e' := .bf16) (S := S256x128) k1 (Rect.unit ![o, 0] ![64, 128] io))
      (View.ld (Val := Elt Ideal) (e' := .bf16) (S := S256x128) v0 (Rect.unit ![o, 0] ![64, 128] io)) (View.ld (Val := Elt Ideal) (e' := .bf16) (S := S256x128) v1 (Rect.unit ![o, 0] ![64, 128] io))
      (View.ld (Val := Elt Ideal) (e' := .bf16) (S := S1024x128) q (Rect.unit ![a0, 0] ![64, 128] i0)) (View.ld (Val := Elt Ideal) (e' := .bf16) (S := S1024x128) q (Rect.unit ![a1, 0] ![64, 128] i1))
      (View.ld (Val := Elt Ideal) (e' := .bf16) (S := S1024x128) q (Rect.unit ![a2, 0] ![64, 128] i2)) (View.ld (Val := Elt Ideal) (e' := .bf16) (S := S1024x128) q (Rect.unit ![a3, 0] ![64, 128] i3))
      (View.ld (Val := Elt Ideal) (e' := .bf16) (S := S1024x128) d (Rect.unit ![a0, 0] ![64, 128] i0)) (View.ld (Val := Elt Ideal) (e' := .bf16) (S := S1024x128) d (Rect.unit ![a1, 0] ![64, 128] i1))
      (View.ld (Val := Elt Ideal) (e' := .bf16) (S := S1024x128) d (Rect.unit ![a2, 0] ![64, 128] i2)) (View.ld (Val := Elt Ideal) (e' := .bf16) (S := S1024x128) d (Rect.unit ![a3, 0] ![64, 128] i3))
      (View.ld (Val := Elt Ideal) (e' := .f32) (S := S4x1x512) s (Rect.unit ![kv, 0, 0] ![1, 1, 512] is)) := by
  have key : ∀ {H : ℕ} (f : (⟨2, ![H, 128]⟩ : Shape).Idx → EReal) (off : ℕ) (inb) (g : ℕ → ℕ → ℝ)
      (hf : ∀ (r : Fin H) (p : Fin 128), f (ix2 r p) = (g r p : EReal)) (hb : off + 64 ≤ H) (r : Fin 64) (p : Fin 128),
      View.ld (Val := Elt Ideal) (e' := .f32) (S := ⟨2, ![H, 128]⟩) f (Rect.unit ![off, 0] ![64, 128] inb) (ix2 r p) = (g (off + r) p : EReal) := by
    intro H f off inb g hf hb r p
    exact (View.ld_unit_apply_of (Val := Elt Ideal) (e := .f32) (S := ⟨2, ![H, 128]⟩) f _ _ inb (ix2 r p) (ix2 ⟨off + r, by omega⟩ p) (by
      intro a
      match a with
      | 0 => rfl
      | 1 => exact (Nat.zero_add _).symm)).trans (hf ⟨off + r, by omega⟩ p)
  subst ho h0 h1 h2 h3
  refine ⟨hm, ?_, ?_, ?_, ?_, ?_, ?_, ?_, ?_, ?_, ?_, ?_, ?_, ?_⟩
  · intro r p; simpa only [Nat.add_assoc] using key k0 _ io (fun r p => X (1024 + r) (128 * (n - 1) + p)) hk0 (by omega) r p
  · intro r p; simpa only [Nat.add_assoc] using key k1 _ io (fun r p => X (1024 + r) (128 * n + p)) hk1 (by omega) r p
  · intro r p; simpa only [Nat.add_assoc] using key v0 _ io (fun r p => X (1280 + r) (128 * (n - 1) + p)) hv0 (by omega) r p
  · intro r p; simpa only [Nat.add_assoc] using key v1 _ io (fun r p => X (1280 + r) (128 * n + p)) hv1 (by omega) r p
  · exact key q _ i0 (fun r p => X r (128 * n + p)) hq (by omega)
  · exact key q _ i1 (fun r p => X r (128 * n + p)) hq (by omega)
  · exact key q _ i2 (fun r p => X r (128 * n + p)) hq (by omega)
  · exact key q _ i3 (fun r p => X r (128 * n + p)) hq (by omega)
  · exact key d _ i0 (fun r p => D r (128 * n + p)) hd (by omega)
  · exact key d _ i1 (fun r p => D r (128 * n + p)) hd (by omega)
  · exact key d _ i2 (fun r p => D r (128 * n + p)) hd (by omega)
  · exact key d _ i3 (fun r p => D r (128 * n + p)) hd (by omega)
  · intro j
    exact (View.ld_unit_apply_of (Val := Elt Ideal) (e := .f32) (S := S4x1x512) s _ _ is (ix3 0 0 j) (ix3 ⟨kv, hkv⟩ 0 j) (by
      intro a
      match a with
      | 0 => rfl
      | 1 => rfl
      | 2 => exact (Nat.zero_add _).symm)).trans (hs ⟨kv, hkv⟩ j)

omit R in
theorem mask_t (h : t.val < 32) (s : Fin 256) (j : Fin 512) :
    k0_pay9 (BitVec.ofNat 32 (grid0.coords t 0)) (ix2 s j) = if mM t.val j s then 1#1 else 0#1 := by
  rw [coord0]
  exact mask_at ⟨t.val, h⟩ s j

end Cert.Attn

end
-- ==== Proof.Finite.lean ====
/- What the precondition gives: every entry of the three arguments is a real number. -/
module

public import proofs.«01_k».proof.Proof.Frames
public import proofs.«01_k».proof.Proof.Blocks
public import Idealize.ShloMosaic.Lib.ReduceAll

@[expose] public section

set_option maxRecDepth 16384

noncomputable section

namespace Cert.Attn

open Idealize.ShloMosaic Idealize.SL.Sem
open Cert.KernelIdeal (S1536x4096 S1024x4096 S1x16)

theorem ofBits_top : Ideal.ofBits .f32 0x7F800000#32 = ⊤ := by
  simp [Ideal.ofBits, Ideal.ieee]

/-- A number whose absolute value lies below infinity is real. -/
theorem real_of_abs (a : EReal) (h : max a (-a) < ⊤) : ((EReal.toReal a : ℝ) : EReal) = a := by
  obtain ⟨h1, h2⟩ := max_lt_iff.1 h
  refine EReal.coe_toReal (ne_of_lt h1) fun e => ?_
  rw [e, EReal.neg_bot] at h2
  exact lt_irrefl _ h2

theorem real_of_cmp {S : Shape} (v : S.Idx → EReal) (b : S.Idx → EReal) (i : S.Idx) (hb : b i = ⊤)
    (h : BitVec.ofBool (decide (max (v i) (-(v i)) < b i)) = 1#1) : ((EReal.toReal (v i) : ℝ) : EReal) = v i := by
  refine real_of_abs _ ?_
  rw [hb] at h
  by_contra hn
  rw [decide_eq_false hn] at h
  exact absurd h (by decide)

theorem entries (x : FVec Ideal S1536x4096 .bf16) (d : FVec Ideal S1024x4096 .bf16) (s : FVec Ideal S1x16 .f32)
    (h : @Cert.Pre_finite.fn finite_facts Ideal _ x d s = fun _ => 1#1) :
    (∀ i, ((EReal.toReal (x i) : ℝ) : EReal) = x i) ∧ (∀ i, ((EReal.toReal (d i) : ℝ) : EReal) = d i)
      ∧ ∀ i, ((EReal.toReal (s i) : ℝ) : EReal) = s i := by
  have : Subsingleton Cert.Pre_finite.S_.Idx := ⟨fun a b => funext fun k => k.elim0⟩
  have e := congrFun h (fun k => k.elim0)
  obtain ⟨e1, e2⟩ := IntOp.andi_eq_one.1 e
  obtain ⟨e0, e1⟩ := IntOp.andi_eq_one.1 e1
  exact ⟨fun i => real_of_cmp x _ i ofBits_top (Host.reduce_andi_all _ _ _ _ _ e0 i),
    fun i => real_of_cmp d _ i ofBits_top (Host.reduce_andi_all _ _ _ _ _ e1 i),
    fun i => real_of_cmp s _ i ofBits_top (Host.reduce_andi_all _ _ _ _ _ e2 i)⟩

/-- The entries of a finite array as a function of two natural numbers, zero outside the array. -/
def entry {a b : ℕ} (v : Shape.Idx ⟨2, ![a, b]⟩ → EReal) (r p : ℕ) : ℝ :=
  if h : r < a ∧ p < b then (v (ix2 ⟨r, h.1⟩ ⟨p, h.2⟩)).toReal else 0

theorem entry_eq {a b : ℕ} (v : Shape.Idx ⟨2, ![a, b]⟩ → EReal) (h : ∀ i, ((EReal.toReal (v i) : ℝ) : EReal) = v i) (r : Fin a) (p : Fin b) :
    v (ix2 r p) = (entry v r p : EReal) := by
  unfold entry
  rw [dif_pos ⟨r.isLt, p.isLt⟩]
  exact (h _).symm

theorem real_of_finite (x : FVec Ideal S1536x4096 .bf16) (d : FVec Ideal S1024x4096 .bf16) (s : FVec Ideal S1x16 .f32)
    (h : @Cert.Pre_finite.fn finite_facts Ideal _ x d s = fun _ => 1#1) : Real (entry x) (entry d) (entry s 0) x d s where
  hx := entry_eq x (entries x d s h).1
  hd := entry_eq d (entries x d s h).2.1
  hs := entry_eq s (entries x d s h).2.2 0

end Cert.Attn

end
-- ==== Proof.PiecesB.lean ====
/- What a point in the middle of the grid leaves: its own block's gradients in the carry, the finished ones of the block
   before in the output, and the sinks' sums. -/
module

public import proofs.«01_k».proof.Proof.Blocks
public import Idealize.ShloMosaic.Lib.WritesUnit

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) {X D : ℕ → ℕ → ℝ} {σ : ℕ → ℝ} (c : Dev nD) (t : Fin cfg0.N)
  (R : Real X D σ (m ((c.tc : Thread nD τ).loc main_arg0)) (m ((c.tc : Thread nD τ).loc main_arg1)) (m ((c.tc : Thread nD τ).loc main_arg2)))
include R

omit R in
/-- A load of everything stored reads the value every piece has there. -/
theorem readCov_full {Val : EltTy → Type} [∀ e, Nonempty (Val e)] {s : Shape} {sg : RefSig} {κ : Kind} {sp : Space} {e : EltTy}
    (v : View sg κ sp s e) (L : List (View.Piece Val s e)) (off : Fin s.rank → ℕ) (inb) (y : s.Idx)
    (val : Val e) (h0 : ∀ a, off a = 0) (hc : ∃ p ∈ L, y ∈ p.1.set) (h : View.AllAt L y val) :
    v.readCov L (Rect.unit off s.size inb).toLoadRect y = val := by
  rw [View.readCov_eq_canon']
  have e : (Rect.unit off s.size inb).toLoadRect.idx y = y := by
    funext a
    apply Fin.ext
    exact (Rect.idx_unit_val off s.size inb y a).trans (by rw [h0 a, Nat.zero_add])
  show View.canon L _ = val
  rw [e]
  exact View.canon_eq_of_allAt L y val hc h

omit R in
theorem pay5_at (z : FVec Ideal S1536x128 .f32) (y : S1536x128.Idx) : k0_pay5 (F := Ideal) z y = (z y : EReal) := rfl

omit R in
theorem pay7_at (z : FVec Ideal S1536x128 .f32) (y : S1536x128.Idx) : k0_pay7 z y = z y := by
  idx_vars y
  pointwise [k0_pay7]

omit R in
/-- A load of 64 rows. -/
theorem ld_rows (P : S1536x128.Idx → EReal) {o : ℕ} (inb : ∀ a : Fin 2, (![o, 0] : Fin 2 → ℕ) a + (![64, 128] : Fin 2 → ℕ) a ≤ S1536x128.size a)
    (x : S64x128.Idx) (y : S1536x128.Idx) (e0 : (y 0 : ℕ) = o + x 0) (e1 : (y 1 : ℕ) = x 1) :
    View.ld (Val := Elt Ideal) (e' := .f32) (S := S1536x128) P (Rect.unit ![o, 0] ![64, 128] inb) x = P y :=
  View.ld_unit_apply_of (Val := Elt Ideal) (e := .f32) (S := S1536x128) P _ _ inb x y fun a =>
    match a with
    | 0 => e0
    | 1 => e1.trans (Nat.zero_add _).symm

omit R in
/-- A load of one group's row. -/
theorem ld_row (P : S4x1x512.Idx → EReal) (g : Fin 4) (o : ℕ) (ho : o = g) (inb : ∀ a : Fin 3, (![o, 0, 0] : Fin 3 → ℕ) a + (![1, 1, 512] : Fin 3 → ℕ) a ≤ S4x1x512.size a)
    (j : Fin 512) : View.ld (Val := Elt Ideal) (e' := .f32) (S := S4x1x512) P (Rect.unit ![o, 0, 0] ![1, 1, 512] inb) (ix3 0 0 j) = P (ix3 g 0 j) := by
  subst ho
  exact View.ld_unit_apply_of (Val := Elt Ideal) (e := .f32) (S := S4x1x512) P _ _ inb (ix3 0 0 j) (ix3 g 0 j) fun a =>
    match a with
    | 0 => rfl
    | 1 => rfl
    | 2 => (Nat.zero_add _).symm

omit R in
theorem at_row (α : ℕ → ℕ → ℝ) (β : ℕ → Fin 512 → ℝ) (g : ℕ) (x : S1x1x512.Idx) (y : S4x1x512.Idx) (e0 : (y 0 : ℕ) = g + x 0)
    (e2 : (y 2 : ℕ) = 0 + x 2) : ((α g (x 2 : ℕ) + β g (x 2) : ℝ) : EReal) = ((α (y 0) (y 2) + β (y 0) (y 2) : ℝ) : EReal) := by
  idx_vars x
  idx_vars y
  have h0 : (y0 : ℕ) = g := by
    have := x0.isLt
    have h : (y0 : ℕ) = g + x0 := e0
    omega
  have h2 : y2 = x2 := Fin.ext (e2.trans (Nat.zero_add _))
  subst h2
  show ((α g y2 + β g y2 : ℝ) : EReal) = ((α y0 y2 + β y0 y2 : ℝ) : EReal)
  rw [h0]

omit R in
/-- A store of 64 rows, read back. -/
theorem rows_step {sg : RefSig} {κ : Kind} {sp : Space} (v : View sg κ sp S1536x128 .f32) (f : v.ty.Contents (Elt Ideal)) {o : ℕ}
    (inb : ∀ a : Fin 2, (![o, 0] : Fin 2 → ℕ) a + (![64, 128] : Fin 2 → ℕ) a ≤ (![1536, 128] : Fin 2 → ℕ) a)
    (w : S64x128.Idx → EReal) (L : List (View.Piece (Elt Ideal) S1536x128 .f32)) (y : S1536x128.Idx) (val : EReal)
    (h1 : ∀ x : S64x128.Idx, (y 0 : ℕ) = o + x 0 → (y 1 : ℕ) = x 1 → w x = val)
    (h2 : (y 0 : ℕ) < o ∨ o + 64 ≤ y 0 → v.read (Elt Ideal) (v.writes (Elt Ideal) f L) y = val) :
    v.read (Elt Ideal) (v.writes (Elt Ideal) f ((⟨Rect.unit (s := S1536x128) ![o, 0] ![64, 128] inb, w⟩ : View.Piece (Elt Ideal) S1536x128 .f32) :: L)) y = val := by
  have l1 : (y 1 : ℕ) < 128 := (y 1).isLt
  by_cases h : o ≤ (y 0 : ℕ) ∧ (y 0 : ℕ) < o + 64
  · have e0 : (y 0 : ℕ) = o + ((y 0 : ℕ) - o) := by omega
    refine (View.read_writes_cons_rows_of_mem (d := ![1536, 128]) v f inb w L y (ix2 ⟨(y 0 : ℕ) - o, by omega⟩ ⟨y 1, l1⟩) rfl e0 rfl).trans ?_
    exact h1 _ e0 rfl
  · exact (View.read_writes_cons_rows_of_not_mem (d := ![1536, 128]) (W := 64) v f inb w L y rfl rfl (by omega)).trans (h2 (by omega))

theorem carryB (h0 : ¬t.val % 33 = 0) (h1 : t.val < 32) (h2 : 1 ≤ t.val) (h3 : t.val < 32) (h4 : ¬t.val % 33 = 32) (y : S1536x128.Idx) :
   (outsAt0 m c t.val t.isLt).2.2.2.1 y = (new X D σ t (y 0) (y 1) : EReal) := by
  rw [outsAt0_B m c t h0 h1 h2 h3 h4]
  have g0 := Blk.of_blocks 0 (by decide) (mask_t t h1) (b0 m c t R h1) (b1 m c t R h1) (b2 m c t R h1) (b3 m c t R h1) (b4 m c t R h1) (b5 m c t R h1)
    (b6 m c t R) (o := 0) (a0 := 0) (a1 := 64) (a2 := 128) (a3 := 192) rfl rfl rfl rfl rfl inb_S256x128_S64x128_0_0 inb_S1024x128_S64x128_0_0
    inb_S1024x128_S64x128_64_0 inb_S1024x128_S64x128_128_0 inb_S1024x128_S64x128_192_0 inb_S4x1x512_S1x1x512_0_0_0
  have g1 := Blk.of_blocks 1 (by decide) (mask_t t h1) (b0 m c t R h1) (b1 m c t R h1) (b2 m c t R h1) (b3 m c t R h1) (b4 m c t R h1) (b5 m c t R h1)
    (b6 m c t R) (o := 64) (a0 := 256) (a1 := 320) (a2 := 384) (a3 := 448) rfl rfl rfl rfl rfl inb_S256x128_S64x128_64_0 inb_S1024x128_S64x128_256_0
    inb_S1024x128_S64x128_320_0 inb_S1024x128_S64x128_384_0 inb_S1024x128_S64x128_448_0 inb_S4x1x512_S1x1x512_1_0_0
  have g2 := Blk.of_blocks 2 (by decide) (mask_t t h1) (b0 m c t R h1) (b1 m c t R h1) (b2 m c t R h1) (b3 m c t R h1) (b4 m c t R h1) (b5 m c t R h1)
    (b6 m c t R) (o := 128) (a0 := 512) (a1 := 576) (a2 := 640) (a3 := 704) rfl rfl rfl rfl rfl inb_S256x128_S64x128_128_0 inb_S1024x128_S64x128_512_0
    inb_S1024x128_S64x128_576_0 inb_S1024x128_S64x128_640_0 inb_S1024x128_S64x128_704_0 inb_S4x1x512_S1x1x512_2_0_0
  have g3 := Blk.of_blocks 3 (by decide) (mask_t t h1) (b0 m c t R h1) (b1 m c t R h1) (b2 m c t R h1) (b3 m c t R h1) (b4 m c t R h1) (b5 m c t R h1)
    (b6 m c t R) (o := 192) (a0 := 768) (a1 := 832) (a2 := 896) (a3 := 960) rfl rfl rfl rfl rfl inb_S256x128_S64x128_192_0 inb_S1024x128_S64x128_768_0
    inb_S1024x128_S64x128_832_0 inb_S1024x128_S64x128_896_0 inb_S1024x128_S64x128_960_0 inb_S4x1x512_S1x1x512_3_0_0
  frame_out
  refine (pay7_at _ y).trans (readCov_full _ _ _ _ y _ (by decide) ?_ ?_)
  · exact View.cover_of_tiled_head _ _ _ rfl y
  · refine View.allAt_cons_unit _ _ _ _ _ (fun x hx => g3.pieceV (by decide) _ _ x y (hx 0) ((hx 1).trans (Nat.zero_add _))) ?_
    refine View.allAt_cons_unit _ _ _ _ _ (fun x hx => g3.pieceK (by decide) _ _ x y (hx 0) ((hx 1).trans (Nat.zero_add _))) ?_
    refine View.allAt_cons_unit _ _ _ _ _ (fun x hx => g3.pieceQ 384 3 rfl (by decide) (by decide) slices_S64x512_o0_384_S64x128 _ x y (hx 0) ((hx 1).trans (Nat.zero_add _))) ?_
    refine View.allAt_cons_unit _ _ _ _ _ (fun x hx => g3.pieceQ 256 2 rfl (by decide) (by decide) slices_S64x512_o0_256_S64x128 _ x y (hx 0) ((hx 1).trans (Nat.zero_add _))) ?_
    refine View.allAt_cons_unit _ _ _ _ _ (fun x hx => g3.pieceQ 128 1 rfl (by decide) (by decide) slices_S64x512_o0_128_S64x128 _ x y (hx 0) ((hx 1).trans (Nat.zero_add _))) ?_
    refine View.allAt_cons_unit _ _ _ _ _ (fun x hx => g3.pieceQ 0 0 rfl (by decide) (by decide) slices_S64x512_o0_0_S64x128 _ x y (hx 0) ((hx 1).trans (Nat.zero_add _))) ?_
    refine View.allAt_cons_unit _ _ _ _ _ (fun x hx => g2.pieceV (by decide) _ _ x y (hx 0) ((hx 1).trans (Nat.zero_add _))) ?_
    refine View.allAt_cons_unit _ _ _ _ _ (fun x hx => g2.pieceK (by decide) _ _ x y (hx 0) ((hx 1).trans (Nat.zero_add _))) ?_
    refine View.allAt_cons_unit _ _ _ _ _ (fun x hx => g2.pieceQ 384 3 rfl (by decide) (by decide) slices_S64x512_o0_384_S64x128 _ x y (hx 0) ((hx 1).trans (Nat.zero_add _))) ?_
    refine View.allAt_cons_unit _ _ _ _ _ (fun x hx => g2.pieceQ 256 2 rfl (by decide) (by decide) slices_S64x512_o0_256_S64x128 _ x y (hx 0) ((hx 1).trans (Nat.zero_add _))) ?_
    refine View.allAt_cons_unit _ _ _ _ _ (fun x hx => g2.pieceQ 128 1 rfl (by decide) (by decide) slices_S64x512_o0_128_S64x128 _ x y (hx 0) ((hx 1).trans (Nat.zero_add _))) ?_
    refine View.allAt_cons_unit _ _ _ _ _ (fun x hx => g2.pieceQ 0 0 rfl (by decide) (by decide) slices_S64x512_o0_0_S64x128 _ x y (hx 0) ((hx 1).trans (Nat.zero_add _))) ?_
    refine View.allAt_cons_unit _ _ _ _ _ (fun x hx => g1.pieceV (by decide) _ _ x y (hx 0) ((hx 1).trans (Nat.zero_add _))) ?_
    refine View.allAt_cons_unit _ _ _ _ _ (fun x hx => g1.pieceK (by decide) _ _ x y (hx 0) ((hx 1).trans (Nat.zero_add _))) ?_
    refine View.allAt_cons_unit _ _ _ _ _ (fun x hx => g1.pieceQ 384 3 rfl (by decide) (by decide) slices_S64x512_o0_384_S64x128 _ x y (hx 0) ((hx 1).trans (Nat.zero_add _))) ?_
    refine View.allAt_cons_unit _ _ _ _ _ (fun x hx => g1.pieceQ 256 2 rfl (by decide) (by decide) slices_S64x512_o0_256_S64x128 _ x y (hx 0) ((hx 1).trans (Nat.zero_add _))) ?_
    refine View.allAt_cons_unit _ _ _ _ _ (fun x hx => g1.pieceQ 128 1 rfl (by decide) (by decide) slices_S64x512_o0_128_S64x128 _ x y (hx 0) ((hx 1).trans (Nat.zero_add _))) ?_
    refine View.allAt_cons_unit _ _ _ _ _ (fun x hx => g1.pieceQ 0 0 rfl (by decide) (by decide) slices_S64x512_o0_0_S64x128 _ x y (hx 0) ((hx 1).trans (Nat.zero_add _))) ?_
    refine View.allAt_cons_unit _ _ _ _ _ (fun x hx => g0.pieceV (by decide) _ _ x y (hx 0) ((hx 1).trans (Nat.zero_add _))) ?_
    refine View.allAt_cons_unit _ _ _ _ _ (fun x hx => g0.pieceK (by decide) _ _ x y (hx 0) ((hx 1).trans (Nat.zero_add _))) ?_
    refine View.allAt_cons_unit _ _ _ _ _ (fun x hx => g0.pieceQ 384 3 rfl (by decide) (by decide) slices_S64x512_o0_384_S64x128 _ x y (hx 0) ((hx 1).trans (Nat.zero_add _))) ?_
    refine View.allAt_cons_unit _ _ _ _ _ (fun x hx => g0.pieceQ 256 2 rfl (by decide) (by decide) slices_S64x512_o0_256_S64x128 _ x y (hx 0) ((hx 1).trans (Nat.zero_add _))) ?_
    refine View.allAt_cons_unit _ _ _ _ _ (fun x hx => g0.pieceQ 128 1 rfl (by decide) (by decide) slices_S64x512_o0_128_S64x128 _ x y (hx 0) ((hx 1).trans (Nat.zero_add _))) ?_
    refine View.allAt_cons_unit _ _ _ _ _ (fun x hx => g0.pieceQ 0 0 rfl (by decide) (by decide) slices_S64x512_o0_0_S64x128 _ x y (hx 0) ((hx 1).trans (Nat.zero_add _))) ?_
    exact View.allAt_nil _ _

theorem outB (h0 : ¬t.val % 33 = 0) (h1 : t.val < 32) (h2 : 1 ≤ t.val) (h3 : t.val < 32) (h4 : ¬t.val % 33 = 32) (hlt : t.val - 1 < cfg0.N)
    (hp : ∀ y : S1536x128.Idx, (outsAt0 m c (t.val - 1) hlt).2.2.2.1 y = (new X D σ (t.val - 1) (y 0) (y 1) : EReal)) (y : S1536x128.Idx) :
   (outsAt0 m c t.val t.isLt).1 y = (done X D σ (t.val - 1) (y 0) (y 1) : EReal) := by
  rw [outsAt0_B m c t h0 h1 h2 h3 h4]
  have g0 := Blk.of_blocks 0 (by decide) (mask_t t h1) (b0 m c t R h1) (b1 m c t R h1) (b2 m c t R h1) (b3 m c t R h1) (b4 m c t R h1) (b5 m c t R h1)
    (b6 m c t R) (o := 0) (a0 := 0) (a1 := 64) (a2 := 128) (a3 := 192) rfl rfl rfl rfl rfl inb_S256x128_S64x128_0_0 inb_S1024x128_S64x128_0_0
    inb_S1024x128_S64x128_64_0 inb_S1024x128_S64x128_128_0 inb_S1024x128_S64x128_192_0 inb_S4x1x512_S1x1x512_0_0_0
  have g1 := Blk.of_blocks 1 (by decide) (mask_t t h1) (b0 m c t R h1) (b1 m c t R h1) (b2 m c t R h1) (b3 m c t R h1) (b4 m c t R h1) (b5 m c t R h1)
    (b6 m c t R) (o := 64) (a0 := 256) (a1 := 320) (a2 := 384) (a3 := 448) rfl rfl rfl rfl rfl inb_S256x128_S64x128_64_0 inb_S1024x128_S64x128_256_0
    inb_S1024x128_S64x128_320_0 inb_S1024x128_S64x128_384_0 inb_S1024x128_S64x128_448_0 inb_S4x1x512_S1x1x512_1_0_0
  have g2 := Blk.of_blocks 2 (by decide) (mask_t t h1) (b0 m c t R h1) (b1 m c t R h1) (b2 m c t R h1) (b3 m c t R h1) (b4 m c t R h1) (b5 m c t R h1)
    (b6 m c t R) (o := 128) (a0 := 512) (a1 := 576) (a2 := 640) (a3 := 704) rfl rfl rfl rfl rfl inb_S256x128_S64x128_128_0 inb_S1024x128_S64x128_512_0
    inb_S1024x128_S64x128_576_0 inb_S1024x128_S64x128_640_0 inb_S1024x128_S64x128_704_0 inb_S4x1x512_S1x1x512_2_0_0
  have g3 := Blk.of_blocks 3 (by decide) (mask_t t h1) (b0 m c t R h1) (b1 m c t R h1) (b2 m c t R h1) (b3 m c t R h1) (b4 m c t R h1) (b5 m c t R h1)
    (b6 m c t R) (o := 192) (a0 := 768) (a1 := 832) (a2 := 896) (a3 := 960) rfl rfl rfl rfl rfl inb_S256x128_S64x128_192_0 inb_S1024x128_S64x128_768_0
    inb_S1024x128_S64x128_832_0 inb_S1024x128_S64x128_896_0 inb_S1024x128_S64x128_960_0 inb_S4x1x512_S1x1x512_3_0_0
  frame_out
  have hd : done X D σ (t.val - 1) (y 0) (y 1) = new X D σ (t.val - 1) (y 0) (y 1) + prv X D σ t.val (y 0) (y 1) := by
    unfold done
    rw [if_pos (by omega), show t.val - 1 + 1 = t.val by omega]
  rw [hd]
  refine (pay5_at _ y).trans ?_
  refine rows_step _ _ _ _ _ y _ (fun x e0 e1 => g3.addV (by decide) _ _ _ _ x y ((ld_rows _ _ x y e0 e1).trans ((congrFun (Memref.IsWhole.read_unread _ _) y).trans (hp y))) e0 e1) (fun nV3 => ?_)
  refine rows_step _ _ _ _ _ y _ (fun x e0 e1 => g3.addK (by decide) _ _ _ _ x y ((ld_rows _ _ x y e0 e1).trans ((congrFun (Memref.IsWhole.read_unread _ _) y).trans (hp y))) e0 e1) (fun nK3 => ?_)
  refine rows_step _ _ _ _ _ y _ (fun x e0 e1 => g2.addV (by decide) _ _ _ _ x y ((ld_rows _ _ x y e0 e1).trans ((congrFun (Memref.IsWhole.read_unread _ _) y).trans (hp y))) e0 e1) (fun nV2 => ?_)
  refine rows_step _ _ _ _ _ y _ (fun x e0 e1 => g2.addK (by decide) _ _ _ _ x y ((ld_rows _ _ x y e0 e1).trans ((congrFun (Memref.IsWhole.read_unread _ _) y).trans (hp y))) e0 e1) (fun nK2 => ?_)
  refine rows_step _ _ _ _ _ y _ (fun x e0 e1 => g1.addV (by decide) _ _ _ _ x y ((ld_rows _ _ x y e0 e1).trans ((congrFun (Memref.IsWhole.read_unread _ _) y).trans (hp y))) e0 e1) (fun nV1 => ?_)
  refine rows_step _ _ _ _ _ y _ (fun x e0 e1 => g1.addK (by decide) _ _ _ _ x y ((ld_rows _ _ x y e0 e1).trans ((congrFun (Memref.IsWhole.read_unread _ _) y).trans (hp y))) e0 e1) (fun nK1 => ?_)
  clear g1 g2 g3
  refine rows_step _ _ _ _ _ y _ ?_ (fun nV0 => ?_)
  · intro x e0 e1
    have q := fun (z : FVec Ideal S64x128 .f32) (hz) => g0.addV (by decide) slices_S64x256_o0_0_S64x128 shapeCasts_S64x128_S64x128 z (new X D σ (t.val - 1) (y 0) (y 1)) x y hz e0 e1
    exact (q _ ((ld_rows _ _ x y e0 e1).trans ((congrFun (Memref.IsWhole.read_unread _ _) y).trans (hp y))))
  refine rows_step _ _ _ _ _ y _ (fun x e0 e1 => g0.addK (by decide) _ _ _ _ x y ((ld_rows _ _ x y e0 e1).trans ((congrFun (Memref.IsWhole.read_unread _ _) y).trans (hp y))) e0 e1) (fun nK0 => ?_)
  · have : (y 0 : ℕ) < 1024 := by
      have := (y 0).isLt
      have : (y 0 : ℕ) < 1536 := this
      omega
    unfold prv
    rw [if_pos this, add_zero]
    exact (congrFun (Memref.IsWhole.read_unread _ _) y).trans (hp y)

theorem saccB (h0 : ¬t.val % 33 = 0) (h1 : t.val < 32) (h2 : 1 ≤ t.val) (h3 : t.val < 32) (h4 : ¬t.val % 33 = 32) (hlt : t.val - 1 < cfg0.N) (α : ℕ → ℕ → ℝ)
    (hp : ∀ (g : Fin 4) (j : Fin 512), (outsAt0 m c (t.val - 1) hlt).2.2.2.2.2 (ix3 g 0 j) = (α g j : EReal)) (y : S4x1x512.Idx) :
   (outsAt0 m c t.val t.isLt).2.2.2.2.2 y = ((α (y 0) (y 2) + rSk X D σ t.val (y 0) (y 2) : ℝ) : EReal) := by
  rw [outsAt0_B m c t h0 h1 h2 h3 h4]
  have g0 := Blk.of_blocks 0 (by decide) (mask_t t h1) (b0 m c t R h1) (b1 m c t R h1) (b2 m c t R h1) (b3 m c t R h1) (b4 m c t R h1) (b5 m c t R h1)
    (b6 m c t R) (o := 0) (a0 := 0) (a1 := 64) (a2 := 128) (a3 := 192) rfl rfl rfl rfl rfl inb_S256x128_S64x128_0_0 inb_S1024x128_S64x128_0_0
    inb_S1024x128_S64x128_64_0 inb_S1024x128_S64x128_128_0 inb_S1024x128_S64x128_192_0 inb_S4x1x512_S1x1x512_0_0_0
  have g1 := Blk.of_blocks 1 (by decide) (mask_t t h1) (b0 m c t R h1) (b1 m c t R h1) (b2 m c t R h1) (b3 m c t R h1) (b4 m c t R h1) (b5 m c t R h1)
    (b6 m c t R) (o := 64) (a0 := 256) (a1 := 320) (a2 := 384) (a3 := 448) rfl rfl rfl rfl rfl inb_S256x128_S64x128_64_0 inb_S1024x128_S64x128_256_0
    inb_S1024x128_S64x128_320_0 inb_S1024x128_S64x128_384_0 inb_S1024x128_S64x128_448_0 inb_S4x1x512_S1x1x512_1_0_0
  have g2 := Blk.of_blocks 2 (by decide) (mask_t t h1) (b0 m c t R h1) (b1 m c t R h1) (b2 m c t R h1) (b3 m c t R h1) (b4 m c t R h1) (b5 m c t R h1)
    (b6 m c t R) (o := 128) (a0 := 512) (a1 := 576) (a2 := 640) (a3 := 704) rfl rfl rfl rfl rfl inb_S256x128_S64x128_128_0 inb_S1024x128_S64x128_512_0
    inb_S1024x128_S64x128_576_0 inb_S1024x128_S64x128_640_0 inb_S1024x128_S64x128_704_0 inb_S4x1x512_S1x1x512_2_0_0
  have g3 := Blk.of_blocks 3 (by decide) (mask_t t h1) (b0 m c t R h1) (b1 m c t R h1) (b2 m c t R h1) (b3 m c t R h1) (b4 m c t R h1) (b5 m c t R h1)
    (b6 m c t R) (o := 192) (a0 := 768) (a1 := 832) (a2 := 896) (a3 := 960) rfl rfl rfl rfl rfl inb_S256x128_S64x128_192_0 inb_S1024x128_S64x128_768_0
    inb_S1024x128_S64x128_832_0 inb_S1024x128_S64x128_896_0 inb_S1024x128_S64x128_960_0 inb_S4x1x512_S1x1x512_3_0_0
  frame_out
  refine View.canon_eq_of_allAt _ _ _ ?_ ?_
  · exact View.cover_of_tiled_head _ _ _ rfl y
  · refine View.allAt_cons_unit _ _ _ _ _ (fun x hx => (g3.pieceS _ (α 3) (fun j => (ld_row _ 3 _ rfl _ j).trans ((congrFun (Memref.IsWhole.read_unread _ _) _).trans (hp 3 j))) x).trans
      (at_row α (rSk X D σ t.val) 3 x y (hx 0) (hx 2))) ?_
    refine View.allAt_cons_unit _ _ _ _ _ (fun x hx => (g2.pieceS _ (α 2) (fun j => (ld_row _ 2 _ rfl _ j).trans ((congrFun (Memref.IsWhole.read_unread _ _) _).trans (hp 2 j))) x).trans
      (at_row α (rSk X D σ t.val) 2 x y (hx 0) (hx 2))) ?_
    refine View.allAt_cons_unit _ _ _ _ _ (fun x hx => (g1.pieceS _ (α 1) (fun j => (ld_row _ 1 _ rfl _ j).trans ((congrFun (Memref.IsWhole.read_unread _ _) _).trans (hp 1 j))) x).trans
      (at_row α (rSk X D σ t.val) 1 x y (hx 0) (hx 2))) ?_
    refine View.allAt_cons_unit _ _ _ _ _ (fun x hx => (g0.pieceS _ (α 0) (fun j => (ld_row _ 0 _ rfl _ j).trans ((congrFun (Memref.IsWhole.read_unread _ _) _).trans (hp 0 j))) x).trans
      (at_row α (rSk X D σ t.val) 0 x y (hx 0) (hx 2))) ?_
    · exact View.allAt_nil _ _

omit R in
theorem pay6_at (z w : FVec Ideal S1536x128 .f32) (y : S1536x128.Idx) : k0_pay6 z w y = w y + z y := by
  idx_vars y
  pointwise [k0_pay6]

omit R in
theorem baccB (h0 : ¬t.val % 33 = 0) (h1 : t.val < 32) (h2 : 1 ≤ t.val) (h3 : t.val < 32) (h4 : ¬t.val % 33 = 32) (hlt : t.val - 1 < cfg0.N) (y : S1536x128.Idx) :
   (outsAt0 m c t.val t.isLt).2.2.2.2.1 y = (outsAt0 m c (t.val - 1) hlt).2.2.2.2.1 y + (outsAt0 m c t.val t.isLt).1 y := by
  rw [outsAt0_B m c t h0 h1 h2 h3 h4]
  frame_out
  refine (pay6_at _ _ y).trans ?_
  refine congrArg₂ (· + ·) (congrFun (Memref.IsWhole.read_unread _ _) y) ?_
  exact (pay5_at _ y).symm

end Cert.Attn

end
-- ==== Proof.PiecesA.lean ====
/- What the first point leaves. -/
module

public import proofs.«01_k».proof.Proof.PiecesB
public import Idealize.ShloMosaic.Lib.WritesUnit

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) {X D : ℕ → ℕ → ℝ} {σ : ℕ → ℝ} (c : Dev nD) (t : Fin cfg0.N)
  (R : Real X D σ (m ((c.tc : Thread nD τ).loc main_arg0)) (m ((c.tc : Thread nD τ).loc main_arg1)) (m ((c.tc : Thread nD τ).loc main_arg2)))
include R

theorem carryA (h0 : t.val % 33 = 0) (h1 : t.val < 32) (h2 : ¬1 ≤ t.val) (h3 : t.val < 32) (h4 : ¬t.val % 33 = 32) (y : S1536x128.Idx) :
   (outsAt0 m c t.val t.isLt).2.2.2.1 y = (new X D σ t (y 0) (y 1) : EReal) := by
  rw [outsAt0_A m c t h0 h1 h2 h3 h4]
  have g0 := Blk.of_blocks 0 (by decide) (mask_t t h1) (b0 m c t R h1) (b1 m c t R h1) (b2 m c t R h1) (b3 m c t R h1) (b4 m c t R h1) (b5 m c t R h1)
    (b6 m c t R) (o := 0) (a0 := 0) (a1 := 64) (a2 := 128) (a3 := 192) rfl rfl rfl rfl rfl inb_S256x128_S64x128_0_0 inb_S1024x128_S64x128_0_0
    inb_S1024x128_S64x128_64_0 inb_S1024x128_S64x128_128_0 inb_S1024x128_S64x128_192_0 inb_S4x1x512_S1x1x512_0_0_0
  have g1 := Blk.of_blocks 1 (by decide) (mask_t t h1) (b0 m c t R h1) (b1 m c t R h1) (b2 m c t R h1) (b3 m c t R h1) (b4 m c t R h1) (b5 m c t R h1)
    (b6 m c t R) (o := 64) (a0 := 256) (a1 := 320) (a2 := 384) (a3 := 448) rfl rfl rfl rfl rfl inb_S256x128_S64x128_64_0 inb_S1024x128_S64x128_256_0
    inb_S1024x128_S64x128_320_0 inb_S1024x128_S64x128_384_0 inb_S1024x128_S64x128_448_0 inb_S4x1x512_S1x1x512_1_0_0
  have g2 := Blk.of_blocks 2 (by decide) (mask_t t h1) (b0 m c t R h1) (b1 m c t R h1) (b2 m c t R h1) (b3 m c t R h1) (b4 m c t R h1) (b5 m c t R h1)
    (b6 m c t R) (o := 128) (a0 := 512) (a1 := 576) (a2 := 640) (a3 := 704) rfl rfl rfl rfl rfl inb_S256x128_S64x128_128_0 inb_S1024x128_S64x128_512_0
    inb_S1024x128_S64x128_576_0 inb_S1024x128_S64x128_640_0 inb_S1024x128_S64x128_704_0 inb_S4x1x512_S1x1x512_2_0_0
  have g3 := Blk.of_blocks 3 (by decide) (mask_t t h1) (b0 m c t R h1) (b1 m c t R h1) (b2 m c t R h1) (b3 m c t R h1) (b4 m c t R h1) (b5 m c t R h1)
    (b6 m c t R) (o := 192) (a0 := 768) (a1 := 832) (a2 := 896) (a3 := 960) rfl rfl rfl rfl rfl inb_S256x128_S64x128_192_0 inb_S1024x128_S64x128_768_0
    inb_S1024x128_S64x128_832_0 inb_S1024x128_S64x128_896_0 inb_S1024x128_S64x128_960_0 inb_S4x1x512_S1x1x512_3_0_0
  frame_out
  refine (pay7_at _ y).trans (readCov_full _ _ _ _ y _ (by decide) ?_ ?_)
  · exact View.cover_of_tiled_head _ _ _ rfl y
  · refine View.allAt_cons_unit _ _ _ _ _ (fun x hx => g3.pieceV (by decide) _ _ x y (hx 0) ((hx 1).trans (Nat.zero_add _))) ?_
    refine View.allAt_cons_unit _ _ _ _ _ (fun x hx => g3.pieceK (by decide) _ _ x y (hx 0) ((hx 1).trans (Nat.zero_add _))) ?_
    refine View.allAt_cons_unit _ _ _ _ _ (fun x hx => g3.pieceQ 384 3 rfl (by decide) (by decide) slices_S64x512_o0_384_S64x128 _ x y (hx 0) ((hx 1).trans (Nat.zero_add _))) ?_
    refine View.allAt_cons_unit _ _ _ _ _ (fun x hx => g3.pieceQ 256 2 rfl (by decide) (by decide) slices_S64x512_o0_256_S64x128 _ x y (hx 0) ((hx 1).trans (Nat.zero_add _))) ?_
    refine View.allAt_cons_unit _ _ _ _ _ (fun x hx => g3.pieceQ 128 1 rfl (by decide) (by decide) slices_S64x512_o0_128_S64x128 _ x y (hx 0) ((hx 1).trans (Nat.zero_add _))) ?_
    refine View.allAt_cons_unit _ _ _ _ _ (fun x hx => g3.pieceQ 0 0 rfl (by decide) (by decide) slices_S64x512_o0_0_S64x128 _ x y (hx 0) ((hx 1).trans (Nat.zero_add _))) ?_
    refine View.allAt_cons_unit _ _ _ _ _ (fun x hx => g2.pieceV (by decide) _ _ x y (hx 0) ((hx 1).trans (Nat.zero_add _))) ?_
    refine View.allAt_cons_unit _ _ _ _ _ (fun x hx => g2.pieceK (by decide) _ _ x y (hx 0) ((hx 1).trans (Nat.zero_add _))) ?_
    refine View.allAt_cons_unit _ _ _ _ _ (fun x hx => g2.pieceQ 384 3 rfl (by decide) (by decide) slices_S64x512_o0_384_S64x128 _ x y (hx 0) ((hx 1).trans (Nat.zero_add _))) ?_
    refine View.allAt_cons_unit _ _ _ _ _ (fun x hx => g2.pieceQ 256 2 rfl (by decide) (by decide) slices_S64x512_o0_256_S64x128 _ x y (hx 0) ((hx 1).trans (Nat.zero_add _))) ?_
    refine View.allAt_cons_unit _ _ _ _ _ (fun x hx => g2.pieceQ 128 1 rfl (by decide) (by decide) slices_S64x512_o0_128_S64x128 _ x y (hx 0) ((hx 1).trans (Nat.zero_add _))) ?_
    refine View.allAt_cons_unit _ _ _ _ _ (fun x hx => g2.pieceQ 0 0 rfl (by decide) (by decide) slices_S64x512_o0_0_S64x128 _ x y (hx 0) ((hx 1).trans (Nat.zero_add _))) ?_
    refine View.allAt_cons_unit _ _ _ _ _ (fun x hx => g1.pieceV (by decide) _ _ x y (hx 0) ((hx 1).trans (Nat.zero_add _))) ?_
    refine View.allAt_cons_unit _ _ _ _ _ (fun x hx => g1.pieceK (by decide) _ _ x y (hx 0) ((hx 1).trans (Nat.zero_add _))) ?_
    refine View.allAt_cons_unit _ _ _ _ _ (fun x hx => g1.pieceQ 384 3 rfl (by decide) (by decide) slices_S64x512_o0_384_S64x128 _ x y (hx 0) ((hx 1).trans (Nat.zero_add _))) ?_
    refine View.allAt_cons_unit _ _ _ _ _ (fun x hx => g1.pieceQ 256 2 rfl (by decide) (by decide) slices_S64x512_o0_256_S64x128 _ x y (hx 0) ((hx 1).trans (Nat.zero_add _))) ?_
    refine View.allAt_cons_unit _ _ _ _ _ (fun x hx => g1.pieceQ 128 1 rfl (by decide) (by decide) slices_S64x512_o0_128_S64x128 _ x y (hx 0) ((hx 1).trans (Nat.zero_add _))) ?_
    refine View.allAt_cons_unit _ _ _ _ _ (fun x hx => g1.pieceQ 0 0 rfl (by decide) (by decide) slices_S64x512_o0_0_S64x128 _ x y (hx 0) ((hx 1).trans (Nat.zero_add _))) ?_
    refine View.allAt_cons_unit _ _ _ _ _ (fun x hx => g0.pieceV (by decide) _ _ x y (hx 0) ((hx 1).trans (Nat.zero_add _))) ?_
    refine View.allAt_cons_unit _ _ _ _ _ (fun x hx => g0.pieceK (by decide) _ _ x y (hx 0) ((hx 1).trans (Nat.zero_add _))) ?_
    refine View.allAt_cons_unit _ _ _ _ _ (fun x hx => g0.pieceQ 384 3 rfl (by decide) (by decide) slices_S64x512_o0_384_S64x128 _ x y (hx 0) ((hx 1).trans (Nat.zero_add _))) ?_
    refine View.allAt_cons_unit _ _ _ _ _ (fun x hx => g0.pieceQ 256 2 rfl (by decide) (by decide) slices_S64x512_o0_256_S64x128 _ x y (hx 0) ((hx 1).trans (Nat.zero_add _))) ?_
    refine View.allAt_cons_unit _ _ _ _ _ (fun x hx => g0.pieceQ 128 1 rfl (by decide) (by decide) slices_S64x512_o0_128_S64x128 _ x y (hx 0) ((hx 1).trans (Nat.zero_add _))) ?_
    refine View.allAt_cons_unit _ _ _ _ _ (fun x hx => g0.pieceQ 0 0 rfl (by decide) (by decide) slices_S64x512_o0_0_S64x128 _ x y (hx 0) ((hx 1).trans (Nat.zero_add _))) ?_
    exact View.allAt_nil _ _

omit R in
/-- A store of a box, read back: the newest store that covers the index is what is read. -/
theorem box_step {Val : EltTy → Type} [∀ e, Nonempty (Val e)] {S : Shape} {e : EltTy} (off size : Fin S.rank → ℕ)
    (inb : ∀ a, off a + size a ≤ S.size a) (w : (Rect.unit off size inb).shape.Idx → Val e) (L : List (View.Piece Val S e)) (y : S.Idx)
    (val : Val e) (h1 : View.TileAt y off size w val)
    (h2 : (¬ ∀ a, off a ≤ (y a : ℕ) ∧ (y a : ℕ) < off a + size a) → View.canon L y = val) :
    View.canon ((⟨Rect.unit off size inb, w⟩ : View.Piece Val S e) :: L) y = val := by
  by_cases h : y ∈ (Rect.unit off size inb).set
  · obtain ⟨x, rfl⟩ := (Rect.unit off size inb).exists_idx_of_mem h
    exact (View.canon_cons_emb _ w L x).trans (h1 x fun a => Rect.idx_unit_val off size inb x a)
  · exact (View.canon_cons_of_not_mem _ L h).trans (h2 fun k => h (Rect.mem_set_unit.2 k))

omit R in
/-- A store of one group's row, read back. -/
theorem row_step {o : ℕ} (inb : ∀ a : Fin 3, (![o, 0, 0] : Fin 3 → ℕ) a + (![1, 1, 512] : Fin 3 → ℕ) a ≤ S4x1x512.size a)
    (w : S1x1x512.Idx → Elt Ideal .f32) (L : List (View.Piece (Elt Ideal) S4x1x512 .f32)) (y : S4x1x512.Idx) (val : Elt Ideal .f32)
    (h1 : ∀ x : S1x1x512.Idx, (y 0 : ℕ) = o + x 0 → (y 2 : ℕ) = 0 + x 2 → w x = val)
    (h2 : (y 0 : ℕ) ≠ o → View.canon L y = val) :
    View.canon ((⟨Rect.unit (s := S4x1x512) ![o, 0, 0] ![1, 1, 512] inb, w⟩ : View.Piece (Elt Ideal) S4x1x512 .f32) :: L) y = val := by
  refine box_step (S := S4x1x512) _ _ inb w L y val (fun x hx => h1 x (hx 0) (hx 2)) fun n => h2 fun e => n fun a => ?_
  have l1 : (y 1 : ℕ) < 1 := (y 1).isLt
  have l2 : (y 2 : ℕ) < 512 := (y 2).isLt
  match a with
  | 0 => exact ⟨e.ge, by show (y 0 : ℕ) < o + 1; omega⟩
  | 1 => exact ⟨Nat.zero_le _, by show (y 1 : ℕ) < 0 + 1; omega⟩
  | 2 => exact ⟨Nat.zero_le _, by show (y 2 : ℕ) < 0 + 512; omega⟩

omit R in
theorem fill_at (off : Fin 3 → ℕ) (inb : ∀ a : Fin 3, off a + S4x1x512.size a ≤ S4x1x512.size a) (h : ∀ a, off a = 0)
    (w : S4x1x512.Idx → Elt Ideal .f32) (hw : ∀ y, w y = (0 : EReal)) (y : S4x1x512.Idx) :
    View.canon [(⟨Rect.unit (s := S4x1x512) off S4x1x512.size inb, w⟩ : View.Piece (Elt Ideal) S4x1x512 .f32)] y = (0 : EReal) :=
  box_step (S := S4x1x512) off S4x1x512.size inb w [] y _ (fun x _ => hw x) fun n =>
    absurd (fun a => ⟨(h a).trans_le (Nat.zero_le _), by rw [h a, Nat.zero_add]; exact (y a).isLt⟩) n

omit R in
/-- A load of one group's row of what is stored so far. -/
theorem readCov_row {sg : RefSig} {κ : Kind} {sp : Space} (v : View sg κ sp S4x1x512 .f32) (L : List (View.Piece (Elt Ideal) S4x1x512 .f32))
    (o : ℕ) (g : Fin 4) (ho : o = g) (inb : ∀ a : Fin 3, (![o, 0, 0] : Fin 3 → ℕ) a + (![1, 1, 512] : Fin 3 → ℕ) a ≤ S4x1x512.size a)
    (j : Fin 512) (h : View.canon L (ix3 g 0 j) = (0 : EReal)) :
    v.readCov L (Rect.unit (s := S4x1x512) ![o, 0, 0] ![1, 1, 512] inb).toLoadRect (ix3 0 0 j) = (0 : EReal) := by
  subst ho
  rw [View.readCov_eq_canon']
  refine Eq.trans (congrArg (View.canon L) ?_) h
  funext a
  apply Fin.ext
  refine (Rect.idx_unit_val ![(g : ℕ), 0, 0] ![1, 1, 512] inb (ix3 0 0 j) a).trans ?_
  fin_cases a
  · rfl
  · rfl
  · exact Nat.zero_add _

omit R in
theorem pay3_at (y : S4x1x512.Idx) : k0_pay3 (F := Ideal) y = (0 : EReal) := by
  pointwise [k0_pay3]

omit R in
theorem off_row {o : ℕ} (g : Fin 4) (j : Fin 512) (w : S1x1x512.Idx → Elt Ideal .f32) (h : o ≠ (g : ℕ)) (x : S1x1x512.Idx)
    (e : (((ix3 g 0 j : S4x1x512.Idx) 0 : Fin 4) : ℕ) = o + x 0) : w x = (0 : EReal) := by
  have := (x 0).isLt
  have e' : (g : ℕ) = o + x 0 := e
  have : (x 0 : ℕ) < 1 := this
  omega

theorem saccA (h0 : t.val % 33 = 0) (h1 : t.val < 32) (h2 : ¬1 ≤ t.val) (h3 : t.val < 32) (h4 : ¬t.val % 33 = 32) (y : S4x1x512.Idx) :
   (outsAt0 m c t.val t.isLt).2.2.2.2.2 y = (rSk X D σ t.val (y 0) (y 2) : EReal) := by
  rw [outsAt0_A m c t h0 h1 h2 h3 h4]
  have g0 := Blk.of_blocks 0 (by decide) (mask_t t h1) (b0 m c t R h1) (b1 m c t R h1) (b2 m c t R h1) (b3 m c t R h1) (b4 m c t R h1) (b5 m c t R h1)
    (b6 m c t R) (o := 0) (a0 := 0) (a1 := 64) (a2 := 128) (a3 := 192) rfl rfl rfl rfl rfl inb_S256x128_S64x128_0_0 inb_S1024x128_S64x128_0_0
    inb_S1024x128_S64x128_64_0 inb_S1024x128_S64x128_128_0 inb_S1024x128_S64x128_192_0 inb_S4x1x512_S1x1x512_0_0_0
  have g1 := Blk.of_blocks 1 (by decide) (mask_t t h1) (b0 m c t R h1) (b1 m c t R h1) (b2 m c t R h1) (b3 m c t R h1) (b4 m c t R h1) (b5 m c t R h1)
    (b6 m c t R) (o := 64) (a0 := 256) (a1 := 320) (a2 := 384) (a3 := 448) rfl rfl rfl rfl rfl inb_S256x128_S64x128_64_0 inb_S1024x128_S64x128_256_0
    inb_S1024x128_S64x128_320_0 inb_S1024x128_S64x128_384_0 inb_S1024x128_S64x128_448_0 inb_S4x1x512_S1x1x512_1_0_0
  have g2 := Blk.of_blocks 2 (by decide) (mask_t t h1) (b0 m c t R h1) (b1 m c t R h1) (b2 m c t R h1) (b3 m c t R h1) (b4 m c t R h1) (b5 m c t R h1)
    (b6 m c t R) (o := 128) (a0 := 512) (a1 := 576) (a2 := 640) (a3 := 704) rfl rfl rfl rfl rfl inb_S256x128_S64x128_128_0 inb_S1024x128_S64x128_512_0
    inb_S1024x128_S64x128_576_0 inb_S1024x128_S64x128_640_0 inb_S1024x128_S64x128_704_0 inb_S4x1x512_S1x1x512_2_0_0
  have g3 := Blk.of_blocks 3 (by decide) (mask_t t h1) (b0 m c t R h1) (b1 m c t R h1) (b2 m c t R h1) (b3 m c t R h1) (b4 m c t R h1) (b5 m c t R h1)
    (b6 m c t R) (o := 192) (a0 := 768) (a1 := 832) (a2 := 896) (a3 := 960) rfl rfl rfl rfl rfl inb_S256x128_S64x128_192_0 inb_S1024x128_S64x128_768_0
    inb_S1024x128_S64x128_832_0 inb_S1024x128_S64x128_896_0 inb_S1024x128_S64x128_960_0 inb_S4x1x512_S1x1x512_3_0_0
  have at0 : ∀ (g : ℕ) (x : S1x1x512.Idx), (y 0 : ℕ) = g + x 0 → (y 2 : ℕ) = 0 + x 2 →
      (((0 : ℝ) + rSk X D σ t.val g (x 2) : ℝ) : EReal) = (rSk X D σ t.val (y 0) (y 2) : EReal) := fun g x e0 e2 =>
    (at_row (fun _ _ => 0) (rSk X D σ t.val) g x y e0 e2).trans (congrArg _ (zero_add _))
  frame_out
  refine row_step _ _ _ _ _ (fun x e0 e2 => (g3.pieceS _ (fun _ => 0) (fun j => readCov_row _ _ _ 3 rfl _ j ?_) x).trans (at0 3 x e0 e2)) (fun n3 => ?_)
  · exact row_step _ _ _ _ _ (fun x e _ => off_row 3 j _ (by decide) x e) (fun _ => row_step _ _ _ _ _ (fun x e _ => off_row 3 j _ (by decide) x e) (fun _ => row_step _ _ _ _ _ (fun x e _ => off_row 3 j _ (by decide) x e) (fun _ => fill_at _ _ (by decide) _ pay3_at _)))
  refine row_step _ _ _ _ _ (fun x e0 e2 => (g2.pieceS _ (fun _ => 0) (fun j => readCov_row _ _ _ 2 rfl _ j ?_) x).trans (at0 2 x e0 e2)) (fun n2 => ?_)
  · exact row_step _ _ _ _ _ (fun x e _ => off_row 2 j _ (by decide) x e) (fun _ => row_step _ _ _ _ _ (fun x e _ => off_row 2 j _ (by decide) x e) (fun _ => fill_at _ _ (by decide) _ pay3_at _))
  refine row_step _ _ _ _ _ (fun x e0 e2 => (g1.pieceS _ (fun _ => 0) (fun j => readCov_row _ _ _ 1 rfl _ j ?_) x).trans (at0 1 x e0 e2)) (fun n1 => ?_)
  · exact row_step _ _ _ _ _ (fun x e _ => off_row 1 j _ (by decide) x e) (fun _ => fill_at _ _ (by decide) _ pay3_at _)
  refine row_step _ _ _ _ _ (fun x e0 e2 => (g0.pieceS _ (fun _ => 0) (fun j => readCov_row _ _ _ 0 rfl _ j ?_) x).trans (at0 0 x e0 e2)) (fun n0 => ?_)
  · exact fill_at _ _ (by decide) _ pay3_at _
  have := (y 0).isLt
  have l : (y 0 : ℕ) < 4 := this
  omega

omit R in
theorem baccA (h0 : t.val % 33 = 0) (h1 : t.val < 32) (h2 : ¬1 ≤ t.val) (h3 : t.val < 32) (h4 : ¬t.val % 33 = 32) (y : S1536x128.Idx) :
   (outsAt0 m c t.val t.isLt).2.2.2.2.1 y = (0 : EReal) := by
  rw [outsAt0_A m c t h0 h1 h2 h3 h4]
  frame_out
  pointwise [k0_pay2]

end Cert.Attn

end
-- ==== Proof.PiecesC.lean ====
/- What the last point leaves. -/
module

public import proofs.«01_k».proof.Proof.PiecesB
public import Idealize.ShloMosaic.Lib.WritesUnit

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

def lanes : IVec S1x16 32 := iota .tc S1x16 32 [1] iota_S1x16_d1_w32

/-- The last point's sum over the positions of a block, head by head. -/
theorem dsk_at (s0 s1 s2 s3 : Vec Ideal S1x1x512 .f32) (β : ℕ → ℕ → EReal) (e0 : ∀ j : Fin 512, s0 (ix3 0 0 j) = β 0 j)
    (e1 : ∀ j : Fin 512, s1 (ix3 0 0 j) = β 1 j) (e2 : ∀ j : Fin 512, s2 (ix3 0 0 j) = β 2 j) (e3 : ∀ j : Fin 512, s3 (ix3 0 0 j) = β 3 j) (h : Fin 16) :
    k0_pay8 lanes (k0_pay127 s3) (k0_pay128 lanes (k0_pay124 s2) (k0_pay125 lanes (k0_pay123 s0) s1 s2) (k0_pay126 s2) s3) (k0_pay129 s3) (k0_pay130 lanes) (ix2 0 h)
    = ∑ x : Fin 128, β (h / 4) (h % 4 * 128 + x) := by
  pointwise [k0_pay8, k0_pay123, k0_pay124, k0_pay125, k0_pay126, k0_pay127, k0_pay128, k0_pay129, k0_pay130, lanes, e0, e1, e2, e3]
  fin_cases h
  all_goals first
    | rfl
    | exact Finset.sum_congr rfl fun x _ => congrArg (β 0) (Nat.zero_add _).symm
    | exact Finset.sum_congr rfl fun x _ => congrArg (β 1) (Nat.zero_add _).symm
    | exact Finset.sum_congr rfl fun x _ => congrArg (β 2) (Nat.zero_add _).symm
    | exact Finset.sum_congr rfl fun x _ => congrArg (β 3) (Nat.zero_add _).symm

theorem bsum_at (z : Vec Ideal S1536x128 .f32) (r : Fin 1536) : k0_pay122 z (ix2 r 0) = (∑ x : Fin 128, z (ix2 r x) : EReal) := by
  pointwise [k0_pay122]

theorem outC (h0 : ¬t.val % 33 = 0) (h1 : ¬t.val < 32) (h2 : 1 ≤ t.val) (h3 : ¬t.val < 32) (h4 : t.val % 33 = 32) (hlt : t.val - 1 < cfg0.N) (y : S1536x128.Idx) :
   (outsAt0 m c t.val t.isLt).1 y = ((outsAt0 m c (t.val - 1) hlt).2.2.2.1 y : EReal) := by
  rw [outsAt0_C m c t h0 h1 h2 h3 h4]
  frame_out
  exact (pay5_at _ y).trans (congrFun (Memref.IsWhole.read_unread _ _) y)

theorem baccC (h0 : ¬t.val % 33 = 0) (h1 : ¬t.val < 32) (h2 : 1 ≤ t.val) (h3 : ¬t.val < 32) (h4 : t.val % 33 = 32) (hlt : t.val - 1 < cfg0.N) (y : S1536x128.Idx) :
   (outsAt0 m c t.val t.isLt).2.2.2.2.1 y = ((outsAt0 m c (t.val - 1) hlt).2.2.2.2.1 y + (outsAt0 m c (t.val - 1) hlt).2.2.2.1 y : EReal) := by
  rw [outsAt0_C m c t h0 h1 h2 h3 h4]
  frame_out
  refine (pay6_at _ _ y).trans ?_
  exact congrArg₂ (· + ·) (congrFun (Memref.IsWhole.read_unread _ _) y) (congrFun (Memref.IsWhole.read_unread _ _) y)

theorem bsumC (h0 : ¬t.val % 33 = 0) (h1 : ¬t.val < 32) (h2 : 1 ≤ t.val) (h3 : ¬t.val < 32) (h4 : t.val % 33 = 32) (hlt : t.val - 1 < cfg0.N) (y : S1536x1.Idx) :
   (outsAt0 m c t.val t.isLt).2.1 y = (∑ x : Fin 128, ((outsAt0 m c (t.val - 1) hlt).2.2.2.2.1 (ix2 (y 0) x) + (outsAt0 m c (t.val - 1) hlt).2.2.2.1 (ix2 (y 0) x)) : EReal) := by
  rw [outsAt0_C m c t h0 h1 h2 h3 h4]
  idx_vars y
  obtain rfl : y1 = 0 := Subsingleton.elim _ _
  frame_out
  refine (bsum_at _ _).trans (Finset.sum_congr rfl fun x _ => ?_)
  refine (pay6_at _ _ _).trans ?_
  exact congrArg₂ (· + ·) (congrFun (Memref.IsWhole.read_unread _ _) _) (congrFun (Memref.IsWhole.read_unread _ _) _)

theorem dskC (h0 : ¬t.val % 33 = 0) (h1 : ¬t.val < 32) (h2 : 1 ≤ t.val) (h3 : ¬t.val < 32) (h4 : t.val % 33 = 32) (hlt : t.val - 1 < cfg0.N) (β : ℕ → ℕ → EReal)
    (hp : ∀ (g : Fin 4) (j : Fin 512), (outsAt0 m c (t.val - 1) hlt).2.2.2.2.2 (ix3 g 0 j) = β g j) (h : Fin 16) :
   (outsAt0 m c t.val t.isLt).2.2.1 (ix2 0 h) = (∑ x : Fin 128, β (h / 4) (h % 4 * 128 + x) : EReal) := by
  rw [outsAt0_C m c t h0 h1 h2 h3 h4]
  frame_out
  refine dsk_at _ _ _ _ β ?_ ?_ ?_ ?_ h
  · exact fun j => (ld_row _ 0 _ rfl _ j).trans ((congrFun (Memref.IsWhole.read_unread _ _) _).trans (hp 0 j))
  · exact fun j => (ld_row _ 1 _ rfl _ j).trans ((congrFun (Memref.IsWhole.read_unread _ _) _).trans (hp 1 j))
  · exact fun j => (ld_row _ 2 _ rfl _ j).trans ((congrFun (Memref.IsWhole.read_unread _ _) _).trans (hp 2 j))
  · exact fun j => (ld_row _ 3 _ rfl _ j).trans ((congrFun (Memref.IsWhole.read_unread _ _) _).trans (hp 3 j))

end Cert.Attn

end
-- ==== Proof.Fold.lean ====
/- The kernel's three arrays after the run, when its arguments are real. -/
module

public import proofs.«01_k».proof.Proof.PiecesA
public import proofs.«01_k».proof.Proof.PiecesC

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) {X D : ℕ → ℕ → ℝ} {σ : ℕ → ℝ} (c : Dev nD)
  (R : Real X D σ (m ((c.tc : Thread nD τ).loc main_arg0)) (m ((c.tc : Thread nD τ).loc main_arg1)) (m ((c.tc : Thread nD τ).loc main_arg2)))

theorem points : cfg0.N = 33 := by decide

include R

theorem carry_at (n : ℕ) (h : n < cfg0.N) (hn : n < 32) (y : S1536x128.Idx) :
    (outsAt0 m c n h).2.2.2.1 y = (new X D σ n (y 0) (y 1) : EReal) := by
  by_cases h0 : n = 0
  · exact carryA m c ⟨n, h⟩ R (by show n % 33 = 0; omega) hn (by show ¬1 ≤ n; omega) hn (by show ¬n % 33 = 32; omega) y
  · exact carryB m c ⟨n, h⟩ R (by show ¬n % 33 = 0; omega) hn (by show 1 ≤ n; omega) hn (by show ¬n % 33 = 32; omega) y

theorem out_at (n : ℕ) (h : n + 1 < cfg0.N) (y : S1536x128.Idx) :
    (outsAt0 m c (n + 1) h).1 y = (done X D σ n (y 0) (y 1) : EReal) := by
  have hN := points
  have hp := carry_at m c R n (Nat.lt_of_succ_lt h) (by omega)
  by_cases h1 : n + 1 < 32
  · exact outB m c ⟨n + 1, h⟩ R (by show ¬(n + 1) % 33 = 0; omega) h1 (Nat.le_add_left 1 n) h1 (by show ¬(n + 1) % 33 = 32; omega) (Nat.lt_of_succ_lt h) hp y
  · refine (outC m c ⟨n + 1, h⟩ (by show ¬(n + 1) % 33 = 0; omega) h1 (Nat.le_add_left 1 n) h1 (by show (n + 1) % 33 = 32; omega) (Nat.lt_of_succ_lt h) y).trans ?_
    refine (hp y).trans (congrArg _ ?_)
    unfold done
    rw [if_neg (by omega), add_zero]

theorem bacc_at (n : ℕ) (h : n < cfg0.N) (y : S1536x128.Idx) :
    (outsAt0 m c n h).2.2.2.2.1 y = ((∑ u ∈ Finset.range n, done X D σ u (y 0) (y 1) : ℝ) : EReal) := by
  have hN := points
  induction n with
  | zero =>
    exact baccA m c ⟨0, h⟩ rfl (by show 0 < 32; omega) (by show ¬1 ≤ 0; omega) (by show 0 < 32; omega) (by show ¬0 % 33 = 32; omega) y
  | succ n ih =>
    have ih' := ih (Nat.lt_of_succ_lt h)
    rw [Finset.sum_range_succ, EReal.coe_add, ← ih', ← out_at m c R n h y]
    by_cases h1 : n + 1 < 32
    · exact baccB m c ⟨n + 1, h⟩ (by show ¬(n + 1) % 33 = 0; omega) h1 (Nat.le_add_left 1 n) h1 (by show ¬(n + 1) % 33 = 32; omega) (Nat.lt_of_succ_lt h) y
    · have a0 : ¬(n + 1) % 33 = 0 := by omega
      have a1 : (n + 1) % 33 = 32 := by omega
      refine (baccC m c ⟨n + 1, h⟩ a0 h1 (Nat.le_add_left 1 n) h1 a1 (Nat.lt_of_succ_lt h) y).trans (congrArg _ ?_)
      exact (outC m c ⟨n + 1, h⟩ a0 h1 (Nat.le_add_left 1 n) h1 a1 (Nat.lt_of_succ_lt h) y).symm

/-- A row of the sinks' part, at natural numbers. -/
def sk (X D : ℕ → ℕ → ℝ) (σ : ℕ → ℝ) (n g j : ℕ) : ℝ := if h : j < 512 then rSk X D σ n g ⟨j, h⟩ else 0

omit R in
theorem sk_fin (n g : ℕ) (j : Fin 512) : sk X D σ n g j = rSk X D σ n g j := dif_pos j.isLt

theorem sacc_at (n : ℕ) (h : n < cfg0.N) (hn : n < 32) (y : S4x1x512.Idx) :
    (outsAt0 m c n h).2.2.2.2.2 y = ((∑ u ∈ Finset.range (n + 1), sk X D σ u (y 0) (y 2) : ℝ) : EReal) := by
  induction n generalizing y with
  | zero =>
    refine (saccA m c ⟨0, h⟩ R rfl (by show 0 < 32; omega) (by show ¬1 ≤ 0; omega) (by show 0 < 32; omega) (by show ¬0 % 33 = 32; omega) y).trans ?_
    rw [Finset.sum_range_one]
    exact congrArg _ (sk_fin (X := X) (D := D) (σ := σ) 0 (y 0) (y 2)).symm
  | succ n ih =>
    rw [Finset.sum_range_succ]
    refine (saccB m c ⟨n + 1, h⟩ R (by show ¬(n + 1) % 33 = 0; omega) hn (Nat.le_add_left 1 n) hn (by show ¬(n + 1) % 33 = 32; omega) (Nat.lt_of_succ_lt h)
      (fun g j => ∑ u ∈ Finset.range (n + 1), sk X D σ u g j) (fun g j => ih (Nat.lt_of_succ_lt h) (by omega) (ix3 g 0 j)) y).trans ?_
    exact congrArg (fun z : ℝ => ((∑ u ∈ Finset.range (n + 1), sk X D σ u (y 0) (y 2) + z : ℝ) : EReal))
      (sk_fin (X := X) (D := D) (σ := σ) (n + 1) (y 0) (y 2)).symm

theorem bsum_last (n : ℕ) (hn : n = 31) (h : n + 1 < cfg0.N) (r : Fin 1536) : (outsAt0 m c (n + 1) h).2.1 (ix2 r 0) = (Gb X D σ r : EReal) := by
  have hlt : n < cfg0.N := Nat.lt_of_succ_lt h
  refine (bsumC m c ⟨n + 1, h⟩ (by show ¬(n + 1) % 33 = 0; omega) (by show ¬(n + 1) < 32; omega) (Nat.le_add_left 1 n) (by show ¬(n + 1) < 32; omega)
    (by show (n + 1) % 33 = 32; omega) hlt (ix2 r 0)).trans ?_
  unfold Gb
  rw [Finset.sum_comm, coe_sum]
  refine Finset.sum_congr rfl fun x _ => ?_
  have e1 := bacc_at m c R n hlt (ix2 r x)
  have e2 := carry_at m c R n hlt (by omega) (ix2 r x)
  have e3 : done X D σ n r x = new X D σ n r x := by
    unfold done
    rw [if_neg (by omega), add_zero]
  have e4 : ∑ k : Fin 32, done X D σ k r x = (∑ u ∈ Finset.range n, done X D σ u r x) + new X D σ n r x := by
    rw [Fin.sum_univ_eq_sum_range (fun n => done X D σ n r x) 32, ← e3, ← Finset.sum_range_succ, hn]
  rw [e4, EReal.coe_add]
  exact congrArg₂ (· + ·) e1 e2

theorem dsk_last (n : ℕ) (hn : n = 31) (h : n + 1 < cfg0.N) (k : Fin 16) : (outsAt0 m c (n + 1) h).2.2.1 (ix2 0 k) = (Gs X D σ k : EReal) := by
  have hlt : n < cfg0.N := Nat.lt_of_succ_lt h
  refine (dskC m c ⟨n + 1, h⟩ (by show ¬(n + 1) % 33 = 0; omega) (by show ¬(n + 1) < 32; omega) (Nat.le_add_left 1 n) (by show ¬(n + 1) < 32; omega)
    (by show (n + 1) % 33 = 32; omega) hlt
    (fun g j => ((∑ u ∈ Finset.range (n + 1), sk X D σ u g j : ℝ) : EReal)) (fun g j => sacc_at m c R n hlt (by omega) (ix3 g 0 j)) k).trans ?_
  unfold Gs
  rw [Finset.sum_comm, coe_sum]
  refine Finset.sum_congr rfl fun x _ => congrArg _ ?_
  rw [hn, Finset.sum_range]
  exact Finset.sum_congr rfl fun n _ => sk_fin (X := X) (D := D) (σ := σ) n (k / 4) ⟨k % 4 * 128 + x, by omega⟩

omit R in
theorem idx7 : ∀ t : Fin cfg0.N, win0_7.index t = ![0, t.val - 1] := (by decide +kernel : ∀ t : Fin grid0.N, _)
omit R in
theorem flush7 : ∀ t : Fin cfg0.N, (cfg0.win 7).flush t = true → 1 ≤ t.val := (by decide +kernel : ∀ t : Fin grid0.N, _)
omit R in
theorem idx8 : ∀ t : Fin cfg0.N, win0_8.index t = ![0, 0] := (by decide +kernel : ∀ t : Fin grid0.N, _)
omit R in
theorem flush8 : ∀ t : Fin cfg0.N, (cfg0.win 8).flush t = true → t.val = 32 := (by decide +kernel : ∀ t : Fin grid0.N, _)
omit R in
theorem idx9 : ∀ t : Fin cfg0.N, win0_9.index t = ![0, 0] := (by decide +kernel : ∀ t : Fin grid0.N, _)
omit R in
theorem flush9 : ∀ t : Fin cfg0.N, (cfg0.win 9).flush t = true → t.val = 32 := (by decide +kernel : ∀ t : Fin grid0.N, _)

omit R in
theorem G_at (n : ℕ) (r r' : Fin 1536) (x : Fin 128) (p : Fin 4096) (hr : (r' : ℕ) = r) (hp : (p : ℕ) = n * 128 + x) :
    done X D σ n r x = G X D σ r' p := by
  have e1 : (p : ℕ) / 128 = n := by omega
  have e2 : (p : ℕ) % 128 = x := by omega
  unfold G
  have e3 : (⟨(p : ℕ) % 128, by omega⟩ : Fin 128) = x := Fin.ext e2
  rw [e1, e3, show r' = r from Fin.ext hr]

theorem final7 : (dats m 0 c).arrAt 7 cfg0.N = fun i : S1536x4096.Idx => (G X D σ (i 0) (i 1) : EReal) := by
  refine (dats m 0 c).arrAt_eq_of_covers 7 _ (by decide +kernel) fun t hf y => ?_
  have ht := flush7 t hf
  blk_simp
  rw [after0_7]
  obtain ⟨n, hn⟩ := t
  obtain ⟨n, rfl⟩ : ∃ k, n = k + 1 := ⟨n - 1, by have : 1 ≤ n := ht; omega⟩
  refine (out_at m c R n hn y).trans (congrArg _ ?_)
  refine G_at n _ _ _ _ ?_ ?_
  · blk_simp [idx7]
  · blk_simp [idx7]
    rfl

theorem final8 : (dats m 0 c).arrAt 8 cfg0.N = fun i : S1536x1.Idx => (Gb X D σ (i 0) : EReal) := by
  refine (dats m 0 c).arrAt_eq_of_covers 8 _ (by decide +kernel) fun t hf y => ?_
  have ht := flush8 t hf
  blk_simp
  rw [after0_8]
  obtain ⟨n, hn⟩ := t
  obtain ⟨n, rfl⟩ : ∃ k, n = k + 1 := ⟨n - 1, by have : n = 32 := ht; omega⟩
  have e : (win0_8.blk ⟨n + 1, hn⟩).view.emb y = y := by
    blk_ext [idx8]
  rw [e]
  have e1 : y = ix2 (y 0) 0 := by
    funext a
    match a with
    | 0 => rfl
    | 1 => exact Subsingleton.elim (α := Fin 1) _ _
  exact (congrArg (outsAt0 m c (n + 1) hn).2.1 e1).trans (bsum_last m c R n (by have : n + 1 = 32 := ht; omega) hn (y 0))

theorem final9 : (dats m 0 c).arrAt 9 cfg0.N = fun i : S1x16.Idx => (Gs X D σ (i 1) : EReal) := by
  refine (dats m 0 c).arrAt_eq_of_covers 9 _ (by decide +kernel) fun t hf y => ?_
  have ht := flush9 t hf
  blk_simp
  rw [after0_9]
  obtain ⟨n, hn⟩ := t
  obtain ⟨n, rfl⟩ : ∃ k, n = k + 1 := ⟨n - 1, by have : n = 32 := ht; omega⟩
  have e : (win0_9.blk ⟨n + 1, hn⟩).view.emb y = y := by
    blk_ext [idx9]
  rw [e]
  have e1 : y = ix2 0 (y 1) := by
    funext a
    match a with
    | 0 => exact Subsingleton.elim (α := Fin 1) _ _
    | 1 => rfl
  exact (congrArg (outsAt0 m c (n + 1) hn).2.2.1 e1).trans (dsk_last m c R n (by have : n + 1 = 32 := ht; omega) hn (y 1))

end Cert.Attn

end
-- ==== Proof.RefIn.lean ====
/- The reference's queries, keys, values and output gradients, block by block, and its masked scores, in real numbers. -/
module

public import proofs.«01_k».proof.Proof.Gen.ReferenceIdeal.Read
public import proofs.«01_k».proof.Proof.Group
public import Idealize.ShloMosaic.Lib.Pointwise

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read

variable {X D : ℕ → ℕ → ℝ} {σ : ℕ → ℝ} {x : FVec Ideal S1536x4096 .bf16} {d : FVec Ideal S1024x4096 .bf16} {s : FVec Ideal S1x16 .f32}
  (hx : ∀ (r : Fin 1536) (p : Fin 4096), x (ix2 r p) = (X r p : EReal))
  (hd : ∀ (r : Fin 1024) (p : Fin 4096), d (ix2 r p) = (D r p : EReal))
  (hs : ∀ h : Fin 16, s (ix2 0 h) = (σ h : EReal))

/-- The query of a head of a group at a position of a block. -/
def jx (g : Fin 4) (c : Fin 128) : Fin 512 := ⟨128 * g + c, by omega⟩

theorem q_at (X : ℕ → ℕ → ℝ) (n kv : ℕ) (g : Fin 4) (c : Fin 128) (e : Fin 64) :
    qM X n kv e (jx g c) = X (256 * kv + 64 * g + e) (128 * n + c) := by
  have h1 : (128 * (g : ℕ) + c) / 128 = g := by omega
  have h2 : (128 * (g : ℕ) + c) % 128 = c := by omega
  simp only [qM, qq, jx, h1, h2]

theorem o_at (D : ℕ → ℕ → ℝ) (n kv : ℕ) (g : Fin 4) (c : Fin 128) (e : Fin 64) :
    oM D n kv e (jx g c) = D (256 * kv + 64 * g + e) (128 * n + c) := by
  have h1 : (128 * (g : ℕ) + c) / 128 = g := by omega
  have h2 : (128 * (g : ℕ) + c) % 128 = c := by omega
  simp only [oM, oo, jx, h1, h2]

/-- The reference's keys and values: zeros before position 0, where the model reads masked positions. -/
def kz (X : ℕ → ℕ → ℝ) (n kv : ℕ) (e : Fin 64) (t : Fin 256) : ℝ := if n = 0 ∧ t.val < 128 then 0 else kM X n kv e t
def vz (X : ℕ → ℕ → ℝ) (n kv : ℕ) (e : Fin 64) (t : Fin 256) : ℝ := if n = 0 ∧ t.val < 128 then 0 else vM X n kv e t

theorem kz_eq (X : ℕ → ℕ → ℝ) {n kv : ℕ} {j : Fin 512} {t : Fin 256} (h : mM n j t) (e : Fin 64) : kz X n kv e t = kM X n kv e t :=
  if_neg h.2

theorem vz_eq (X : ℕ → ℕ → ℝ) {n kv : ℕ} {j : Fin 512} {t : Fin 256} (h : mM n j t) (e : Fin 64) : vz X n kv e t = vM X n kv e t :=
  if_neg h.2

theorem sc_congr (X : ℕ → ℕ → ℝ) {n kv : ℕ} {j : Fin 512} {t : Fin 256} (h : mM n j t) :
    scR (kz X n kv) (qM X n kv) j t = scR (kM X n kv) (qM X n kv) j t := by
  simp only [scR, kz_eq X h]

theorem g_congr (X D : ℕ → ℕ → ℝ) {n kv : ℕ} {j : Fin 512} {t : Fin 256} (h : mM n j t) :
    gR (vz X n kv) (oM D n kv) j t = gR (vM X n kv) (oM D n kv) j t := by
  simp only [gR, vz_eq X h]

/-! ## The mask -/

theorem word_a : ∀ c : Fin 128, IntOp.addi (BitVec.ofNat 32 c) 128#32 = BitVec.ofNat 32 (c + 128) := by decide +kernel

theorem word_b : ∀ n : Fin 32, IntOp.cmpi .eq (BitVec.ofNat 32 n) 0#32 = if (n : ℕ) = 0 then 1#1 else 0#1 := by decide +kernel

theorem v60 (n : Fin 32) (g : Fin 4) (c : Fin 128) (t : Fin 256) :
    val_main_v60 (F := Ideal) (ix3 n c t) = if mM n (jx g c) t then 1#1 else 0#1 := by
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_c, val_main_c_5, val_main_c_6, val_main_c_7, val_main_c_8]
  rw [word_a, word_d, word_b, word_s]
  have h2 : (128 * (g : ℕ) + c) % 128 = c := by omega
  simp only [mM, MM, jx, h2]
  by_cases a : (t : ℕ) ≤ c + 128 ∧ (c : ℕ) < t <;> by_cases b : (n : ℕ) = 0 <;> by_cases e : (t : ℕ) < 128 <;> simp [a, b, e, IntOp.andi]

theorem v62_1 (n : Fin 32) (kv g : Fin 4) (c : Fin 128) (t : Fin 256) :
    val_main_v62_1 (F := Ideal) (ix6 0 n kv g c t) = if mM n (jx g c) t then 1#1 else 0#1 := by
  pointwise [val_main_v62_1, val_main_v61]
  exact v60 n g c t

/-! ## The arguments, block by block -/

section
include hx

theorem v9 (p : Fin 4096) (r : Fin 1536) : val_main_v9 (F := Ideal) x (ix3 0 p r) = (X r p : EReal) := by
  pointwise [val_main_v9, val_main_v2, val_main_v1, val_main_v0, val_main_v8, val_main_v7, val_main_v6, val_main_cst, hx]

theorem v11 (n : Fin 32) (c : Fin 128) (kv g : Fin 4) (e : Fin 64) :
    val_main_v11 (F := Ideal) x (ix6 0 n c kv g e) = (qM X n kv e (jx g c) : EReal) := by
  pointwise [val_main_v11, val_main_v10, v9 hx]
  rw [q_at]; congr 2 <;> omega

theorem v13 (n : Fin 32) (c : Fin 128) (kv : Fin 4) (e : Fin 64) :
    val_main_v13 (F := Ideal) x (ix5 0 n c kv e) = (X (1024 + 64 * kv + e) (128 * n + c) : EReal) := by
  pointwise [val_main_v13, val_main_v12, v9 hx]
  congr 2 <;> omega

theorem v15 (n : Fin 32) (c : Fin 128) (kv : Fin 4) (e : Fin 64) :
    val_main_v15 (F := Ideal) x (ix5 0 n c kv e) = (X (1280 + 64 * kv + e) (128 * n + c) : EReal) := by
  pointwise [val_main_v15, val_main_v14, v9 hx]
  congr 2 <;> omega

theorem v21 (n : Fin 32) (t : Fin 256) (kv : Fin 4) (e : Fin 64) :
    val_main_v21 (F := Ideal) x (ix5 0 n t kv e) = (kz X n kv e t : EReal) := by
  pointwise [val_main_v21, val_main_v19, val_main_v17, val_main_v18, val_main_cst_0, v13 hx]
  unfold kz kM kk
  by_cases h : (t : ℕ) < 128 <;> by_cases h' : (n : ℕ) = 0 <;> simp [h, h']

theorem v27 (n : Fin 32) (t : Fin 256) (kv : Fin 4) (e : Fin 64) :
    val_main_v27 (F := Ideal) x (ix5 0 n t kv e) = (vz X n kv e t : EReal) := by
  pointwise [val_main_v27, val_main_v25, val_main_v23, val_main_v24, val_main_cst_2, v15 hx]
  unfold vz vM vv
  by_cases h : (t : ℕ) < 128 <;> by_cases h' : (n : ℕ) = 0 <;> simp [h, h']

theorem v31 (n : Fin 32) (kv g : Fin 4) (c : Fin 128) (t : Fin 256) :
    val_main_v31 (F := Ideal) x (ix6 0 n kv g c t) = (scR (kz X n kv) (qM X n kv) (jx g c) t : EReal) := by
  unfold scR
  pointwise [val_main_v31, val_main_v30, val_main_v29, val_main_v28, val_main_cst_4, v21 hx, v11 hx]
  rw [ofBits_eighth]
  simp only [← EReal.coe_mul, ← coe_sum]

/-- The masked scores: where a score is not masked, its key is the model's. -/
theorem v62 (n : Fin 32) (kv g : Fin 4) (c : Fin 128) (t : Fin 256) :
    val_main_v62_0 (F := Ideal) x (ix6 0 n kv g c t) = S (mM n (jx g c)) (scR (kM X n kv) (qM X n kv) (jx g c)) t := by
  pointwise [val_main_v62_0, v62_1, v31 hx, val_main_call0_v2, val_main_call0_v0, val_main_cst_9, id_eq]
  rw [ofBits_bot, scalar_select]
  unfold S
  by_cases h : mM n (jx g c) t
  · rw [if_pos h, if_pos h, sc_congr X h]
  · rw [if_neg h, if_neg h]

end

section
include hd

theorem v108 (n : Fin 32) (c : Fin 128) (kv g : Fin 4) (e : Fin 64) :
    val_main_v108 (F := Ideal) d (ix6 0 n c kv g e) = (oM D n kv e (jx g c) : EReal) := by
  pointwise [val_main_v108, val_main_v5, val_main_v4, val_main_v3, hd]
  rw [o_at]; congr 2 <;> omega

theorem v109 (n : Fin 32) (kv g : Fin 4) (e : Fin 64) (c : Fin 128) :
    val_main_v109 (F := Ideal) d (ix6 0 n kv e g c) = (oM D n kv e (jx g c) : EReal) := by
  pointwise [val_main_v109, v108 hd]

include hx

theorem v110 (n : Fin 32) (kv g : Fin 4) (c : Fin 128) (t : Fin 256) :
    val_main_v110 (F := Ideal) x d (ix6 0 n kv g c t) = (gR (vz X n kv) (oM D n kv) (jx g c) t : EReal) := by
  unfold gR
  pointwise [val_main_v110, v109 hd, v27 hx]
  simp only [← EReal.coe_mul, ← coe_sum, mul_comm]

end

section
include hs

theorem v63 (kv g : Fin 4) (c : Fin 128) : val_main_v63 (F := Ideal) s (ix6 0 0 kv g 0 0) = (ss σ kv (jx g c) : EReal) := by
  pointwise [val_main_v63, hs]
  unfold ss jx
  congr 2; simp; omega

end
end Cert.Attn.Ref

end
-- ==== Proof.RefSum.lean ====
/- Sums and maxima over the axes of the reference's rank-6 arrays. -/
module

public import proofs.«01_k».proof.Proof.Gen.ReferenceIdeal.Run
public import Idealize.ShloMosaic.PureOps.Ideal.Laws
public import Idealize.ShloMosaic.Lib.Pointwise

@[expose] public section

set_option maxRecDepth 16384

noncomputable section

namespace Cert.Attn.Ref

open Idealize.ShloMosaic Idealize.ShloMosaic.TcCoe Idealize.SL.Sem
open Cert.ReferenceIdeal Cert.ReferenceIdeal.Gen

/-! ## Sums over the axes of a rank-6 array -/

/-- Along the last axis. -/
theorem sum_last (v : S1x32x4x4x128x256.Idx → EReal) (init : EReal) (n : Fin 32) (kv g : Fin 4) (c : Fin 128) :
    Ideal.hostReduceAdd reducesTo_S1x32x4x4x128x256_S1x32x4x4x128_d5 v init (ix5 0 n kv g c) = init + ∑ k, v (ix6 0 n kv g c k) := by
  rw [Ideal.hostReduceAdd_single reducesTo_S1x32x4x4x128x256_S1x32x4x4x128_d5 (by decide)]
  refine congrArg (_ + ·) (Finset.sum_congr rfl fun k _ => congrArg v (funext fun a => Fin.ext ?_))
  match a with | ⟨0, _⟩ => rfl | ⟨1, _⟩ => rfl | ⟨2, _⟩ => rfl | ⟨3, _⟩ => rfl | ⟨4, _⟩ => rfl | ⟨5, _⟩ => rfl

/-- A maximum along the last axis. -/
theorem max_last (v : S1x32x4x4x128x256.Idx → EReal) (init : S_.Idx → EReal) (n : Fin 32) (kv g : Fin 4) (c : Fin 128) :
    Host.reduce (FloatOps.maximumf (F := Ideal) (φ := .f32)) v init reducesTo_S1x32x4x4x128x256_S1x32x4x4x128_d5 h_S_ (ix5 0 n kv g c)
      = Finset.univ.fold max (init ix0) fun k => v (ix6 0 n kv g c k) := by
  rw [Host.reduce_eq_fold]
  have h : S1x32x4x4x128x256.Reduces [5] S1x32x4x4x128 := by decide
  rw [Shape.ReducesTo.drop_eq_drop reducesTo_S1x32x4x4x128x256_S1x32x4x4x128_d5 h, h.fold_filter_drop_single]
  have e : init (Shape.Idx.first h_S_) = init ix0 := congrArg init (funext fun a => a.elim0)
  rw [e]
  refine congrArg (Finset.fold max (init ix0) · Finset.univ) (funext fun k => congrArg v (funext fun a => Fin.ext ?_))
  match a with | ⟨0, _⟩ => rfl | ⟨1, _⟩ => rfl | ⟨2, _⟩ => rfl | ⟨3, _⟩ => rfl | ⟨4, _⟩ => rfl | ⟨5, _⟩ => rfl

/-- Along the blocks and a block's positions. -/
theorem sum_pos (v : S1x32x4x4x128x1.Idx → EReal) (init : EReal) (kv g : Fin 4) :
    Ideal.hostReduceAdd reducesTo_S1x32x4x4x128x1_S1x4x4x1_d1_4 v init (ix4 0 kv g 0) = init + ∑ n, ∑ c, v (ix6 0 n kv g c 0) := by
  unfold Ideal.hostReduceAdd
  refine congrArg (init + ·) ((Finset.sum_filter_eq_sum_of_fiber _ (fun k : Fin 32 × Fin 128 => (ix6 0 k.1 kv g k.2 0 : S1x32x4x4x128x1.Idx))
    (fun _ _ e => Prod.ext (congrFun e 1) (congrFun e 4)) (fun i => ⟨fun e => ⟨(i 1, i 4), ?_⟩, ?_⟩) v).trans ?_)
  · funext a
    apply Fin.ext
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
    | ⟨5, _⟩ => exact (congrArg Fin.val (congrFun e ⟨3, by decide⟩)).symm
  · rintro ⟨k, rfl⟩
    funext b
    apply Fin.ext
    match b with | ⟨0, _⟩ => rfl | ⟨1, _⟩ => rfl | ⟨2, _⟩ => rfl | ⟨3, _⟩ => rfl
  · simp only [Fintype.sum_prod_type]

/-- Along two axes of one entry. -/
theorem sum_unit (v : S1x32x4x4x128x1.Idx → EReal) (init : EReal) (n : Fin 32) (kv g : Fin 4) (c : Fin 128) :
    Ideal.hostReduceAdd reducesTo_S1x32x4x4x128x1_S32x4x4x128_d0_5 v init (ix4 n kv g c) = init + v (ix6 0 n kv g c 0) := by
  unfold Ideal.hostReduceAdd
  refine congrArg (init + ·) ((Finset.sum_filter_eq_sum_of_fiber _ (fun k : Fin 1 × Fin 1 => (ix6 k.1 n kv g c k.2 : S1x32x4x4x128x1.Idx))
    (fun _ _ e => Prod.ext (congrFun e 0) (congrFun e 5)) (fun i => ⟨fun e => ⟨(i 0, i 5), ?_⟩, ?_⟩) v).trans ?_)
  · funext a
    apply Fin.ext
    match a with
    | ⟨0, _⟩ => rfl
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => rfl
  · rintro ⟨k, rfl⟩
    funext b
    apply Fin.ext
    match b with | ⟨0, _⟩ => rfl | ⟨1, _⟩ => rfl | ⟨2, _⟩ => rfl | ⟨3, _⟩ => rfl
  · simp [Fintype.sum_prod_type]

theorem sum_unit3 (v : S1x1x1536.Idx → EReal) (init : EReal) (r : Fin 1536) :
    Ideal.hostReduceAdd reducesTo_S1x1x1536_S1536_d0_1 v init (ix1 r) = init + v (ix3 0 0 r) := by
  unfold Ideal.hostReduceAdd
  refine congrArg (init + ·) ((Finset.sum_filter_eq_sum_of_fiber _ (fun k : Fin 1 × Fin 1 => (ix3 k.1 k.2 r : S1x1x1536.Idx))
    (fun _ _ e => Prod.ext (congrFun e 0) (congrFun e 1)) (fun i => ⟨fun e => ⟨(i 0, i 1), ?_⟩, ?_⟩) v).trans ?_)
  · funext a
    apply Fin.ext
    match a with
    | ⟨0, _⟩ => rfl
    | ⟨1, _⟩ => rfl
    | ⟨2, _⟩ => exact (congrArg Fin.val (congrFun e ⟨0, by decide⟩)).symm
  · rintro ⟨k, rfl⟩
    funext b
    apply Fin.ext
    match b with | ⟨0, _⟩ => rfl
  · simp [Fintype.sum_prod_type]

/-- The maximum of a row is one of its entries. -/
theorem max_mem (f : Fin 256 → EReal) : ∃ t, f t = Finset.univ.fold max ⊥ f := by
  obtain ⟨t, _, h⟩ := Finset.exists_mem_eq_sup Finset.univ ⟨(0 : Fin 256), Finset.mem_univ _⟩ f
  exact ⟨t, h.symm⟩

end Cert.Attn.Ref

end
-- ==== Proof.RefRow.lean ====
/- The reference's rows: its maximum, exponentials, normaliser, and the gradients of the scores and of the sinks. -/
module

public import proofs.«01_k».proof.Proof.RefIn
public import proofs.«01_k».proof.Proof.RefSum

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read

variable {X D : ℕ → ℕ → ℝ} {σ : ℕ → ℝ} {x : FVec Ideal S1536x4096 .bf16} {d : FVec Ideal S1024x4096 .bf16} {s : FVec Ideal S1x16 .f32}
  (hx : ∀ (r : Fin 1536) (p : Fin 4096), x (ix2 r p) = (X r p : EReal))
  (hd : ∀ (r : Fin 1024) (p : Fin 4096), d (ix2 r p) = (D r p : EReal))
  (hs : ∀ h : Fin 16, s (ix2 0 h) = (σ h : EReal))

/-! ## The maximum, the exponentials and the normaliser -/

section max
include hx

theorem v64 (n : Fin 32) (kv g : Fin 4) (c : Fin 128) : val_main_v64 (F := Ideal) x (ix5 0 n kv g c)
    = Finset.univ.fold max ⊥ (S (mM n (jx g c)) (scR (kM X n kv) (qM X n kv) (jx g c))) := by
  unfold val_main_v64
  refine (max_last ..).trans ?_
  simp only [v62 hx]
  pointwise [val_main_cst_10]
  rw [ofBits_bot]

/-- The number of entries equal to the maximum is not zero. -/
theorem v69 (n : Fin 32) (kv g : Fin 4) (c : Fin 128) : val_main_v69 (F := Ideal) x (ix5 0 n kv g c) ≠ 0 := by
  pointwise [val_main_v69, sum_last, val_main_cst_11, val_main_v68, val_main_v67, val_main_v66, val_main_v65, v64 hx, v62 hx]
  obtain ⟨t, ht⟩ := max_mem (S (mM n (jx g c)) (scR (kM X n kv) (qM X n kv) (jx g c)))
  intro h
  have h1 := Finset.single_le_sum (f := fun k => FloatOps.uitofp (F := Ideal) .f32 (BitVec.ofBool (decide
      (S (mM n (jx g c)) (scR (kM X n kv) (qM X n kv) (jx g c)) k
        = Finset.univ.fold max ⊥ (S (mM n (jx g c)) (scR (kM X n kv) (qM X n kv) (jx g c)))))))
    (fun k _ => EReal.coe_nonneg.2 (Nat.cast_nonneg _)) (Finset.mem_univ t)
  rw [h] at h1
  simp only [ht, decide_true] at h1
  have h2 : FloatOps.uitofp (F := Ideal) .f32 (BitVec.ofBool true) = ((1 : ℝ) : EReal) := by
    show ((((BitVec.ofBool true).toNat : ℕ) : ℝ) : EReal) = _
    have h3 : (BitVec.ofBool true).toNat = 1 := rfl
    rw [h3, Nat.cast_one]
  rw [h2] at h1
  exact absurd (EReal.coe_nonpos.1 h1) (by norm_num)

theorem v70 (n : Fin 32) (kv g : Fin 4) (c : Fin 128) : val_main_v70 (F := Ideal) x (ix6 0 n kv g c 0)
    = Finset.univ.fold max ⊥ (S (mM n (jx g c)) (scR (kM X n kv) (qM X n kv) (jx g c))) := by
  pointwise [val_main_v70]
  exact v64 hx n kv g c

include hs

theorem v71 (n : Fin 32) (kv g : Fin 4) (c : Fin 128) :
    val_main_v71 (F := Ideal) s (ix6 0 n kv g c 0) = (ss σ kv (jx g c) : EReal) := by
  pointwise [val_main_v71]
  exact v63 hs kv g c

theorem v72_at (n : Fin 32) (kv g : Fin 4) (c : Fin 128) : ∃ μ : ℝ, val_main_v72 (F := Ideal) x s (ix6 0 n kv g c 0) = (μ : EReal) := by
  obtain ⟨μ, h⟩ := max_real (mM n (jx g c)) (scR (kM X n kv) (qM X n kv) (jx g c)) (ss σ kv (jx g c)) (exists_unmasked n (jx g c))
  refine ⟨μ, ?_⟩
  rw [val_main_v72_apply, v70 hx n kv g c, v71 hx hs n kv g c]
  exact h

theorem v72 : ∃ μ : Fin 32 → Fin 4 → Fin 4 → Fin 128 → ℝ, ∀ n kv g c,
    val_main_v72 (F := Ideal) x s (ix6 0 n kv g c 0) = (μ n kv g c : EReal) :=
  ⟨fun n kv g c => (v72_at hx hs n kv g c).choose, fun n kv g c => (v72_at hx hs n kv g c).choose_spec⟩

end max

variable {μ : Fin 32 → Fin 4 → Fin 4 → Fin 128 → ℝ}
  (hμ : ∀ n kv g c, val_main_v72 (F := Ideal) x s (ix6 0 n kv g c 0) = (μ n kv g c : EReal))

section row
include hx hμ

theorem v93 (n : Fin 32) (kv g : Fin 4) (c : Fin 128) (t : Fin 256) : val_main_v93 (F := Ideal) x s (ix6 0 n kv g c t)
    = (Eμ (mM n (jx g c)) (scR (kM X n kv) (qM X n kv) (jx g c)) (μ n kv g c) t : EReal) := by
  pointwise [val_main_v93, val_main_v92, val_main_v91, v62 hx, hμ]
  exact exp_S ..

include hs

theorem v98 (n : Fin 32) (kv g : Fin 4) (c : Fin 128) : val_main_v98 (F := Ideal) x s (ix6 0 n kv g c 0)
    = ((Real.exp (ss σ kv (jx g c)) * Real.exp (-μ n kv g c) : ℝ) : EReal) := by
  pointwise [val_main_v98, val_main_v97, val_main_v96, v63 hs kv g c, hμ]
  exact exp_sink ..

theorem v99 (n : Fin 32) (kv g : Fin 4) (c : Fin 128) : val_main_v99 (F := Ideal) x s (ix6 0 n kv g c 0)
    = (Zμ (mM n (jx g c)) (scR (kM X n kv) (qM X n kv) (jx g c)) (ss σ kv (jx g c)) (μ n kv g c) : EReal) := by
  pointwise [val_main_v99, val_main_v95, val_main_v94, sum_last, val_main_cst_18, v93 hx hμ, v98 hx hs hμ]
  rw [← coe_sum, ← EReal.coe_add]
  unfold Zμ Z Eμ
  rw [← Finset.sum_mul, ← add_mul]

theorem v101 (n : Fin 32) (kv g : Fin 4) (c : Fin 128) (t : Fin 256) : val_main_v101 (F := Ideal) x s (ix6 0 n kv g c t)
    = (rP X σ n kv (jx g c) t : EReal) := by
  pointwise [val_main_v101, val_main_v100, v93 hx hμ, v99 hx hs hμ]
  rw [div_real _ (Zμ_ne _ _ _ _), Pr_eq]; rfl

include hd

theorem v118 (n : Fin 32) (kv g : Fin 4) (c : Fin 128) : val_main_v118 (F := Ideal) x d s (ix6 0 n kv g c 0)
    = ((-Wμ (mM n (jx g c)) (scR (kM X n kv) (qM X n kv) (jx g c)) (gR (vM X n kv) (oM D n kv) (jx g c)) (ss σ kv (jx g c))
        (μ n kv g c) : ℝ) : EReal) := by
  pointwise [val_main_v118, val_main_v117, val_main_v116, sum_last, val_main_cst_20, val_main_v115, val_main_v114, val_main_v113,
    val_main_v104, val_main_v103, val_main_cst_19, val_main_v102, v93 hx hμ, v99 hx hs hμ, v110 hx hd]
  rw [← EReal.coe_mul, one_div_real (mul_ne_zero (Zμ_ne _ _ _ _) (Zμ_ne _ _ _ _))]
  simp only [← EReal.coe_mul, ← coe_sum, ← EReal.coe_neg]
  unfold Wμ
  congr 2
  refine Finset.sum_congr rfl fun t _ => ?_
  by_cases h : mM n (jx g c) t
  · rw [g_congr X D h]
  · simp [Eμ, E, h]

theorem v121 (n : Fin 32) (kv g : Fin 4) (c : Fin 128) : val_main_v121 (F := Ideal) x d s (ix6 0 n kv g c 0)
    = (rSk X D σ n kv (jx g c) : EReal) := by
  pointwise [val_main_v121, v118 hx hd hs hμ, v98 hx hs hμ]
  rw [← EReal.coe_mul, sink_eq]; rfl

theorem v129 (n : Fin 32) (kv g : Fin 4) (c : Fin 128) (t : Fin 256) : val_main_v129 (F := Ideal) x d s (ix6 0 n kv g c t)
    = (rDs X D σ n kv (jx g c) t : EReal) := by
  pointwise [val_main_v129, val_main_v128, val_main_v127, val_main_v126, val_main_v125, sum_unit, val_main_cst_22, val_main_v120,
    val_main_v119, v118 hx hd hs hμ, v93 hx hμ, v99 hx hs hμ, v110 hx hd]
  rw [div_real _ (Zμ_ne _ _ _ _), ← EReal.coe_add, ← EReal.coe_mul]
  unfold rDs
  rw [← Ds_eq _ _ _ _ (μ n kv g c)]
  by_cases h : mM n (jx g c) t
  · rw [g_congr X D h]
  · simp [Eμ, E, h]

/-- Nothing passes through the subtracted maximum. -/
theorem v133 (n : Fin 32) (kv g : Fin 4) (c : Fin 128) : val_main_v133 (F := Ideal) x d s (ix6 0 n kv g c 0) = 0 := by
  pointwise [val_main_v133, val_main_v124, v121 hx hd hs hμ, val_main_v132, val_main_v131, sum_last, val_main_cst_23, val_main_v130,
    v129 hx hd hs hμ]
  simp only [← EReal.coe_neg, ← coe_sum, ← EReal.coe_add]
  unfold rSk rDs
  rw [max_eq, EReal.coe_zero]

theorem v148 (n : Fin 32) (kv g : Fin 4) (c : Fin 128) (t : Fin 256) : val_main_v148 (F := Ideal) x d s (ix6 0 n kv g c t)
    = ((rDs X D σ n kv (jx g c) t * (1 / 8) : ℝ) : EReal) := by
  have h69 := v69 hx n kv g c
  pointwise [val_main_v148, val_main_v147, val_main_cst_26, val_main_v146, v62_1, val_main_call1_v0, val_main_call1_cst, val_main_v144,
    val_main_v143, val_main_v142, val_main_v141, val_main_v140, val_main_v139, sum_unit, val_main_cst_25, val_main_v138, v133 hx hd hs hμ,
    v129 hx hd hs hμ]
  have h0 : ∀ y : EReal, y ≠ 0 → Ideal.div (0 * val_main_v81 (F := Ideal) x s (ix6 0 n kv g c 0)) y = 0 := fun y hy => by simp [Ideal.div, hy]
  rw [h0 _ h69, zero_mul, add_zero, ofBits_eighth, scalar_select, ← EReal.coe_mul]
  by_cases h : mM n (jx g c) t
  · rw [if_pos h]
  · rw [if_neg h]; unfold rDs; rw [Ds_masked _ _ _ _ h, zero_mul, EReal.coe_zero]

end row
end Cert.Attn.Ref

end
-- ==== Proof.RefGrad.lean ====
/- The reference's three results: the gradients of the queries, keys and values put back at their positions, their sums
   over the positions, and the gradients of the sinks. -/
module

public import proofs.«01_k».proof.Proof.RefRow

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read

/-- A sum over the 512 queries of a group, head by head. -/
theorem sum_jx {M : Type} [AddCommMonoid M] (f : Fin 512 → M) : ∑ j, f j = ∑ g : Fin 4, ∑ c : Fin 128, f (jx g c) := by
  refine (Fin.sum_univ_tiles 4 128 rfl f).trans ?_
  refine Finset.sum_congr rfl fun g _ => Finset.sum_congr rfl fun c _ => congrArg f (Fin.ext ?_)
  simp only [jx]; omega

variable {X D : ℕ → ℕ → ℝ} {σ : ℕ → ℝ} {x : FVec Ideal S1536x4096 .bf16} {d : FVec Ideal S1024x4096 .bf16} {s : FVec Ideal S1x16 .f32}
  (hx : ∀ (r : Fin 1536) (p : Fin 4096), x (ix2 r p) = (X r p : EReal))
  (hd : ∀ (r : Fin 1024) (p : Fin 4096), d (ix2 r p) = (D r p : EReal))
  (hs : ∀ h : Fin 16, s (ix2 0 h) = (σ h : EReal))
  {μ : Fin 32 → Fin 4 → Fin 4 → Fin 128 → ℝ}
  (hμ : ∀ n kv g c, val_main_v72 (F := Ideal) x s (ix6 0 n kv g c 0) = (μ n kv g c : EReal))
include hx hs hμ hd

/-! ## The gradients of the queries, keys and values -/

theorem v149 (n : Fin 32) (kv g : Fin 4) (c : Fin 128) (t : Fin 256) : val_main_v149 (F := Ideal) x d s (ix6 0 n kv t c g)
    = ((rDs X D σ n kv (jx g c) t * (1 / 8) : ℝ) : EReal) := by
  pointwise [val_main_v149, v148 hx hd hs hμ]

theorem v151 (n : Fin 32) (c : Fin 128) (kv g : Fin 4) (e : Fin 64) : val_main_v151 (F := Ideal) x d s (ix6 0 n c kv g e)
    = (rDq X D σ n kv e (jx g c) : EReal) := by
  pointwise [val_main_v151, val_main_v150, v149 hx hd hs hμ, v21 hx]
  simp only [← EReal.coe_mul, ← coe_sum]
  unfold rDq
  congr 1
  refine Finset.sum_congr rfl fun t _ => ?_
  by_cases h : mM n (jx g c) t
  · rw [kz_eq X h, mul_comm]
  · unfold rDs; rw [Ds_masked _ _ _ _ h]; simp

theorem v153 (n : Fin 32) (t : Fin 256) (kv : Fin 4) (e : Fin 64) : val_main_v153 (F := Ideal) x d s (ix5 0 n t kv e)
    = (rDk X D σ n kv e t : EReal) := by
  pointwise [val_main_v153, val_main_v152, v149 hx hd hs hμ, v11 hx]
  simp only [← EReal.coe_mul, ← coe_sum]
  unfold rDk
  rw [sum_jx, Finset.sum_comm]
  simp only [mul_comm]

theorem v112 (n : Fin 32) (t : Fin 256) (kv : Fin 4) (e : Fin 64) : val_main_v112 (F := Ideal) x d s (ix5 0 n t kv e)
    = (rDv X D σ n kv e t : EReal) := by
  pointwise [val_main_v112, val_main_v111, v101 hx hs hμ, v109 hd]
  simp only [← EReal.coe_mul, ← coe_sum]
  unfold rDv
  rw [sum_jx]

theorem v165 (n : Fin 32) (c : Fin 128) (kv : Fin 4) (e : Fin 64) : val_main_v165 (F := Ideal) x d s (ix5 0 n c kv e)
    = ((rDk X D σ n kv e ⟨128 + c, by omega⟩ + if (n : ℕ) + 1 < 32 then rDk X D σ (n + 1) kv e ⟨c, by omega⟩ else 0 : ℝ) : EReal) := by
  pointwise [val_main_v165, val_main_v164, val_main_v163, val_main_v161, val_main_v160, val_main_cst_28, v153 hx hd hs hμ]
  by_cases h : (n : ℕ) < 31
  · rw [dif_pos h, if_pos (by omega), EReal.coe_add]
    exact congrArg (fun k => _ + ((rDk X D σ k kv e ⟨(c : ℕ), by omega⟩ : ℝ) : EReal)) (Nat.add_comm 1 (n : ℕ))
  · rw [dif_neg h, if_neg (by omega), add_zero, add_zero]

theorem v159 (n : Fin 32) (c : Fin 128) (kv : Fin 4) (e : Fin 64) : val_main_v159 (F := Ideal) x d s (ix5 0 n c kv e)
    = ((rDv X D σ n kv e ⟨128 + c, by omega⟩ + if (n : ℕ) + 1 < 32 then rDv X D σ (n + 1) kv e ⟨c, by omega⟩ else 0 : ℝ) : EReal) := by
  pointwise [val_main_v159, val_main_v158, val_main_v157, val_main_v155, val_main_v154, val_main_cst_27, v112 hx hd hs hμ]
  by_cases h : (n : ℕ) < 31
  · rw [dif_pos h, if_pos (by omega), EReal.coe_add]
    exact congrArg (fun k => _ + ((rDv X D σ k kv e ⟨(c : ℕ), by omega⟩ : ℝ) : EReal)) (Nat.add_comm 1 (n : ℕ))
  · rw [dif_neg h, if_neg (by omega), add_zero, add_zero]

/-! ## The results -/

theorem v173 (p : Fin 4096) (r : Fin 1536) : val_main_v173 (F := Ideal) x d s (ix3 0 p r) = (G X D σ r p : EReal) := by
  pointwise [val_main_v173, val_main_v172, val_main_v171, val_main_v170, val_main_v169, val_main_v168, val_main_v167, val_main_v166,
    val_main_cst_29, val_main_cst_30, val_main_cst_31, v159 hx hd hs hμ, v165 hx hd hs hμ, v151 hx hd hs hμ]
  have hq : jx ⟨(r : ℕ) / 64 % 4, by omega⟩ ⟨(p : ℕ) % 128, by omega⟩ = ⟨(r : ℕ) % 256 / 64 * 128 + p % 128, by omega⟩ :=
    Fin.ext (by simp only [jx]; omega)
  unfold G done new prv
  rw [hq]
  by_cases h1 : (r : ℕ) < 1024
  · have a1 : ¬(1280 ≤ (r : ℕ) ∧ (r : ℕ) - 1280 < 256) := by omega
    have a2 : ¬(1024 ≤ (r : ℕ) ∧ (r : ℕ) - 1024 < 256) := by omega
    rw [dif_neg a1, dif_neg a2, dif_pos h1]
    simp [h1]
  · by_cases h2 : (r : ℕ) < 1280
    · have a1 : ¬(1280 ≤ (r : ℕ) ∧ (r : ℕ) - 1280 < 256) := by omega
      have a2 : 1024 ≤ (r : ℕ) ∧ (r : ℕ) - 1024 < 256 := by omega
      rw [dif_neg a1, dif_pos a2, dif_neg h1, zero_add, add_zero]
      simp only [h1, h2, if_true, if_false]
    · have a1 : 1280 ≤ (r : ℕ) ∧ (r : ℕ) - 1280 < 256 := by omega
      have a2 : ¬(1024 ≤ (r : ℕ) ∧ (r : ℕ) - 1024 < 256) := by omega
      rw [dif_pos a1, dif_neg a2, dif_neg h1, add_zero, add_zero]
      simp only [h1, h2, if_false]

theorem v179 (r : Fin 1536) (p : Fin 4096) : val_main_v179 (F := Ideal) x d s (ix2 r p) = (G X D σ r p : EReal) := by
  pointwise [val_main_v179, val_main_v178, val_main_v177]
  exact v173 hx hd hs hμ p r

theorem v180 (r : Fin 1536) : val_main_v180 (F := Ideal) x d s (ix2 r 0) = (Gb X D σ r : EReal) := by
  pointwise [val_main_v180, val_main_v176, sum_unit3, val_main_cst_33, val_main_v175, val_main_v174, val_main_cst_32, v173 hx hd hs hμ]
  simp only [← coe_sum]
  congr 1
  unfold Gb
  refine (Fin.sum_univ_tiles 32 128 rfl _).trans ?_
  refine Finset.sum_congr rfl fun n _ => Finset.sum_congr rfl fun c _ => ?_
  unfold G
  have h1 : ((n : ℕ) * 128 + c) / 128 = n := by omega
  have h2 : ((n : ℕ) * 128 + c) % 128 = c := by omega
  simp only [h1, h2]

theorem v145 (h : Fin 16) : val_main_v145 (F := Ideal) x d s (ix2 0 h) = (Gs X D σ h : EReal) := by
  pointwise [val_main_v145, val_main_v137, val_main_v136, val_main_v135, val_main_v134, val_main_v123, val_main_v122, sum_pos,
    val_main_cst_21, val_main_cst_24, v121 hx hd hs hμ, v133 hx hd hs hμ]
  simp only [zero_mul, Finset.sum_const_zero, add_zero, ← coe_sum]
  congr 1
  unfold Gs
  refine Finset.sum_congr rfl fun n _ => Finset.sum_congr rfl fun c _ => congrArg _ (Fin.ext ?_)
  simp only [jx]; omega

end Cert.Attn.Ref

end
-- ==== Proof.MlpUp.lean ====
/- What the forward half of the perceptron's program leaves in its arrays, region by region. -/
module

public import proofs.«01_k».proof.Proof.Gen.Kernel2Ideal.Frame
public import Idealize.ShloMosaic.Lib.Pipeline.ValueKit

@[expose] public section

set_option maxRecDepth 16384

noncomputable section

namespace Cert.Mlp

open Idealize.ShloMosaic Idealize.ShloMosaic.TcCoe Idealize.SL.Sem
open Cert.Kernel2Ideal Cert.Kernel2Ideal.Gen

/-- The squared positive part of a product: the hidden layer. -/
def up (a : FVec Ideal S4096x1024 .bf16) (b : FVec Ideal S1024x4096 .bf16) : FVec Ideal S4096x4096 .bf16 :=
  fun i => max (∑ k : Fin 1024, a (ix2 (i 0) k) * b (ix2 k (i 1))) 0 * max (∑ k : Fin 1024, a (ix2 (i 0) k) * b (ix2 k (i 1))) 0

/-- The second product of the forward pass. -/
def down (p : FVec Ideal S4096x4096 .bf16) (b : FVec Ideal S4096x1024 .bf16) : FVec Ideal S4096x1024 .f32 :=
  fun i => ∑ k : Fin 4096, p (ix2 (i 0) k) * b (ix2 k (i 1))

theorem at0 : ∀ t : Fin cfg0.N, win0_0.index t = ![t.val / 4, 0] ∧ win0_1.index t = ![0, t.val % 4] ∧ win0_2.index t = ![t.val / 4, t.val % 4] :=
  (by decide +kernel : ∀ t : Fin grid0.N, _)
theorem at1 : ∀ t : Fin cfg1.N, win1_0.index t = ![t.val, 0] ∧ win1_1.index t = ![0, 0] ∧ win1_2.index t = ![t.val, 0] :=
  (by decide +kernel : ∀ t : Fin grid1.N, _)

variable (V : (c : Dev nD) → (b : Ref sig .tc) → Buf (Elt Ideal) ((c : Thread nD τ).loc b)) (c : Dev nD)

theorem point0 (t : Fin cfg0.N) (y) : k0_pay1 (F := Ideal) (iblk0 V c 0 t) (iblk0 V c 1 t) y
    = up (V c main_arg0) (V c main_arg1) ((win0_2.blk t).view.emb y) := by
  pointwise [k0_pay1, up]
  blk_point [iblk0, (at0 t).1, (at0 t).2.1, (at0 t).2.2]

theorem final0 : (dat0 V c).arrAt 2 cfg0.N = up (V c main_arg0) (V c main_arg1) := by
  refine (dat0 V c).arrAt_eq_of_covers 2 _ (by decide +kernel) fun t _ y => ?_
  blk_simp
  rw [after0_2]; frame_out
  exact point0 V c t y

theorem point1 (t : Fin cfg1.N) (y) : k1_pay1 (F := Ideal) (iblk1 V c 0 t) (iblk1 V c 1 t) y
    = down (V c main_v0) (V c main_arg2) ((win1_2.blk t).view.emb y) := by
  pointwise [k1_pay1, down]
  blk_point [iblk1, (at1 t).1, (at1 t).2.1, (at1 t).2.2]

theorem final1 : (dat1 V c).arrAt 2 cfg1.N = down (V c main_v0) (V c main_arg2) := by
  refine (dat1 V c).arrAt_eq_of_covers 2 _ (by decide +kernel) fun t _ y => ?_
  blk_simp
  rw [after1_2]; frame_out
  exact point1 V c t y

end Cert.Mlp

end
-- ==== Proof.MlpDown.lean ====
/- What the backward half of the perceptron's program leaves in its arrays, region by region. -/
module

public import proofs.«01_k».proof.Proof.Gen.Kernel2Ideal.Frame
public import Idealize.ShloMosaic.Lib.Pipeline.ValueKit

@[expose] public section

set_option maxRecDepth 16384

noncomputable section

namespace Cert.Mlp

open Idealize.ShloMosaic Idealize.ShloMosaic.TcCoe Idealize.SL.Sem
open Cert.Kernel2Ideal Cert.Kernel2Ideal.Gen

/-- The hidden layer's cotangent before the activation: the product times twice the root of the kept square. -/
def dact (d : FVec Ideal S4096x1024 .bf16) (b : FVec Ideal S4096x1024 .bf16) (p : FVec Ideal S4096x4096 .bf16) : FVec Ideal S4096x4096 .bf16 :=
  fun i => (∑ k : Fin 1024, d (ix2 (i 0) k) * b (ix2 (i 1) k)) * (Ideal.ofBits .f32 0x40000000#32 * Ideal.sqrt (p i))

/-- The gradient of the second matrix. -/
def dwdown (p : FVec Ideal S4096x4096 .bf16) (d : FVec Ideal S4096x1024 .bf16) : FVec Ideal S4096x1024 .bf16 :=
  fun i => ∑ k : Fin 4096, p (ix2 k (i 0)) * d (ix2 k (i 1))

/-- The gradient of the first matrix, its columns split into eight blocks. -/
def dwup (u : FVec Ideal S4096x1024 .bf16) (a : FVec Ideal S4096x4096 .bf16) : FVec Ideal S8x1024x512 .bf16 :=
  fun i => ∑ k : Fin 4096, u (ix2 k (i 1)) * a (ix2 k (⟨(i 0).val * 512 + (i 2).val,
    by have h0 : (i 0).val < 8 := (i 0).isLt; have h2 : (i 2).val < 512 := (i 2).isLt; omega⟩ : Fin 4096))

/-- The gradient of the input. -/
def dx (a : FVec Ideal S4096x4096 .bf16) (w : FVec Ideal S1024x4096 .bf16) : FVec Ideal S4096x1024 .f32 :=
  fun i => ∑ k : Fin 4096, a (ix2 (i 0) k) * w (ix2 (i 1) k)

theorem at2 : ∀ t : Fin cfg2.N, win2_0.index t = ![t.val / 4, 0] ∧ win2_1.index t = ![t.val % 4, 0] ∧ win2_2.index t = ![t.val / 4, t.val % 4]
    ∧ win2_3.index t = ![t.val / 4, t.val % 4] := (by decide +kernel : ∀ t : Fin grid2.N, _)
theorem at3 : ∀ t : Fin cfg3.N, win3_0.index t = ![0, t.val] ∧ win3_1.index t = ![0, 0] ∧ win3_2.index t = ![t.val, 0] :=
  (by decide +kernel : ∀ t : Fin grid3.N, _)
theorem at4 : ∀ t : Fin cfg4.N, win4_0.index t = ![0, 0] ∧ win4_1.index t = ![0, t.val] ∧ win4_2.index t = ![t.val, 0, 0] :=
  (by decide +kernel : ∀ t : Fin grid4.N, _)
theorem at5 : ∀ t : Fin cfg5.N, win5_0.index t = ![t.val, 0] ∧ win5_1.index t = ![0, 0] ∧ win5_2.index t = ![t.val, 0] :=
  (by decide +kernel : ∀ t : Fin grid5.N, _)

variable (V : (c : Dev nD) → (b : Ref sig .tc) → Buf (Elt Ideal) ((c : Thread nD τ).loc b)) (c : Dev nD)

theorem point2 (t : Fin cfg2.N) (y) : k2_pay1 (F := Ideal) (iblk2 V c 0 t) (iblk2 V c 1 t) (iblk2 V c 2 t) y
    = dact (V c main_arg3) (V c main_arg2) (V c main_v0) ((win2_3.blk t).view.emb y) := by
  pointwise [k2_pay1, dact]
  blk_point [iblk2, (at2 t).1, (at2 t).2.1, (at2 t).2.2.1, (at2 t).2.2.2]

theorem final2 : (dat2 V c).arrAt 3 cfg2.N = dact (V c main_arg3) (V c main_arg2) (V c main_v0) := by
  refine (dat2 V c).arrAt_eq_of_covers 3 _ (by decide +kernel) fun t _ y => ?_
  blk_simp
  rw [after2_3]; frame_out
  exact point2 V c t y

theorem point3 (t : Fin cfg3.N) (y) : k3_pay1 (F := Ideal) (iblk3 V c 0 t) (iblk3 V c 1 t) y
    = dwdown (V c main_v0) (V c main_arg3) ((win3_2.blk t).view.emb y) := by
  pointwise [k3_pay1, dwdown]
  blk_point [iblk3, (at3 t).1, (at3 t).2.1, (at3 t).2.2]

theorem final3 : (dat3 V c).arrAt 2 cfg3.N = dwdown (V c main_v0) (V c main_arg3) := by
  refine (dat3 V c).arrAt_eq_of_covers 2 _ (by decide +kernel) fun t _ y => ?_
  blk_simp
  rw [after3_2]; frame_out
  exact point3 V c t y

theorem point4 (t : Fin cfg4.N) (y) : k4_pay1 (F := Ideal) (iblk4 V c 0 t) (iblk4 V c 1 t) y
    = dwup (V c main_arg0) (V c main_v2) ((win4_2.blk t).view.emb y) := by
  pointwise [k4_pay1, dwup]
  blk_point [iblk4, (at4 t).1, (at4 t).2.1, (at4 t).2.2]

theorem final4 : (dat4 V c).arrAt 2 cfg4.N = dwup (V c main_arg0) (V c main_v2) := by
  refine (dat4 V c).arrAt_eq_of_covers 2 _ (by decide +kernel) fun t _ y => ?_
  blk_simp
  rw [after4_2]; frame_out
  exact point4 V c t y

theorem point5 (t : Fin cfg5.N) (y) : k5_pay1 (F := Ideal) (iblk5 V c 0 t) (iblk5 V c 1 t) y
    = dx (V c main_v2) (V c main_arg1) ((win5_2.blk t).view.emb y) := by
  pointwise [k5_pay1, dx]
  blk_point [iblk5, (at5 t).1, (at5 t).2.1, (at5 t).2.2]

theorem final5 : (dat5 V c).arrAt 2 cfg5.N = dx (V c main_v2) (V c main_arg1) := by
  refine (dat5 V c).arrAt_eq_of_covers 2 _ (by decide +kernel) fun t _ y => ?_
  blk_simp
  rw [after5_2]; frame_out
  exact point5 V c t y

end Cert.Mlp

end
-- ==== Proof.MlpRun.lean ====
/- The perceptron's program run: its four results as functions of its arguments. -/
module

public import proofs.«01_k».proof.Proof.MlpUp
public import proofs.«01_k».proof.Proof.MlpDown

@[expose] public section

set_option maxRecDepth 16384

noncomputable section

namespace Cert.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

section
/-- The resources the launch shares out. -/
abbrev Res (F : FTy → Type) [FloatOps F] := MT nD τ sig Unit (Elt F) ℕ (UR sig nD τ) ℕ

variable {F : FTy → Type} [FloatOps F] (m : (ℓ : Loc nD τ sig) → Buf (Elt F) ℓ) (ρ : Dev nD → PrngReg)

set_option backward.isDefEq.respectTransparency.types false in
/-- Every buffer outside the regions ends at the last boundary's contents. -/
theorem run_last : θ_run defs (onTc (τ := τ) (main (F := F))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)
end

variable (m : (ℓ : Loc nD τ sig) → Buf (Elt Ideal) ℓ) (ρ : Dev nD → PrngReg) (c : Dev nD)

/-- The hidden layer of a launch. -/
abbrev hid : FVec Ideal S4096x4096 .bf16 := up (m ((c : Thread nD τ).loc main_arg0)) (m ((c : Thread nD τ).loc main_arg1))
/-- Its cotangent. -/
abbrev dhid : FVec Ideal S4096x4096 .bf16 :=
  dact (m ((c : Thread nD τ).loc main_arg3)) (m ((c : Thread nD τ).loc main_arg2)) (hid m c)

theorem at_hid1 : V1 m ρ c main_v0 = hid m c := (W1_arr m ρ c 2).trans (final0 (V0 m ρ) c)
theorem at_hid2 : V2 m ρ c main_v0 = hid m c := (W2_of m ρ c main_v0 (by decide)).trans (at_hid1 m ρ c)
theorem at_hid3 : V3 m ρ c main_v0 = hid m c := (W3_of m ρ c main_v0 (by decide)).trans (at_hid2 m ρ c)

theorem arg1 (a) (h : a ∈ argRefs) : V1 m ρ c a = m ((c : Thread nD τ).loc a) := W1_args m ρ c a h
theorem arg2 (a) (h : a ∈ argRefs) : V2 m ρ c a = m ((c : Thread nD τ).loc a) := W2_args m ρ c a h
theorem arg3 (a) (h : a ∈ argRefs) : V3 m ρ c a = m ((c : Thread nD τ).loc a) := W3_args m ρ c a h
theorem arg4 (a) (h : a ∈ argRefs) : V4 m ρ c a = m ((c : Thread nD τ).loc a) := W4_args m ρ c a h
theorem arg5 (a) (h : a ∈ argRefs) : V5 m ρ c a = m ((c : Thread nD τ).loc a) := W5_args m ρ c a h

theorem at_dhid3 : V3 m ρ c main_v2 = dhid m c := by
  refine (W3_arr m ρ c 3).trans ((final2 (V2 m ρ) c).trans ?_)
  rw [at_hid2, arg2 m ρ c main_arg3 (by decide), arg2 m ρ c main_arg2 (by decide)]
theorem at_dhid4 : V4 m ρ c main_v2 = dhid m c := (W4_of m ρ c main_v2 (by decide)).trans (at_dhid3 m ρ c)
theorem at_dhid5 : V5 m ρ c main_v2 = dhid m c := (W5_of m ρ c main_v2 (by decide)).trans (at_dhid4 m ρ c)

theorem res_f : W6 m ρ c (Proc.devRef .tc main_v1) = down (hid m c) (m ((c : Thread nD τ).loc main_arg2)) := by
  refine (W6_of m ρ c main_v1 (by decide)).trans ((W5_of m ρ c main_v1 (by decide)).trans ((W4_of m ρ c main_v1 (by decide)).trans
    ((W3_of m ρ c main_v1 (by decide)).trans ((W2_arr m ρ c 2).trans ((final1 (V1 m ρ) c).trans ?_)))))
  rw [at_hid1, arg1 m ρ c main_arg2 (by decide)]

theorem res_ddown : W6 m ρ c (Proc.devRef .tc main_v3) = dwdown (hid m c) (m ((c : Thread nD τ).loc main_arg3)) := by
  refine (W6_of m ρ c main_v3 (by decide)).trans ((W5_of m ρ c main_v3 (by decide)).trans ((W4_arr m ρ c 2).trans ((final3 (V3 m ρ) c).trans ?_)))
  rw [at_hid3, arg3 m ρ c main_arg3 (by decide)]

theorem res_dup : W6 m ρ c (Proc.devRef .tc main_v4) = dwup (m ((c : Thread nD τ).loc main_arg0)) (dhid m c) := by
  refine (W6_of m ρ c main_v4 (by decide)).trans ((W5_arr m ρ c 2).trans ((final4 (V4 m ρ) c).trans ?_))
  rw [at_dhid4, arg4 m ρ c main_arg0 (by decide)]

theorem res_du : W6 m ρ c (Proc.devRef .tc main_v5) = dx (dhid m c) (m ((c : Thread nD τ).loc main_arg1)) := by
  refine (W6_arr m ρ c 2).trans ((final5 (V5 m ρ) c).trans ?_)
  rw [at_dhid5, arg5 m ρ c main_arg1 (by decide)]

theorem run : θ_run defs (onTc (τ := τ) (main (F := Ideal))) ⟨m, fun _ => 0, ρ⟩ (fun r => ∀ c : Dev nD,
      r.2.mem ((c.tc : Thread nD τ).loc main_v1) = down (hid m c) (m ((c : Thread nD τ).loc main_arg2))
      ∧ r.2.mem ((c.tc : Thread nD τ).loc main_v5) = dx (dhid m c) (m ((c : Thread nD τ).loc main_arg1))
      ∧ r.2.mem ((c.tc : Thread nD τ).loc main_v4) = dwup (m ((c : Thread nD τ).loc main_arg0)) (dhid m c)
      ∧ r.2.mem ((c.tc : Thread nD τ).loc main_v3) = dwdown (hid m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (res_f m ρ c),
     (h c _ (mem_uc main_v5 (by decide))).trans (res_du m ρ c),
     (h c _ (mem_uc main_v4 (by decide))).trans (res_dup m ρ c),
     (h c _ (mem_uc main_v3 (by decide))).trans (res_ddown m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_last m ρ)

end Cert.Mlp

end
-- ==== Proof.MlpRef.lean ====
/- The perceptron's reference: the stages of its derivative are the functions the kernel computes. -/
module

public import proofs.«01_k».proof.Proof.MlpUp
public import proofs.«01_k».proof.Proof.MlpDown
public import proofs.«01_k».proof.Proof.Gen.Reference2Ideal.Read
public import Idealize.ShloMosaic.Lib.Pointwise

@[expose] public section

set_option maxRecDepth 16384

noncomputable section

namespace Cert.Mlp.Ref

open Idealize.ShloMosaic Idealize.ShloMosaic.TcCoe Idealize.SL.Sem
open Cert.Reference2Ideal Cert.Reference2Ideal.Gen Cert.Reference2Ideal.Read

/-- The root of the square of a positive part is that part, at the infinities as well. -/
theorem sqrt_sq (a : EReal) : Ideal.sqrt (max a 0 * max a 0) = max a 0 := by
  induction a with
  | bot =>
    rw [max_eq_right bot_le, mul_zero]
    show (if (0 : ℝ) < 0 then (⊥ : EReal) else (Real.sqrt 0 : EReal)) = 0
    rw [if_neg (lt_irrefl _), Real.sqrt_zero, EReal.coe_zero]
  | top =>
    rw [max_eq_left le_top, EReal.top_mul_top]
    rfl
  | coe r =>
    have e : max (r : EReal) 0 = ((max r 0 : ℝ) : EReal) := (EReal.coe_strictMono.monotone.map_max (a := r) (b := 0)).symm
    rw [e, ← EReal.coe_mul]
    show (if max r 0 * max r 0 < 0 then (⊥ : EReal) else (Real.sqrt (max r 0 * max r 0) : EReal)) = _
    rw [if_neg (not_lt.mpr (mul_self_nonneg _)), Real.sqrt_mul_self (le_max_right r 0)]

variable (x0 : FVec Ideal S4096x1024 .bf16) (x1 : FVec Ideal S1024x4096 .bf16) (x2 x3 : FVec Ideal S4096x1024 .bf16)

theorem v3 (i j : Fin 4096) : val_main_v3 (F := Ideal) x0 x1 (ix2 i j) = ∑ k : Fin 1024, x0 (ix2 i k) * x1 (ix2 k j) := by
  pointwise [val_main_v3, val_main_v0, val_main_v1]

theorem v4 (i j : Fin 4096) : val_main_v4 (F := Ideal) x0 x1 (ix2 i j) = max (∑ k : Fin 1024, x0 (ix2 i k) * x1 (ix2 k j)) 0 := by
  pointwise [val_main_v4, v3 x0 x1, val_main_call0_v0, val_main_call0_cst]

theorem v8 (i j : Fin 4096) : val_main_v8 (F := Ideal) x0 x1 (ix2 i j) = up x0 x1 (ix2 i j) := by
  pointwise [val_main_v8, v4 x0 x1, up]

theorem v11 (i : Fin 4096) (j : Fin 1024) : val_main_v11 (F := Ideal) x0 x1 x2 (ix2 i j) = down (up x0 x1) x2 (ix2 i j) := by
  pointwise [val_main_v11, v8 x0 x1, val_main_v2, down]

theorem v14 (i : Fin 4096) (j : Fin 1024) : val_main_v25 (F := Ideal) x0 x1 x3 (ix2 i j) = dwdown (up x0 x1) x3 (ix2 i j) := by
  pointwise [val_main_v25, val_main_v14, val_main_v13, v8 x0 x1, val_main_v12, dwdown]
  exact Finset.sum_congr rfl fun k _ => mul_comm _ _

theorem v18 (i j : Fin 4096) : val_main_v18 (F := Ideal) x0 x1 x2 x3 (ix2 i j) = dact x3 x2 (up x0 x1) (ix2 i j) := by
  pointwise [val_main_v18, val_main_v6, v3 x0 x1, val_main_v5, val_main_cst, val_main_v16, val_main_v15, val_main_v12, val_main_v2,
    val_main_v10, val_main_v9, val_main_cst_1, v4 x0 x1, val_main_v17, val_main_cst_2, dact, up]
  rw [sqrt_sq]
  split_ifs with h
  · rfl
  · rw [max_eq_right (not_lt.mp h), mul_zero, mul_zero]

theorem v21 (i : Fin 4096) (j : Fin 1024) :
    val_main_v21 (F := Ideal) x0 x1 x2 x3 (ix2 i j) = dx (dact x3 x2 (up x0 x1)) x1 (ix2 i j) := by
  pointwise [val_main_v21, v18 x0 x1 x2 x3, val_main_v1, dx]

theorem v19 (j : Fin 4096) (i : Fin 1024) : val_main_v19 (F := Ideal) x0 x1 x2 x3 (ix2 j i)
    = ∑ k : Fin 4096, x0 (ix2 k i) * dact x3 x2 (up x0 x1) (ix2 k j) := by
  pointwise [val_main_v19, v18 x0 x1 x2 x3, val_main_v0]
  exact Finset.sum_congr rfl fun k _ => mul_comm _ _

theorem v24 (b : Fin 8) (i : Fin 1024) (j : Fin 512) : val_main_v24 (F := Ideal) x0 x1 x2 x3 (ix3 b i j)
    = dwup x0 (dact x3 x2 (up x0 x1)) (ix3 b i j) := by
  pointwise [val_main_v24, val_main_v23, val_main_v22, val_main_v20, v19 x0 x1 x2 x3, dwup]

end Cert.Mlp.Ref

end
-- ==== Proof.Mlp.lean ====
/- The perceptron and its derivative: the reference's frame, and that the kernel's four results are the reference's. -/
module

public import proofs.«01_k».proof.Proof.MlpRun
public import proofs.«01_k».proof.Proof.MlpRef
public import proofs.«01_k».proof.Defs
public import Idealize.ShloMosaic.Lib.Quiescent

@[expose] public section

set_option maxRecDepth 16384

noncomputable section

namespace Cert.Mlp

open Idealize.ShloMosaic Idealize.ShloMosaic.TcCoe Idealize.SL.Sem

theorem frame_reference : @Cert.quiescent_Reference2Ideal Cert.Reference2Ideal.Gen.facts := fun m ρ _ =>
  (θ_run Cert.Reference2Ideal.defs _ _).mono (fun r h => ⟨fun c => (h c).2.2.2.2, Idealize.ShloMosaic.sem_eq_zero_of_no_sems (by decide) r.2⟩)
    (Cert.Reference2Ideal.Value.run (F := Ideal) m ρ)

theorem eta2 {n k : ℕ} (i : (⟨2, ![n, k]⟩ : Shape).Idx) : i = ix2 (i 0) (i 1) := by
  funext a
  match a with
  | 0 => rfl
  | 1 => rfl

theorem eta3 {n k l : ℕ} (i : (⟨3, ![n, k, l]⟩ : Shape).Idx) : i = ix3 (i 0) (i 1) (i 2) := by
  funext a
  match a with
  | 0 => rfl
  | 1 => rfl
  | 2 => rfl

open Cert.Reference2Ideal in
/-- The reference's results, as the kernel's functions of the arguments. -/
theorem reference_results {x0 y0 : FVec Ideal S4096x1024 .bf16} {x1 y1 : FVec Ideal S1024x4096 .bf16} {x2 x3 y2 y3 : FVec Ideal S4096x1024 .bf16}
    (h0 : y0 = x0) (h1 : y1 = x1) (h2 : y2 = x2) (h3 : y3 = x3) :
    Read.val_main_v11 (F := Ideal) y0 y1 y2 = down (up x0 x1) x2
    ∧ Read.val_main_v21 (F := Ideal) y0 y1 y2 y3 = dx (dact x3 x2 (up x0 x1)) x1
    ∧ Read.val_main_v24 (F := Ideal) y0 y1 y2 y3 = dwup x0 (dact x3 x2 (up x0 x1))
    ∧ Read.val_main_v25 (F := Ideal) y0 y1 y3 = dwdown (up x0 x1) x3 := by
  rw [h0, h1, h2, h3]
  refine ⟨funext fun i => ?_, funext fun i => ?_, funext fun i => ?_, funext fun i => ?_⟩
  · rw [eta2 i]
    exact Ref.v11 x0 x1 x2 _ _
  · rw [eta2 i]
    exact Ref.v21 x0 x1 x2 x3 _ _
  · rw [eta3 i]
    exact Ref.v24 x0 x1 x2 x3 _ _ _
  · rw [eta2 i]
    exact Ref.v14 x0 x1 x3 _ _

theorem algebraic : @Cert.algebraic_Kernel2Ideal_Reference2Ideal Cert.Kernel2Ideal.Gen.facts Cert.Reference2Ideal.Gen.facts := by
  intro m g m' g' _ hargs
  refine ⟨_, _, _, _, run m g, ?_⟩
  refine (θ_run Cert.Reference2Ideal.defs _ _).mono (fun r h c => ?_) (Cert.Reference2Ideal.Value.run (F := Ideal) m' g')
  obtain ⟨h1, h2, h3, h4, ha⟩ := h c
  obtain ⟨r1, r2, r3, r4⟩ := reference_results (hargs c).1 (hargs c).2.1 (hargs c).2.2.1 (hargs c).2.2.2
  exact ⟨h1.trans ((Cert.Reference2Ideal.Read.val_main_v11_eq _ _ _).trans r1), h2.trans ((Cert.Reference2Ideal.Read.val_main_v21_eq _ _ _ _).trans r2),
    h3.trans ((Cert.Reference2Ideal.Read.val_main_v24_eq _ _ _ _).trans r3), h4.trans ((Cert.Reference2Ideal.Read.val_main_v25_eq _ _ _).trans r4), ha⟩

end Cert.Mlp

end
-- ==== Proof.Proj.lean ====
/- What the projections into the mixer and their gradients leave in their arrays, region by region. -/
module

public import proofs.«01_k».proof.Proof.Gen.Kernel3Ideal.Frame
public import Idealize.ShloMosaic.Lib.Pipeline.ValueKit

@[expose] public section

set_option maxRecDepth 16384

noncomputable section

namespace Cert.Proj

open Idealize.ShloMosaic Idealize.ShloMosaic.TcCoe Idealize.SL.Sem
open Cert.Kernel3Ideal Cert.Kernel3Ideal.Gen

/-- The projection to the 128 lanes of the step sizes. -/
def dt (u : FVec Ideal S4096x1024 .bf16) (w : FVec Ideal S128x1024 .bf16) : FVec Ideal S4096x128 .f32 :=
  fun i => ∑ k : Fin 1024, u (ix2 (i 0) k) * w (ix2 (i 1) k)

/-- The gradient of `n` rows of the transposed matrix, from their columns of the cotangent. -/
def dw {n : ℕ} (d : FVec Ideal ⟨2, ![4096, n]⟩ .bf16) (u : FVec Ideal S4096x1024 .bf16) : FVec Ideal ⟨2, ![n, 1024]⟩ .bf16 :=
  fun i => ∑ k : Fin 4096, d (ix2 k (i 0)) * u (ix2 k (i 1))

/-- A part's share of the gradient of the input. -/
def dxPart {n : ℕ} (d : FVec Ideal ⟨2, ![4096, n]⟩ .bf16) (w : FVec Ideal ⟨2, ![n, 1024]⟩ .bf16) (p : Fin 4096) (q : Fin 1024) : EReal :=
  ∑ k : Fin n, d (ix2 p k) * w (ix2 k q)

/-- The gradient of the input, the sum of the five parts' shares. -/
def dx (d0 d1 : FVec Ideal S4096x2048 .bf16) (d2 d3 : FVec Ideal S4096x1024 .bf16) (d4 : FVec Ideal S4096x128 .bf16)
    (w0 w1 : FVec Ideal S2048x1024 .bf16) (w2 w3 : FVec Ideal S1024x1024 .bf16) (w4 : FVec Ideal S128x1024 .bf16) : FVec Ideal S4096x1024 .f32 :=
  fun i => dxPart d0 w0 (i 0) (i 1) + dxPart d1 w1 (i 0) (i 1) + dxPart d2 w2 (i 0) (i 1) + dxPart d3 w3 (i 0) (i 1) + dxPart d4 w4 (i 0) (i 1)

theorem at0 : ∀ t : Fin cfg0.N, win0_0.index t = ![t.val, 0] ∧ win0_1.index t = ![0, 0] ∧ win0_2.index t = ![t.val, 0] :=
  (by decide +kernel : ∀ t : Fin grid0.N, _)
theorem at1 : ∀ t : Fin cfg1.N, win1_0.index t = ![0, t.val] ∧ win1_1.index t = ![0, 0] ∧ win1_2.index t = ![t.val, 0] :=
  (by decide +kernel : ∀ t : Fin grid1.N, _)
theorem at2 : ∀ t : Fin cfg2.N, win2_0.index t = ![0, t.val] ∧ win2_1.index t = ![0, 0] ∧ win2_2.index t = ![t.val, 0] :=
  (by decide +kernel : ∀ t : Fin grid2.N, _)
theorem at3 : ∀ t : Fin cfg3.N, win3_0.index t = ![0, t.val] ∧ win3_1.index t = ![0, 0] ∧ win3_2.index t = ![t.val, 0] :=
  (by decide +kernel : ∀ t : Fin grid3.N, _)
theorem at4 : ∀ t : Fin cfg4.N, win4_0.index t = ![0, t.val] ∧ win4_1.index t = ![0, 0] ∧ win4_2.index t = ![t.val, 0] :=
  (by decide +kernel : ∀ t : Fin grid4.N, _)
theorem at5 : ∀ t : Fin cfg5.N, win5_0.index t = ![0, t.val] ∧ win5_1.index t = ![0, 0] ∧ win5_2.index t = ![t.val, 0] :=
  (by decide +kernel : ∀ t : Fin grid5.N, _)
theorem at6 : ∀ t : Fin cfg6.N, (win6_0.index t = ![t.val, 0] ∧ win6_1.index t = ![t.val, 0] ∧ win6_2.index t = ![t.val, 0]
      ∧ win6_3.index t = ![t.val, 0] ∧ win6_4.index t = ![t.val, 0]) ∧ (win6_5.index t = ![0, 0] ∧ win6_6.index t = ![0, 0]
      ∧ win6_7.index t = ![0, 0] ∧ win6_8.index t = ![0, 0] ∧ win6_9.index t = ![0, 0]) ∧ win6_10.index t = ![t.val, 0] :=
  (by decide +kernel : ∀ t : Fin grid6.N, _)

variable (V : (c : Dev nD) → (b : Ref sig .tc) → Buf (Elt Ideal) ((c : Thread nD τ).loc b)) (c : Dev nD)

theorem point0 (t : Fin cfg0.N) (y) : k0_pay1 (F := Ideal) (iblk0 V c 0 t) (iblk0 V c 1 t) y
    = dt (V c main_arg0) (V c main_v1) ((win0_2.blk t).view.emb y) := by
  pointwise [k0_pay1, dt]
  blk_point [iblk0, (at0 t).1, (at0 t).2.1, (at0 t).2.2]

theorem final0 : (dat0 V c).arrAt 2 cfg0.N = dt (V c main_arg0) (V c main_v1) := by
  refine (dat0 V c).arrAt_eq_of_covers 2 _ (by decide +kernel) fun t _ y => ?_
  blk_simp
  rw [after0_2]; frame_out
  exact point0 V c t y

theorem point1 (t : Fin cfg1.N) (y) : k1_pay1 (F := Ideal) (iblk1 V c 0 t) (iblk1 V c 1 t) y
    = dw (V c main_arg2) (V c main_arg0) ((win1_2.blk t).view.emb y) := by
  pointwise [k1_pay1, dw]
  blk_point [iblk1, (at1 t).1, (at1 t).2.1, (at1 t).2.2]

theorem final1 : (dat1 V c).arrAt 2 cfg1.N = dw (V c main_arg2) (V c main_arg0) := by
  refine (dat1 V c).arrAt_eq_of_covers 2 _ (by decide +kernel) fun t _ y => ?_
  blk_simp
  rw [after1_2]; frame_out
  exact point1 V c t y

theorem point2 (t : Fin cfg2.N) (y) : k2_pay1 (F := Ideal) (iblk2 V c 0 t) (iblk2 V c 1 t) y
    = dw (V c main_arg3) (V c main_arg0) ((win2_2.blk t).view.emb y) := by
  pointwise [k2_pay1, dw]
  blk_point [iblk2, (at2 t).1, (at2 t).2.1, (at2 t).2.2]

theorem final2 : (dat2 V c).arrAt 2 cfg2.N = dw (V c main_arg3) (V c main_arg0) := by
  refine (dat2 V c).arrAt_eq_of_covers 2 _ (by decide +kernel) fun t _ y => ?_
  blk_simp
  rw [after2_2]; frame_out
  exact point2 V c t y

theorem point3 (t : Fin cfg3.N) (y) : k3_pay1 (F := Ideal) (iblk3 V c 0 t) (iblk3 V c 1 t) y
    = dw (V c main_arg4) (V c main_arg0) ((win3_2.blk t).view.emb y) := by
  pointwise [k3_pay1, dw]
  blk_point [iblk3, (at3 t).1, (at3 t).2.1, (at3 t).2.2]

theorem final3 : (dat3 V c).arrAt 2 cfg3.N = dw (V c main_arg4) (V c main_arg0) := by
  refine (dat3 V c).arrAt_eq_of_covers 2 _ (by decide +kernel) fun t _ y => ?_
  blk_simp
  rw [after3_2]; frame_out
  exact point3 V c t y

theorem point4 (t : Fin cfg4.N) (y) : k4_pay1 (F := Ideal) (iblk4 V c 0 t) (iblk4 V c 1 t) y
    = dw (V c main_arg5) (V c main_arg0) ((win4_2.blk t).view.emb y) := by
  pointwise [k4_pay1, dw]
  blk_point [iblk4, (at4 t).1, (at4 t).2.1, (at4 t).2.2]

theorem final4 : (dat4 V c).arrAt 2 cfg4.N = dw (V c main_arg5) (V c main_arg0) := by
  refine (dat4 V c).arrAt_eq_of_covers 2 _ (by decide +kernel) fun t _ y => ?_
  blk_simp
  rw [after4_2]; frame_out
  exact point4 V c t y

theorem point5 (t : Fin cfg5.N) (y) : k5_pay1 (F := Ideal) (iblk5 V c 0 t) (iblk5 V c 1 t) y
    = dw (V c main_v4) (V c main_arg0) ((win5_2.blk t).view.emb y) := by
  pointwise [k5_pay1, dw]
  blk_point [iblk5, (at5 t).1, (at5 t).2.1, (at5 t).2.2]

theorem final5 : (dat5 V c).arrAt 2 cfg5.N = dw (V c main_v4) (V c main_arg0) := by
  refine (dat5 V c).arrAt_eq_of_covers 2 _ (by decide +kernel) fun t _ y => ?_
  blk_simp
  rw [after5_2]; frame_out
  exact point5 V c t y

theorem point6 (t : Fin cfg6.N) (y) : k6_pay1 (F := Ideal) (iblk6 V c 0 t) (iblk6 V c 5 t) (iblk6 V c 1 t) (iblk6 V c 6 t) (iblk6 V c 2 t) (iblk6 V c 7 t) (iblk6 V c 3 t) (iblk6 V c 8 t) (iblk6 V c 4 t) (iblk6 V c 9 t) y
    = dx (V c main_arg2) (V c main_arg3) (V c main_arg4) (V c main_arg5) (V c main_v4) (V c main_v13) (V c main_v14) (V c main_v15) (V c main_v16) (V c main_v1)
      ((win6_10.blk t).view.emb y) := by
  pointwise [k6_pay1, dx, dxPart]
  obtain ⟨⟨a0, a1, a2, a3, a4⟩, ⟨b0, b1, b2, b3, b4⟩, o⟩ := at6 t
  blk_point [iblk6, a0, a1, a2, a3, a4, b0, b1, b2, b3, b4, o]

theorem final6 : (dat6 V c).arrAt 10 cfg6.N
    = dx (V c main_arg2) (V c main_arg3) (V c main_arg4) (V c main_arg5) (V c main_v4) (V c main_v13) (V c main_v14) (V c main_v15) (V c main_v16) (V c main_v1) := by
  refine (dat6 V c).arrAt_eq_of_covers 10 _ (by decide +kernel) fun t _ y => ?_
  blk_simp
  rw [after6_10]; frame_out
  exact point6 V c t y

end Cert.Proj

end
-- ==== Proof.ProjRun.lean ====
/- The projections' program run: its three results as functions of its arguments. -/
module

public import proofs.«01_k».proof.Proof.Proj

@[expose] public section

set_option maxRecDepth 16384

noncomputable section

namespace Cert.Proj

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

section
/-- The resources the launch shares out. -/
abbrev Res (F : FTy → Type) [FloatOps F] := MT nD τ sig Unit (Elt F) ℕ (UR sig nD τ) ℕ

variable {F : FTy → Type} [FloatOps F] (m : (ℓ : Loc nD τ sig) → Buf (Elt F) ℓ) (ρ : Dev nD → PrngReg)

set_option backward.isDefEq.respectTransparency.types false in
/-- Every buffer outside the regions ends at the last boundary's contents. -/
theorem run_last : θ_run defs (onTc (τ := τ) (main (F := F))) ⟨m, fun _ => 0, ρ⟩ (fun r => ∀ c : Dev nD,
    ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h _ => h)
end

/-- The paddings by a whole number: 96 rows below, and 96 lanes after. -/
def padRows (a : FVec Ideal S32x1024 .bf16) (n : IVec S_ 32) : FVec Ideal S128x1024 .bf16 :=
  pad S128x1024 ![0, 0] ![96, 0] ![0, 0] a (sitofp .bf16 n) pads_S32x1024_S128x1024_0960_000 h_S_
def padLanes (a : FVec Ideal S4096x32 .f32) (n : IVec S_ 32) : FVec Ideal S4096x128 .f32 :=
  pad S4096x128 ![0, 0] ![0, 96] ![0, 0] a (sitofp .f32 n) pads_S4096x32_S4096x128_000_0960 h_S_

/-- The matrix's last 32 rows, padded to 128. -/
def wdt (w : FVec Ideal S6176x1024 .bf16) : FVec Ideal S128x1024 .bf16 :=
  padRows (extractStridedSlice S32x1024 ![6144, 0] w slices_S6176x1024_S32x1024_6144_0) (constantI S_ 32 0#32)

/-- The step sizes' cotangent, padded to 128 lanes. -/
def ddt (d : FVec Ideal S4096x32 .f32) : FVec Ideal S4096x128 .bf16 :=
  truncf .bf16 (padLanes d (constantI S_ 32 0#32)) bitsLt_bf16_f32

/-- The five parts of the matrix's gradient one under the other, cut into the devices' blocks of rows. -/
def blocks (d0 d1 : FVec Ideal S2048x1024 .bf16) (d2 d3 : FVec Ideal S1024x1024 .bf16) (d4 : FVec Ideal S128x1024 .bf16) :
    FVec Ideal S8x772x1024 .bf16 :=
  shapeCast S8x772x1024 (concatenate S6176x1024 0 [⟨S2048x1024, d0⟩, ⟨S2048x1024, d1⟩, ⟨S1024x1024, d2⟩, ⟨S1024x1024, d3⟩,
    ⟨S32x1024, extractStridedSlice S32x1024 ![0, 0] d4 slices_S128x1024_S32x1024_0_0⟩]
    concatenates_S2048x1024_S2048x1024_S1024x1024_S1024x1024_S32x1024_S6176x1024_d0) shapeCasts_S6176x1024_S8x772x1024

variable (m : (ℓ : Loc nD τ sig) → Buf (Elt Ideal) ℓ) (ρ : Dev nD → PrngReg) (c : Dev nD)

/-- The stretches of host operations, from any contents. -/
theorem host0 (W : Valuation τ sig (Elt Ideal)) : StableHlo.after hostOps0 W main_v0
      = extractStridedSlice S32x1024 ![6144, 0] (W main_arg1) slices_S6176x1024_S32x1024_6144_0
    ∧ StableHlo.after hostOps0 W main_c = constantI S_ 32 0#32 := by
  constructor
  · after_results
  · after_results
theorem host0_1 (W : Valuation τ sig (Elt Ideal)) : StableHlo.after hostOps0_1 W main_v1
    = padRows (W main_v0) (W main_c) := by
  after_results
  rfl
theorem host1 (W : Valuation τ sig (Elt Ideal)) : StableHlo.after hostOps1 W main_c_0 = constantI S_ 32 0#32 := by
  after_results
theorem host1_1 (W : Valuation τ sig (Elt Ideal)) : StableHlo.after hostOps1_1 W main_v3
    = padLanes (W main_arg6) (W main_c_0) := by
  after_results
  rfl
theorem host1_2 (W : Valuation τ sig (Elt Ideal)) : StableHlo.after hostOps1_2 W main_v4
    = (truncf .bf16 (W main_v3 : FVec Ideal S4096x128 .f32) bitsLt_bf16_f32 : FVec Ideal S4096x128 .bf16) := by
  after_results
theorem host6 (W : Valuation τ sig (Elt Ideal)) :
    StableHlo.after hostOps6 W main_v12 = blocks (W main_v5) (W main_v6) (W main_v7) (W main_v8) (W main_v9)
    ∧ StableHlo.after hostOps6 W main_v13 = extractStridedSlice S2048x1024 ![0, 0] (W main_arg1) slices_S6176x1024_S2048x1024_0_0
    ∧ StableHlo.after hostOps6 W main_v14 = extractStridedSlice S2048x1024 ![2048, 0] (W main_arg1) slices_S6176x1024_S2048x1024_2048_0
    ∧ StableHlo.after hostOps6 W main_v15 = extractStridedSlice S1024x1024 ![4096, 0] (W main_arg1) slices_S6176x1024_S1024x1024_4096_0
    ∧ StableHlo.after hostOps6 W main_v16 = extractStridedSlice S1024x1024 ![5120, 0] (W main_arg1) slices_S6176x1024_S1024x1024_5120_0 := by
  refine ⟨?_, ?_, ?_, ?_, ?_⟩
  · after_results
    rfl
  · after_results
  · after_results
  · after_results
  · after_results

theorem wdt2 : W2 m ρ c main_v1 = wdt (m ((c : Thread nD τ).loc main_arg1)) := by
  refine (host0_1 (W1 m ρ c)).trans ?_
  rw [show W1 m ρ c main_v0 = _ from (host0 (W0 m ρ c)).1, show W1 m ρ c main_c = _ from (host0 (W0 m ρ c)).2]
  rfl

theorem ddt6 : W6 m ρ c main_v4 = ddt (m ((c : Thread nD τ).loc main_arg6)) := by
  refine (host1_2 (W5 m ρ c)).trans ?_
  rw [show W5 m ρ c main_v3 = _ from host1_1 (W4 m ρ c), show W4 m ρ c main_c_0 = _ from host1 (W3 m ρ c),
    show W4 m ρ c main_arg6 = _ from W4_args m ρ c main_arg6 (by decide)]
  rfl
theorem ddt10 : W10 m ρ c main_v4 = ddt (m ((c : Thread nD τ).loc main_arg6)) :=
  (W10_of m ρ c main_v4 (by decide)).trans ((W9_of m ρ c main_v4 (by decide)).trans ((W8_of m ρ c main_v4 (by decide)).trans
    ((W7_of m ρ c main_v4 (by decide)).trans (ddt6 m ρ c))))
theorem ddt12 : W12 m ρ c main_v4 = ddt (m ((c : Thread nD τ).loc main_arg6)) :=
  (W12_of m ρ c main_v4 (by decide)).trans ((W11_of m ρ c main_v4 (by decide)).trans (ddt10 m ρ c))
theorem wdt12 : W12 m ρ c main_v1 = wdt (m ((c : Thread nD τ).loc main_arg1)) :=
  (W12_of m ρ c main_v1 (by decide)).trans ((W11_of m ρ c main_v1 (by decide)).trans ((W10_of m ρ c main_v1 (by decide)).trans
    ((W9_of m ρ c main_v1 (by decide)).trans ((W8_of m ρ c main_v1 (by decide)).trans ((W7_of m ρ c main_v1 (by decide)).trans
    ((W6_of m ρ c main_v1 (by decide)).trans ((W5_of m ρ c main_v1 (by decide)).trans ((W4_of m ρ c main_v1 (by decide)).trans
    ((W3_of m ρ c main_v1 (by decide)).trans (wdt2 m ρ c))))))))))

/-- The five gradients as the last stretch finds them. -/
theorem dw_z : W11 m ρ c main_v5 = dw (m ((c : Thread nD τ).loc main_arg2)) (m ((c : Thread nD τ).loc main_arg0)) := by
  refine (W11_of m ρ c main_v5 (by decide)).trans ((W10_of m ρ c main_v5 (by decide)).trans ((W9_of m ρ c main_v5 (by decide)).trans
    ((W8_of m ρ c main_v5 (by decide)).trans ((W7_arr m ρ c 2).trans ((final1 (V6 m ρ) c).trans ?_)))))
  rw [show V6 m ρ c main_arg2 = _ from W6_args m ρ c main_arg2 (by decide), show V6 m ρ c main_arg0 = _ from W6_args m ρ c main_arg0 (by decide)]
theorem dw_x : W11 m ρ c main_v6 = dw (m ((c : Thread nD τ).loc main_arg3)) (m ((c : Thread nD τ).loc main_arg0)) := by
  refine (W11_of m ρ c main_v6 (by decide)).trans ((W10_of m ρ c main_v6 (by decide)).trans ((W9_of m ρ c main_v6 (by decide)).trans
    ((W8_arr m ρ c 2).trans ((final2 (V7 m ρ) c).trans ?_))))
  rw [show V7 m ρ c main_arg3 = _ from W7_args m ρ c main_arg3 (by decide), show V7 m ρ c main_arg0 = _ from W7_args m ρ c main_arg0 (by decide)]
theorem dw_b : W11 m ρ c main_v7 = dw (m ((c : Thread nD τ).loc main_arg4)) (m ((c : Thread nD τ).loc main_arg0)) := by
  refine (W11_of m ρ c main_v7 (by decide)).trans ((W10_of m ρ c main_v7 (by decide)).trans ((W9_arr m ρ c 2).trans ((final3 (V8 m ρ) c).trans ?_)))
  rw [show V8 m ρ c main_arg4 = _ from W8_args m ρ c main_arg4 (by decide), show V8 m ρ c main_arg0 = _ from W8_args m ρ c main_arg0 (by decide)]
theorem dw_c : W11 m ρ c main_v8 = dw (m ((c : Thread nD τ).loc main_arg5)) (m ((c : Thread nD τ).loc main_arg0)) := by
  refine (W11_of m ρ c main_v8 (by decide)).trans ((W10_arr m ρ c 2).trans ((final4 (V9 m ρ) c).trans ?_))
  rw [show V9 m ρ c main_arg5 = _ from W9_args m ρ c main_arg5 (by decide), show V9 m ρ c main_arg0 = _ from W9_args m ρ c main_arg0 (by decide)]
theorem dw_t : W11 m ρ c main_v9 = dw (ddt (m ((c : Thread nD τ).loc main_arg6))) (m ((c : Thread nD τ).loc main_arg0)) := by
  refine (W11_arr m ρ c 2).trans ((final5 (V10 m ρ) c).trans ?_)
  rw [show V10 m ρ c main_v4 = _ from ddt10 m ρ c, show V10 m ρ c main_arg0 = _ from W10_args m ρ c main_arg0 (by decide)]

theorem blocks12 : W12 m ρ c main_v12 = blocks (dw (m ((c : Thread nD τ).loc main_arg2)) (m ((c : Thread nD τ).loc main_arg0)))
    (dw (m ((c : Thread nD τ).loc main_arg3)) (m ((c : Thread nD τ).loc main_arg0)))
    (dw (m ((c : Thread nD τ).loc main_arg4)) (m ((c : Thread nD τ).loc main_arg0)))
    (dw (m ((c : Thread nD τ).loc main_arg5)) (m ((c : Thread nD τ).loc main_arg0)))
    (dw (ddt (m ((c : Thread nD τ).loc main_arg6))) (m ((c : Thread nD τ).loc main_arg0))) := by
  refine (host6 (W11 m ρ c)).1.trans ?_
  rw [dw_z, dw_x, dw_b, dw_c, dw_t]

/-- The gradient of the input, of the arguments. -/
def du (x0 : FVec Ideal S6176x1024 .bf16) (d0 d1 : FVec Ideal S4096x2048 .bf16) (d2 d3 : FVec Ideal S4096x1024 .bf16) (d4 : FVec Ideal S4096x32 .f32) :
    FVec Ideal S4096x1024 .f32 :=
  dx d0 d1 d2 d3 (ddt d4) (extractStridedSlice S2048x1024 ![0, 0] x0 slices_S6176x1024_S2048x1024_0_0)
    (extractStridedSlice S2048x1024 ![2048, 0] x0 slices_S6176x1024_S2048x1024_2048_0)
    (extractStridedSlice S1024x1024 ![4096, 0] x0 slices_S6176x1024_S1024x1024_4096_0)
    (extractStridedSlice S1024x1024 ![5120, 0] x0 slices_S6176x1024_S1024x1024_5120_0) (wdt x0)

theorem res_du : W13 m ρ c main_v17 = du (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  refine (W13_arr m ρ c 10).trans ((final6 (V12 m ρ) c).trans ?_)
  rw [show V12 m ρ c main_v4 = _ from ddt12 m ρ c, show V12 m ρ c main_v1 = _ from wdt12 m ρ c,
    show V12 m ρ c main_v13 = _ from (host6 (W11 m ρ c)).2.1,
    show V12 m ρ c main_v14 = _ from (host6 (W11 m ρ c)).2.2.1, show V12 m ρ c main_v15 = _ from (host6 (W11 m ρ c)).2.2.2.1,
    show V12 m ρ c main_v16 = _ from (host6 (W11 m ρ c)).2.2.2.2, show W11 m ρ c main_arg1 = _ from W11_args m ρ c main_arg1 (by decide),
    show V12 m ρ c main_arg2 = _ from W12_args m ρ c main_arg2 (by decide), show V12 m ρ c main_arg3 = _ from W12_args m ρ c main_arg3 (by decide),
    show V12 m ρ c main_arg4 = _ from W12_args m ρ c main_arg4 (by decide), show V12 m ρ c main_arg5 = _ from W12_args m ρ c main_arg5 (by decide)]
  rfl

theorem res_dt : W13 m ρ c main_v2 = dt (m ((c : Thread nD τ).loc main_arg0)) (wdt (m ((c : Thread nD τ).loc main_arg1))) := by
  refine (W13_of m ρ c main_v2 (by decide)).trans ((W12_of m ρ c main_v2 (by decide)).trans ((W11_of m ρ c main_v2 (by decide)).trans
    ((W10_of m ρ c main_v2 (by decide)).trans ((W9_of m ρ c main_v2 (by decide)).trans ((W8_of m ρ c main_v2 (by decide)).trans
    ((W7_of m ρ c main_v2 (by decide)).trans ((W6_of m ρ c main_v2 (by decide)).trans ((W5_of m ρ c main_v2 (by decide)).trans
    ((W4_of m ρ c main_v2 (by decide)).trans ((W3_arr m ρ c 2).trans ((final0 (V2 m ρ) c).trans ?_)))))))))))
  rw [show V2 m ρ c main_v1 = _ from wdt2 m ρ c, show V2 m ρ c main_arg0 = _ from W2_args m ρ c main_arg0 (by decide)]

/-- The gradient of the matrix, of the arguments. -/
def dwin (u : FVec Ideal S4096x1024 .bf16) (d0 d1 : FVec Ideal S4096x2048 .bf16) (d2 d3 : FVec Ideal S4096x1024 .bf16) (d4 : FVec Ideal S4096x32 .f32) :
    FVec Ideal S8x772x1024 .bf16 :=
  blocks (dw d0 u) (dw d1 u) (dw d2 u) (dw d3 u) (dw (ddt d4) u)

theorem run : θ_run defs (onTc (τ := τ) (main (F := Ideal))) ⟨m, fun _ => 0, ρ⟩ (fun r => ∀ c : Dev nD,
      r.2.mem ((c.tc : Thread nD τ).loc main_v2) = dt (m ((c : Thread nD τ).loc main_arg0)) (wdt (m ((c : Thread nD τ).loc main_arg1)))
      ∧ r.2.mem ((c.tc : Thread nD τ).loc main_v17) = du (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))
      ∧ r.2.mem ((c.tc : Thread nD τ).loc main_v12) = dwin (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v2 (by decide))).trans (res_dt m ρ c),
     (h c _ (mem_uc main_v17 (by decide))).trans (res_du m ρ c),
     (h c _ (mem_uc main_v12 (by decide))).trans ((W13_of m ρ c main_v12 (by decide)).trans (blocks12 m ρ c)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c)⟩) (run_last m ρ)

end Cert.Proj

end
-- ==== Proof.ProjRef.lean ====
/- The projections' reference: the stages of its derivative are the functions the kernel computes. -/
module

public import proofs.«01_k».proof.Defs
public import proofs.«01_k».proof.Proof.Mlp
public import proofs.«01_k».proof.Proof.ProjRun
public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Proj.Ref

open Idealize.ShloMosaic Idealize.ShloMosaic.TcCoe Idealize.SL.Sem
open Cert.Reference3Ideal Cert.Reference3Ideal.Gen Cert.Reference3Ideal.Read

variable (x0 : FVec Ideal S4096x1024 .bf16) (x1 : FVec Ideal S6176x1024 .bf16) (x2 x3 : FVec Ideal S4096x2048 .bf16)
    (x4 x5 : FVec Ideal S4096x1024 .bf16) (x6 : FVec Ideal S4096x32 .f32)

theorem sitofp_zero (t : FTy) : FloatOps.sitofp (F := Ideal) t 0#32 = (0 : EReal) := by
  show ((((0#32 : BitVec 32).toInt : ℤ) : ℝ) : EReal) = 0
  simp

/-- A sum over the matrix's rows is the sum over the five parts' rows. -/
theorem cut (f : Fin 6176 → EReal) : ∑ k, f k
    = (∑ k : Fin 2048, f ⟨k.val, by omega⟩) + (∑ k : Fin 2048, f ⟨2048 + k.val, by omega⟩) + (∑ k : Fin 1024, f ⟨4096 + k.val, by omega⟩)
      + (∑ k : Fin 1024, f ⟨5120 + k.val, by omega⟩) + ∑ k : Fin 32, f ⟨6144 + k.val, by omega⟩ := by
  show ∑ k : Fin (2048 + 2048 + 1024 + 1024 + 32), f k = _
  rw [Fin.sum_univ_add, Fin.sum_univ_add, Fin.sum_univ_add, Fin.sum_univ_add]
  rfl

theorem wdt_at (k : Fin 128) (j : Fin 1024) : wdt x1 (ix2 k j) = if h : k.val < 32 then x1 (ix2 ⟨6144 + k.val, by omega⟩ j) else 0 := by
  pointwise [wdt, padRows]
  rw [sitofp_zero]

theorem ddt_at (i : Fin 4096) (k : Fin 128) : ddt x6 (ix2 i k) = if h : k.val < 32 then x6 (ix2 i ⟨k.val, h⟩) else 0 := by
  pointwise [ddt, padLanes]
  rw [sitofp_zero]

theorem v13 (i : Fin 4096) (j : Fin 128) : val_main_v13 (F := Ideal) x0 x1 (ix2 i j) = dt x0 (wdt x1) (ix2 i j) := by
  pointwise [val_main_v13, val_main_v12, val_main_v3, val_main_v0, val_main_v2, val_main_v1, val_main_call0_v0, val_main_c, dt, wdt_at x1]
  rw [sitofp_zero]
  split_ifs
  · rfl
  · simp only [mul_zero, Finset.sum_const_zero]

theorem v11 (i : Fin 4096) (j : Fin 1024) : val_main_v11 (F := Ideal) x1 x2 x3 x4 x5 x6 (ix2 i j) = du x1 x2 x3 x4 x5 x6 (ix2 i j) := by
  pointwise [val_main_v11, val_main_v8, val_main_v4, val_main_v5, val_main_v6, val_main_v7, val_main_v2, val_main_v1, du, dx, dxPart, wdt_at x1, ddt_at x6]
  rw [cut]
  simp only [mul_zero, Finset.sum_const_zero, add_zero]
  refine congrArg₂ (· + ·) (congrArg₂ (· + ·) (congrArg₂ (· + ·) (congrArg₂ (· + ·) ?_ ?_) ?_) ?_) ?_ <;>
    refine Finset.sum_congr rfl fun k _ => ?_
  · rw [dif_pos k.isLt]
  · rw [dif_neg (by omega), dif_pos (by omega)]
    simp only [Nat.add_sub_cancel_left]
  · rw [dif_neg (by omega), dif_neg (by omega), dif_pos (by omega)]
    simp only [show 4096 + k.val - 2048 - 2048 = k.val by omega]
  · rw [dif_neg (by omega), dif_neg (by omega), dif_neg (by omega), dif_pos (by omega)]
    simp only [show 5120 + k.val - 2048 - 2048 - 1024 = k.val by omega]
  · rw [dif_neg (by omega), dif_neg (by omega), dif_neg (by omega), dif_neg (by omega)]
    simp only [show 6144 + k.val - 2048 - 2048 - 1024 - 1024 = k.val by omega]

theorem v16 (b : Fin 8) (i : Fin 772) (j : Fin 1024) : val_main_v16 (F := Ideal) x0 x2 x3 x4 x5 x6 (ix3 b i j)
    = dwin x0 x2 x3 x4 x5 x6 (ix3 b i j) := by
  pointwise [val_main_v16, val_main_v15, val_main_v14, val_main_v10, val_main_v9, val_main_v8, val_main_v4, val_main_v5, val_main_v6, val_main_v7, val_main_v0, dwin, blocks, dw, ddt_at x6]
  by_cases h1 : b.val * 772 + i.val < 2048
  · simp only [dif_pos h1]
  simp only [dif_neg h1]
  by_cases h2 : b.val * 772 + i.val - 2048 < 2048
  · simp only [dif_pos h2]
  simp only [dif_neg h2]
  by_cases h3 : b.val * 772 + i.val - 2048 - 2048 < 1024
  · simp only [dif_pos h3]
  simp only [dif_neg h3]
  by_cases h4 : b.val * 772 + i.val - 2048 - 2048 - 1024 < 1024
  · simp only [dif_pos h4]
  have h5 : b.val * 772 + i.val - 2048 - 2048 - 1024 - 1024 < 32 := by omega
  simp only [dif_neg h4, dif_pos h5]

end Cert.Proj.Ref

namespace Cert.Proj

open Idealize.ShloMosaic Idealize.ShloMosaic.TcCoe Idealize.SL.Sem

theorem frame_reference : @Cert.quiescent_Reference3Ideal Cert.Reference3Ideal.Gen.facts := fun m ρ _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m ρ)

open Cert.Reference3Ideal in
/-- The reference's results, as the kernel's functions of the arguments. -/
theorem reference_results {x0 y0 : FVec Ideal S4096x1024 .bf16} {x1 y1 : FVec Ideal S6176x1024 .bf16} {x2 x3 y2 y3 : FVec Ideal S4096x2048 .bf16}
    {x4 x5 y4 y5 : FVec Ideal S4096x1024 .bf16} {x6 y6 : FVec Ideal S4096x32 .f32}
    (h0 : y0 = x0) (h1 : y1 = x1) (h2 : y2 = x2) (h3 : y3 = x3) (h4 : y4 = x4) (h5 : y5 = x5) (h6 : y6 = x6) :
    Read.val_main_v13 (F := Ideal) y0 y1 = dt x0 (wdt x1)
    ∧ Read.val_main_v11 (F := Ideal) y1 y2 y3 y4 y5 y6 = du x1 x2 x3 x4 x5 x6
    ∧ Read.val_main_v16 (F := Ideal) y0 y2 y3 y4 y5 y6 = dwin x0 x2 x3 x4 x5 x6 := by
  rw [h0, h1, h2, h3, h4, h5, h6]
  refine ⟨funext fun i => ?_, funext fun i => ?_, funext fun i => ?_⟩
  · rw [Cert.Mlp.eta2 i]
    exact Ref.v13 x0 x1 _ _
  · rw [Cert.Mlp.eta2 i]
    exact Ref.v11 x1 x2 x3 x4 x5 x6 _ _
  · rw [Cert.Mlp.eta3 i]
    exact Ref.v16 x0 x2 x3 x4 x5 x6 _ _ _

theorem algebraic : @Cert.algebraic_Kernel3Ideal_Reference3Ideal Cert.Kernel3Ideal.Gen.facts Cert.Reference3Ideal.Gen.facts := by
  intro m g m' g' _ hargs
  refine ⟨_, _, _, run m g, ?_⟩
  refine (θ_run Cert.Reference3Ideal.defs _ _).mono (fun r h c => ?_) (Cert.Reference3Ideal.Value.run (F := Ideal) m' g')
  obtain ⟨h1, h2, h3, ha⟩ := h c
  obtain ⟨a0, a1, a2, a3, a4, a5, a6⟩ := hargs c
  obtain ⟨r1, r2, r3⟩ := reference_results a0 a1 a2 a3 a4 a5 a6
  exact ⟨h1.trans ((Cert.Reference3Ideal.Read.val_main_v13_eq _ _).trans r1),
    h2.trans ((Cert.Reference3Ideal.Read.val_main_v11_eq _ _ _ _ _ _).trans r2),
    h3.trans ((Cert.Reference3Ideal.Read.val_main_v16_eq _ _ _ _ _ _).trans r3), ha⟩

end Cert.Proj

end
-- ==== Proof.InProj.lean ====
/- The projection into the mixer: what its call leaves is the reference's product. -/
module

public import proofs.«01_k».proof.Defs
public import proofs.«01_k».proof.Proof.Mlp
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.InProj

open Idealize.ShloMosaic Idealize.ShloMosaic.TcCoe Idealize.SL.Sem
open Cert.Kernel6Ideal Cert.Kernel6Ideal.Gen

/-- The first 6144 columns of the product with the transposed matrix. -/
def proj (u : FVec Ideal S4096x1024 .bf16) (w : FVec Ideal S6176x1024 .bf16) : FVec Ideal S4096x6144 .f32 :=
  fun i => ∑ k : Fin 1024, u (ix2 (i 0) k) * w (ix2 ⟨(i 1).val, (i 1).isLt.trans (by decide)⟩ k)

theorem at0 : ∀ t : Fin cfg0.N, win0_0.index t = ![t.val / 6, 0] ∧ win0_1.index t = ![t.val % 6, 0] ∧ win0_2.index t = ![t.val / 6, t.val % 6] :=
  (by decide +kernel : ∀ t : Fin grid0.N, _)

variable (m : (ℓ : Loc nD τ sig) → Buf (Elt Ideal) ℓ) (ρ : Dev nD → PrngReg) (c : Dev nD)

/-- The matrix's block at a point: none is cut. -/
theorem block (t : Fin cfg0.N) (p q : Fin 1024) (h : t.val % 6 * 1024 + p.val < 6176) :
    X0_1 m c t (ix2 p q) = m ((c : Thread nD τ).loc main_arg1) (ix2 ⟨t.val % 6 * 1024 + p.val, h⟩ q) := by
  unfold X0_1 Pipeline.Window.fill
  rw [dif_pos (moved0_1 t _)]
  blk_point [iblk, V, (at0 t).2.1]

theorem point (t : Fin cfg0.N) (y) : k0_pay1 (F := Ideal) (iblk m c 0 t) (X0_1 m c t) y
    = proj (m ((c : Thread nD τ).loc main_arg0)) (m ((c : Thread nD τ).loc main_arg1)) ((win0_2.blk t).view.emb y) := by
  pointwise [k0_pay1, proj]
  refine Fin.sum_fin_congr fun k => ?_
  have hb : t.val % 6 * 1024 + (y 1).val < 6176 := by
    have h1 : (y 1).val < 1024 := (y 1).isLt
    omega
  refine congrArg₂ (· * ·) ?_ ((block m c t (y 1) k hb).trans ?_)
  · blk_point [iblk, V, (at0 t).1, (at0 t).2.2]
  · blk_point [(at0 t).2.2]

theorem final : (dats m 0 c).arrAt 2 (cfgs 0).N = proj (m ((c : Thread nD τ).loc main_arg0)) (m ((c : Thread nD τ).loc main_arg1)) := by
  refine (dats m 0 c).arrAt_eq_of_covers 2 _ (by decide +kernel) fun t hf y => ?_
  blk_simp
  rw [after0_2]; unfold Gen.outsAt0; frame_out
  exact point m c t y

theorem run : θ_run defs (onTc (τ := τ) (main (F := Ideal))) ⟨m, fun _ => 0, ρ⟩ (fun r => ∀ c : Dev nD,
      r.2.mem ((c.tc : Thread nD τ).loc main_v0) = proj (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

open Cert.Reference6Ideal.Read in
theorem v4 (x0 : FVec Ideal S4096x1024 .bf16) (x1 : FVec Ideal S6176x1024 .bf16) (i : Fin 4096) (j : Fin 6144) :
    val_main_v4 (F := Ideal) x0 x1 (ix2 i j) = proj x0 x1 (ix2 i j) := by
  pointwise [val_main_v4, val_main_v3, val_main_v0, val_main_v2, val_main_v1, proj]

/-- The reference's result, as the kernel's function of the arguments. -/
theorem reference_result {x0 y0 : FVec Ideal S4096x1024 .bf16} {x1 y1 : FVec Ideal S6176x1024 .bf16} (h0 : y0 = x0) (h1 : y1 = x1) :
    Cert.Reference6Ideal.Read.val_main_v4 (F := Ideal) y0 y1 = proj x0 x1 := by
  rw [h0, h1]
  funext i
  rw [Cert.Mlp.eta2 i]
  exact v4 x0 x1 _ _

theorem frame_reference : @Cert.quiescent_Reference6Ideal Cert.Reference6Ideal.Gen.facts := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic : @Cert.algebraic_Kernel6Ideal_Reference6Ideal Cert.Kernel6Ideal.Gen.facts Cert.Reference6Ideal.Gen.facts := by
  intro m g m' g' _ hargs
  refine ⟨_, run m g, ?_⟩
  refine (θ_run Cert.Reference6Ideal.defs _ _).mono (fun r h c => ?_) (Cert.Reference6Ideal.Value.run (F := Ideal) m' g')
  obtain ⟨h1, ha⟩ := h c
  exact ⟨h1.trans ((Cert.Reference6Ideal.Read.val_main_v4_eq _ _).trans (reference_result (hargs c).1 (hargs c).2)), ha⟩

end Cert.InProj

end
-- ==== Proof.Gate.lean ====
/- The gate and the group norm: what the call leaves in its array. -/
module

public import proofs.«01_k».proof.Proof.Gen.Kernel5Ideal.Frame
public import Idealize.ShloMosaic.Lib.Pipeline.ValueKit

@[expose] public section

set_option maxRecDepth 16384

noncomputable section

namespace Cert.Out

open Idealize.ShloMosaic Idealize.ShloMosaic.TcCoe Idealize.SL.Sem
open Cert.Kernel5Ideal Cert.Kernel5Ideal.Gen

/-- The gated value. -/
def gate (y z : EReal) : EReal := y * (z * Ideal.div 1 (1 + Ideal.exp (0 - z)))

/-- A group of 256 gated values, divided by the root of their mean square and scaled. -/
def cell (g : Fin 256 → EReal) (w : EReal) (k : Fin 256) : EReal :=
  g k * Ideal.rsqrt (Ideal.div (∑ l : Fin 256, g l * g l) (Ideal.ofBits .f32 0x43800000#32) + Ideal.ofBits .f32 0x358637BD#32) * w

/-- The group of a column, in `n` rows of the values and of the gates. -/
def group {n m : ℕ} (hm : 2048 ≤ m) (y : FVec Ideal ⟨2, ![n, 2048]⟩ .f32) (z : FVec Ideal ⟨2, ![n, m]⟩ .f32) (p : Fin n) (g : Fin 8) (l : Fin 256) : EReal :=
  gate (y (ix2 p ⟨g.val * 256 + l.val, by omega⟩)) (z (ix2 p ⟨g.val * 256 + l.val, by omega⟩))

/-- The gated and normed values. -/
def norm {n m : ℕ} (hm : 2048 ≤ m) (y : FVec Ideal ⟨2, ![n, 2048]⟩ .f32) (z : FVec Ideal ⟨2, ![n, m]⟩ .f32) (w : FVec Ideal S1x2048 .f32) :
    FVec Ideal ⟨2, ![n, 2048]⟩ .bf16 :=
  fun i => cell (group hm y z (i 0) ⟨(i 1).val / 256, by have h : (i 1).val < 2048 := (i 1).isLt; omega⟩) (w (ix2 0 (i 1)))
    ⟨(i 1).val % 256, Nat.mod_lt _ (by decide)⟩

/-- The same, read at a column given by its group and its place in it. -/
theorem norm_at {n m : ℕ} (hm : 2048 ≤ m) (y : FVec Ideal ⟨2, ![n, 2048]⟩ .f32) (z : FVec Ideal ⟨2, ![n, m]⟩ .f32) (w : FVec Ideal S1x2048 .f32)
    (i : (⟨2, ![n, 2048]⟩ : Shape).Idx) (p : Fin n) (g : Fin 8) (k : Fin 256) (h0 : (i 0 : ℕ) = p) (h1 : (i 1 : ℕ) = g.val * 256 + k.val) :
    norm hm y z w i = cell (group hm y z p g) (w (ix2 0 ⟨g.val * 256 + k.val, by omega⟩)) k := by
  have e0 : i 0 = p := Fin.ext h0
  have e1 : i 1 = (⟨g.val * 256 + k.val, by omega⟩ : Fin 2048) := Fin.ext h1
  unfold norm
  have hg : (⟨(i 1).val / 256, by have h : (i 1).val < 2048 := (i 1).isLt; omega⟩ : Fin 8) = g := Fin.ext (by show (i 1).val / 256 = g.val; omega)
  have hk : (⟨(i 1).val % 256, Nat.mod_lt _ (by decide)⟩ : Fin 256) = k := Fin.ext (by show (i 1).val % 256 = k.val; omega)
  rw [hg, hk, e0, e1]

theorem block (x0 x1 : Vec Ideal S512x2048 .f32) (x2 : Vec Ideal S1x2048 .f32) (y : S512x2048.Idx) :
    out0_3 (F := Ideal) x0 x1 x2 y = norm (n := 512) (m := 2048) le_rfl x0 x1 x2 y := by
  canon_tiles x h
  all_goals (open_payloads; pointwise; symm)
  · exact norm_at le_rfl x0 x1 x2 y (x 0) 7 (x 1) h0 h1
  · exact norm_at le_rfl x0 x1 x2 y (x 0) 6 (x 1) h0 h1
  · exact norm_at le_rfl x0 x1 x2 y (x 0) 5 (x 1) h0 h1
  · exact norm_at le_rfl x0 x1 x2 y (x 0) 4 (x 1) h0 h1
  · exact norm_at le_rfl x0 x1 x2 y (x 0) 3 (x 1) h0 h1
  · exact norm_at le_rfl x0 x1 x2 y (x 0) 2 (x 1) h0 h1
  · exact norm_at le_rfl x0 x1 x2 y (x 0) 1 (x 1) h0 h1
  · refine (norm_at le_rfl x0 x1 x2 y (x 0) 0 (x 1) h0 (h1.trans (by simp))).trans ?_
    simp only [cell, group, gate, Fin.val_zero, zero_mul, zero_add]

theorem at0 : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)
theorem at1 : ∀ t : Fin cfg1.N, win1_0.index t = ![t.val, 0] ∧ win1_1.index t = ![0, 0] ∧ win1_2.index t = ![t.val, 0] :=
  (by decide +kernel : ∀ t : Fin grid1.N, _)
theorem at2 : ∀ t : Fin cfg2.N, win2_0.index t = ![0, t.val] ∧ win2_1.index t = ![0, 0] ∧ win2_2.index t = ![t.val, 0] :=
  (by decide +kernel : ∀ t : Fin grid2.N, _)
theorem at3 : ∀ t : Fin cfg3.N, win3_0.index t = ![t.val / 2, 0] ∧ win3_1.index t = ![t.val % 2, 0] ∧ win3_2.index t = ![t.val / 2, t.val % 2] :=
  (by decide +kernel : ∀ t : Fin grid3.N, _)

variable (V : (c : Dev nD) → (b : Ref sig .tc) → Buf (Elt Ideal) ((c : Thread nD τ).loc b)) (c : Dev nD)

theorem point0 (t : Fin cfg0.N) (y) : out0_3 (F := Ideal) (iblk0 V c 0 t) (iblk0 V c 1 t) (iblk0 V c 2 t) y
    = norm (n := 4096) (m := 6144) (by decide) (V c main_arg0) (V c main_arg1) (V c main_arg2) ((win0_3.blk t).view.emb y) := by
  refine (block _ _ _ y).trans ?_
  unfold norm cell group gate
  blk_point [iblk0, (at0 t).1, (at0 t).2.1, (at0 t).2.2.1, (at0 t).2.2.2]

theorem final0 : (dat0 V c).arrAt 3 cfg0.N = norm (n := 4096) (m := 6144) (by decide) (V c main_arg0) (V c main_arg1) (V c main_arg2) := by
  refine (dat0 V c).arrAt_eq_of_covers 3 _ (by decide +kernel) fun t _ y => ?_
  blk_simp
  rw [after0_3]
  exact point0 V c t y

/-- The projection out. -/
def proj (y : FVec Ideal S4096x2048 .bf16) (w : FVec Ideal S2048x1024 .bf16) : FVec Ideal S4096x1024 .f32 :=
  fun i => ∑ k : Fin 2048, y (ix2 (i 0) k) * w (ix2 k (i 1))
/-- The gradient of its matrix, -/
def dwout (y : FVec Ideal S4096x2048 .bf16) (d : FVec Ideal S4096x1024 .bf16) : FVec Ideal S2048x1024 .bf16 :=
  fun i => ∑ k : Fin 4096, y (ix2 k (i 0)) * d (ix2 k (i 1))
/-- and of its input. -/
def dyn (d : FVec Ideal S4096x1024 .bf16) (w : FVec Ideal S2048x1024 .bf16) : FVec Ideal S4096x2048 .f32 :=
  fun i => ∑ k : Fin 1024, d (ix2 (i 0) k) * w (ix2 (i 1) k)

theorem point1 (t : Fin cfg1.N) (y) : k1_pay1 (F := Ideal) (iblk1 V c 0 t) (iblk1 V c 1 t) y
    = proj (V c main_v0) (V c main_arg3) ((win1_2.blk t).view.emb y) := by
  pointwise [k1_pay1, proj]
  blk_point [iblk1, (at1 t).1, (at1 t).2.1, (at1 t).2.2]

theorem final1 : (dat1 V c).arrAt 2 cfg1.N = proj (V c main_v0) (V c main_arg3) := by
  refine (dat1 V c).arrAt_eq_of_covers 2 _ (by decide +kernel) fun t _ y => ?_
  blk_simp
  rw [after1_2]; frame_out
  exact point1 V c t y

theorem point2 (t : Fin cfg2.N) (y) : k2_pay1 (F := Ideal) (iblk2 V c 0 t) (iblk2 V c 1 t) y
    = dwout (V c main_v0) (V c main_arg4) ((win2_2.blk t).view.emb y) := by
  pointwise [k2_pay1, dwout]
  blk_point [iblk2, (at2 t).1, (at2 t).2.1, (at2 t).2.2]

theorem final2 : (dat2 V c).arrAt 2 cfg2.N = dwout (V c main_v0) (V c main_arg4) := by
  refine (dat2 V c).arrAt_eq_of_covers 2 _ (by decide +kernel) fun t _ y => ?_
  blk_simp
  rw [after2_2]; frame_out
  exact point2 V c t y

theorem point3 (t : Fin cfg3.N) (y) : k3_pay1 (F := Ideal) (iblk3 V c 0 t) (iblk3 V c 1 t) y
    = dyn (V c main_arg4) (V c main_arg3) ((win3_2.blk t).view.emb y) := by
  pointwise [k3_pay1, dyn]
  blk_point [iblk3, (at3 t).1, (at3 t).2.1, (at3 t).2.2]

theorem final3 : (dat3 V c).arrAt 2 cfg3.N = dyn (V c main_arg4) (V c main_arg3) := by
  refine (dat3 V c).arrAt_eq_of_covers 2 _ (by decide +kernel) fun t _ y => ?_
  blk_simp
  rw [after3_2]; frame_out
  exact point3 V c t y

end Cert.Out

end
-- ==== Proof.OutRun.lean ====
/- The output block's program run, and its reference: their results as functions of the arguments. -/
module

public import proofs.«01_k».proof.Defs
public import proofs.«01_k».proof.Proof.Mlp
public import proofs.«01_k».proof.Proof.Gate
public import proofs.«01_k».proof.Proof.Gen.Reference5Ideal.Run
public import proofs.«01_k».proof.Proof.Gen.Reference5Ideal.Read
public import Idealize.ShloMosaic.Lib.Pointwise

@[expose] public section

set_option maxRecDepth 16384

noncomputable section

namespace Cert.Out

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section
open Cert.Kernel5Ideal Cert.Kernel5Ideal.Gen

section
/-- The resources the launch shares out. -/
abbrev Res (F : FTy → Type) [FloatOps F] := MT nD τ sig Unit (Elt F) ℕ (UR sig nD τ) ℕ

variable {F : FTy → Type} [FloatOps F] (m : (ℓ : Loc nD τ sig) → Buf (Elt F) ℓ) (ρ : Dev nD → PrngReg)

set_option backward.isDefEq.respectTransparency.types false in
/-- Every buffer outside the regions ends at the last boundary's contents. -/
theorem run_last : θ_run defs (onTc (τ := τ) (main (F := F))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)
end

variable (m : (ℓ : Loc nD τ sig) → Buf (Elt Ideal) ℓ) (ρ : Dev nD → PrngReg) (c : Dev nD)

/-- The gated and normed values of the arguments. -/
def yn (x0 : FVec Ideal S4096x2048 .f32) (x1 : FVec Ideal S4096x6144 .f32) (x2 : FVec Ideal S1x2048 .f32) : FVec Ideal S4096x2048 .bf16 :=
  norm (n := 4096) (m := 6144) (by decide) x0 x1 x2

/-- The gradient of the matrix, cut into the devices' blocks of rows. -/
def dwoutBlocks (y : FVec Ideal S4096x2048 .bf16) (d : FVec Ideal S4096x1024 .bf16) : FVec Ideal S8x256x1024 .bf16 :=
  shapeCast S8x256x1024 (dwout y d) shapeCasts_S2048x1024_S8x256x1024

theorem host3 (W : Valuation τ sig (Elt Ideal)) : StableHlo.after hostOps3 W main_v3
    = shapeCast S8x256x1024 (W main_v2 : FVec Ideal S2048x1024 .bf16) shapeCasts_S2048x1024_S8x256x1024 := by
  after_results
  rfl

theorem yn1 : W1 m ρ c main_v0 = yn (m ((c : Thread nD τ).loc main_arg0)) (m ((c : Thread nD τ).loc main_arg1)) (m ((c : Thread nD τ).loc main_arg2)) :=
  (W1_arr m ρ c 3).trans (final0 (V0 m ρ) c)

theorem res_mix : W5 m ρ c main_v1 = proj (yn (m ((c : Thread nD τ).loc main_arg0)) (m ((c : Thread nD τ).loc main_arg1)) (m ((c : Thread nD τ).loc main_arg2)))
    (m ((c : Thread nD τ).loc main_arg3)) := by
  refine (W5_of m ρ c main_v1 (by decide)).trans ((W4_of m ρ c main_v1 (by decide)).trans ((W3_of m ρ c main_v1 (by decide)).trans
    ((W2_arr m ρ c 2).trans ((final1 (V1 m ρ) c).trans ?_))))
  rw [show V1 m ρ c main_v0 = _ from yn1 m ρ c, show V1 m ρ c main_arg3 = _ from W1_args m ρ c main_arg3 (by decide)]

theorem res_dwout : W5 m ρ c main_v3 = dwoutBlocks (yn (m ((c : Thread nD τ).loc main_arg0)) (m ((c : Thread nD τ).loc main_arg1)) (m ((c : Thread nD τ).loc main_arg2)))
    (m ((c : Thread nD τ).loc main_arg4)) := by
  refine (W5_of m ρ c main_v3 (by decide)).trans ((host3 (W3 m ρ c)).trans ?_)
  rw [show W3 m ρ c main_v2 = _ from (W3_arr m ρ c 2).trans (final2 (V2 m ρ) c),
    show V2 m ρ c main_v0 = _ from (W2_of m ρ c main_v0 (by decide)).trans (yn1 m ρ c),
    show V2 m ρ c main_arg4 = _ from W2_args m ρ c main_arg4 (by decide)]
  rfl

theorem res_dyn : W5 m ρ c main_v4 = dyn (m ((c : Thread nD τ).loc main_arg4)) (m ((c : Thread nD τ).loc main_arg3)) := by
  refine (W5_arr m ρ c 2).trans ((final3 (V4 m ρ) c).trans ?_)
  rw [show V4 m ρ c main_arg4 = _ from W4_args m ρ c main_arg4 (by decide), show V4 m ρ c main_arg3 = _ from W4_args m ρ c main_arg3 (by decide)]

theorem run : θ_run defs (onTc (τ := τ) (main (F := Ideal))) ⟨m, fun _ => 0, ρ⟩ (fun r => ∀ c : Dev nD,
      r.2.mem ((c.tc : Thread nD τ).loc main_v1) = proj (yn (m ((c : Thread nD τ).loc main_arg0)) (m ((c : Thread nD τ).loc main_arg1))
        (m ((c : Thread nD τ).loc main_arg2))) (m ((c : Thread nD τ).loc main_arg3))
      ∧ r.2.mem ((c.tc : Thread nD τ).loc main_v3) = dwoutBlocks (yn (m ((c : Thread nD τ).loc main_arg0)) (m ((c : Thread nD τ).loc main_arg1))
        (m ((c : Thread nD τ).loc main_arg2))) (m ((c : Thread nD τ).loc main_arg4))
      ∧ r.2.mem ((c.tc : Thread nD τ).loc main_v4) = dyn (m ((c : Thread nD τ).loc main_arg4)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1 (by decide))).trans (res_mix m ρ c),
     (h c _ (mem_uc main_v3 (by decide))).trans (res_dwout m ρ c),
     (h c _ (mem_uc main_v4 (by decide))).trans (res_dyn m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_last m ρ)

end

namespace Ref
open Cert.Reference5Ideal Cert.Reference5Ideal.Gen Cert.Reference5Ideal.Read

variable (x0 : FVec Ideal S4096x2048 .f32) (x1 : FVec Ideal S4096x6144 .f32) (x2 : FVec Ideal S1x2048 .f32) (x3 : FVec Ideal S2048x1024 .bf16)
    (x4 : FVec Ideal S4096x1024 .bf16)

theorem v20 (i : Fin 4096) (j : Fin 2048) : val_main_v20 (F := Ideal) x0 x1 x2 (ix2 i j) = yn x0 x1 x2 (ix2 i j) := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_v1, val_main_call0_v2, val_main_call0_v3, val_main_call0_v4, val_main_call0_v5, val_main_call0_cst, val_main_call0_cst_0, val_main_cst, val_main_cst_0, val_main_cst_1, yn, norm, cell, group, gate]
  simp only [zero_sub, Nat.div_add_mod']

theorem v22 (i : Fin 4096) (j : Fin 1024) : val_main_v22 (F := Ideal) x0 x1 x2 x3 (ix2 i j) = proj (yn x0 x1 x2) x3 (ix2 i j) := by
  pointwise [val_main_v22, val_main_v21, proj, v20 x0 x1 x2]

theorem v28 (b : Fin 8) (i : Fin 256) (j : Fin 1024) : val_main_v28 (F := Ideal) x0 x1 x2 x4 (ix3 b i j) = dwoutBlocks (yn x0 x1 x2) x4 (ix3 b i j) := by
  pointwise [val_main_v28, val_main_v27, val_main_v25, val_main_v24, val_main_v23, dwoutBlocks, dwout, v20 x0 x1 x2]
  exact Finset.sum_congr rfl fun k _ => mul_comm _ _

theorem v26 (i : Fin 4096) (j : Fin 2048) : val_main_v26 (F := Ideal) x3 x4 (ix2 i j) = dyn x4 x3 (ix2 i j) := by
  pointwise [val_main_v26, val_main_v23, val_main_v21, dyn]

end Ref

theorem frame_reference : @Cert.quiescent_Reference5Ideal Cert.Reference5Ideal.Gen.facts := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

open Cert.Reference5Ideal in
/-- The reference's results, as the kernel's functions of the arguments. -/
theorem reference_results {x0 y0 : FVec Ideal S4096x2048 .f32} {x1 y1 : FVec Ideal S4096x6144 .f32} {x2 y2 : FVec Ideal S1x2048 .f32}
    {x3 y3 : FVec Ideal S2048x1024 .bf16} {x4 y4 : FVec Ideal S4096x1024 .bf16}
    (h0 : y0 = x0) (h1 : y1 = x1) (h2 : y2 = x2) (h3 : y3 = x3) (h4 : y4 = x4) :
    Read.val_main_v22 (F := Ideal) y0 y1 y2 y3 = proj (yn x0 x1 x2) x3
    ∧ Read.val_main_v28 (F := Ideal) y0 y1 y2 y4 = dwoutBlocks (yn x0 x1 x2) x4
    ∧ Read.val_main_v26 (F := Ideal) y3 y4 = dyn x4 x3 := by
  rw [h0, h1, h2, h3, h4]
  refine ⟨funext fun i => ?_, funext fun i => ?_, funext fun i => ?_⟩
  · rw [Cert.Mlp.eta2 i]
    exact Ref.v22 x0 x1 x2 x3 _ _
  · rw [Cert.Mlp.eta3 i]
    exact Ref.v28 x0 x1 x2 x4 _ _ _
  · rw [Cert.Mlp.eta2 i]
    exact Ref.v26 x3 x4 _ _

theorem algebraic : @Cert.algebraic_Kernel5Ideal_Reference5Ideal Cert.Kernel5Ideal.Gen.facts Cert.Reference5Ideal.Gen.facts := by
  intro m g m' g' _ hargs
  refine ⟨_, _, _, run m g, ?_⟩
  refine (θ_run Cert.Reference5Ideal.defs _ _).mono (fun r h c => ?_) (Cert.Reference5Ideal.Value.run (F := Ideal) m' g')
  obtain ⟨h1, h2, h3, ha⟩ := h c
  obtain ⟨a0, a1, a2, a3, a4⟩ := hargs c
  obtain ⟨r1, r2, r3⟩ := reference_results a0 a1 a2 a3 a4
  exact ⟨h1.trans ((Cert.Reference5Ideal.Read.val_main_v22_eq _ _ _ _).trans r1),
    h2.trans ((Cert.Reference5Ideal.Read.val_main_v28_eq _ _ _ _).trans r2),
    h3.trans ((Cert.Reference5Ideal.Read.val_main_v26_eq _ _).trans r3), ha⟩

end Cert.Out

end
-- ==== Proof.Rms.lean ====
/- The gate and the group norm over the extended reals, when the numbers that enter them are real: the two programs write
   the gradient of x ↦ x / root(mean of squares) differently, and both are the real gradient. -/
module

public import proofs.«01_k».proof.Proof.Row
public import Idealize.ShloMosaic.Lib.Pointwise

@[expose] public section

noncomputable section

namespace Cert.Norm

open Idealize.ShloMosaic
open Cert.Attn (coe_sum div_real one_div_real)

theorem ofBits_width : Ideal.ofBits .f32 0x43800000#32 = ((256 : ℝ) : EReal) := by
  simp [Ideal.ofBits, Ideal.ieee, -EReal.coe_mul]; norm_num
theorem ofBits_half : Ideal.ofBits .f32 0xBF000000#32 = ((-(1 / 2) : ℝ) : EReal) := by
  simp [Ideal.ofBits, Ideal.ieee, -EReal.coe_mul, -EReal.coe_neg]; norm_num
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-! ## The norm -/

/-- The mean of the squares of a group, with the constant that keeps it from zero, -/
def ms (x : Fin 256 → EReal) : EReal := Ideal.div (∑ l, x l * x l) (Ideal.ofBits .f32 0x43800000#32) + Ideal.ofBits .f32 0x358637BD#32
/-- and what the group is multiplied with. -/
def root (x : Fin 256 → EReal) : EReal := Ideal.rsqrt (ms x)

/-- The gradient as the kernel writes it, -/
def grad (x g : Fin 256 → EReal) (k : Fin 256) : EReal :=
  root x * (g k - x k * root x * Ideal.div (∑ l, g l * (x l * root x)) (Ideal.ofBits .f32 0x43800000#32))

/-- and as the derivative of the reference's lines has it: once through the group, and twice through its square. -/
def through (x g : Fin 256 → EReal) : EReal :=
  Ideal.div ((∑ l, x l * g l) * (Ideal.ofBits .f32 0xBF000000#32 * Ideal.div (root x) (ms x))) (Ideal.ofBits .f32 0x43800000#32)
def gradRef (x g : Fin 256 → EReal) (k : Fin 256) : EReal := g k * root x + x k * through x g + through x g * x k

theorem ms_real (x : Fin 256 → ℝ) : ∃ s : ℝ, 0 < s ∧ ms (fun l => (x l : EReal)) = (s : EReal) := by
  obtain ⟨e, he, h⟩ := ofBits_eps
  refine ⟨(∑ l, x l * x l) / 256 + e, add_pos_of_nonneg_of_pos (div_nonneg (Finset.sum_nonneg fun l _ => mul_self_nonneg _) (by norm_num)) he, ?_⟩
  unfold ms
  rw [h, ofBits_width, EReal.coe_add, ← div_real _ (by norm_num : (256 : ℝ) ≠ 0), coe_sum]
  simp only [EReal.coe_mul]

theorem root_real (x : Fin 256 → ℝ) : ∃ s r : ℝ, 0 < s ∧ r * r = 1 / s ∧ ms (fun l => (x l : EReal)) = (s : EReal)
    ∧ root (fun l => (x l : EReal)) = (r : EReal) := by
  obtain ⟨s, hs, h⟩ := ms_real x
  refine ⟨s, (Real.sqrt s)⁻¹, hs, ?_, h, ?_⟩
  · rw [← mul_inv, Real.mul_self_sqrt hs.le, one_div]
  · unfold root
    rw [h, Ideal.rsqrt_coe, if_neg (not_lt.2 hs.le), if_neg hs.ne']

/-- The gradient of the norm, over the reals. -/
theorem grad_eq (x g : Fin 256 → ℝ) (k : Fin 256) :
    grad (fun l => (x l : EReal)) (fun l => (g l : EReal)) k = gradRef (fun l => (x l : EReal)) (fun l => (g l : EReal)) k := by
  obtain ⟨s, r, hs, hr, h1, h2⟩ := root_real x
  unfold grad gradRef through
  rw [h1, h2, ofBits_width, ofBits_half, div_real _ hs.ne']
  simp only [← EReal.coe_mul, ← coe_sum, div_real _ (by norm_num : (256 : ℝ) ≠ 0), ← EReal.coe_sub, ← EReal.coe_add]
  refine congrArg _ ?_
  have e1 : ∑ l, g l * (x l * r) = (∑ l, x l * g l) * r := by
    rw [Finset.sum_mul]
    exact Finset.sum_congr rfl fun l _ => by ring
  have e2 : r / s = r * (r * r) := by rw [hr]; ring
  rw [e1, e2]
  ring

theorem grad_real (x g : Fin 256 → ℝ) (k : Fin 256) : ∃ d : ℝ, grad (fun l => (x l : EReal)) (fun l => (g l : EReal)) k = (d : EReal) := by
  obtain ⟨s, r, hs, hr, h1, h2⟩ := root_real x
  unfold grad
  rw [h2, ofBits_width]
  simp only [← EReal.coe_mul, ← coe_sum, div_real _ (by norm_num : (256 : ℝ) ≠ 0), ← EReal.coe_sub, ← EReal.coe_add]
  exact ⟨_, rfl⟩

/-! ## The gate -/

/-- 1 / (1 + e⁻ᶻ). -/
def sg (z : EReal) : EReal := Ideal.div 1 (1 + Ideal.exp (0 - z))

theorem sg_real (z : ℝ) : ∃ s : ℝ, sg (z : EReal) = (s : EReal) := by
  refine ⟨1 / (1 + Real.exp (-z)), ?_⟩
  unfold sg
  rw [zero_sub, ← EReal.coe_neg, Ideal.exp_coe, show (1 : EReal) = ((1 : ℝ) : EReal) from rfl, ← EReal.coe_add,
    div_real _ (by positivity : 1 + Real.exp (-z) ≠ 0)]

/-- The gradient of the gate with respect to z, both ways. -/
theorem gate_eq (d y z : ℝ) : (d : EReal) * y * (sg z * (1 + z * (1 - sg z)))
    = (y : EReal) * d * sg z + z * (y * d) * (sg z * (1 - sg z)) := by
  obtain ⟨s, h⟩ := sg_real z
  rw [h, show (1 : EReal) = ((1 : ℝ) : EReal) from rfl]
  simp only [← EReal.coe_mul, ← EReal.coe_sub, ← EReal.coe_add]
  refine congrArg _ ?_
  ring

/-! ## Arrays of `n` rows of eight groups; the gates are the first 2048 of `m` columns -/

/-- A column's group and its place in it. -/
abbrev gof (j : Fin 2048) : Fin 8 := ⟨j.val / 256, by omega⟩
abbrev kof (j : Fin 2048) : Fin 256 := ⟨j.val % 256, Nat.mod_lt _ (by decide)⟩

theorem gof_eq {g : Fin 8} {k : Fin 256} {j : Fin 2048} (h : j.val = g.val * 256 + k.val) : gof j = g := Fin.ext (by show j.val / 256 = g.val; omega)
theorem kof_eq {g : Fin 8} {k : Fin 256} {j : Fin 2048} (h : j.val = g.val * 256 + k.val) : kof j = k := Fin.ext (by show j.val % 256 = k.val; omega)

/-- The gradients that come back to a group through its scale. -/
def cot {n : ℕ} (d : FVec Ideal ⟨2, ![n, 2048]⟩ .f32) (w : FVec Ideal ⟨2, ![1, 2048]⟩ .f32) (p : Fin n) (g : Fin 8) (l : Fin 256) : EReal :=
  d (ix2 p ⟨g.val * 256 + l.val, by omega⟩) * w (ix2 0 ⟨g.val * 256 + l.val, by omega⟩)

section
variable {n m : ℕ} (hm : 2048 ≤ m) (d y : FVec Ideal ⟨2, ![n, 2048]⟩ .f32) (z : FVec Ideal ⟨2, ![n, m]⟩ .f32) (w : FVec Ideal ⟨2, ![1, 2048]⟩ .f32)

/-- A group of gated values, -/
def grp (p : Fin n) (g : Fin 8) (l : Fin 256) : EReal :=
  y (ix2 p ⟨g.val * 256 + l.val, by omega⟩) * (z (ix2 p ⟨g.val * 256 + l.val, by omega⟩) * sg (z (ix2 p ⟨g.val * 256 + l.val, by omega⟩)))
/-- and the gradient of the gated values. -/
def dgate (p : Fin n) (g : Fin 8) (k : Fin 256) : EReal := grad (grp hm y z p g) (cot d w p g) k

/-- The gradient of the values, -/
def dyAt (p : Fin n) (g : Fin 8) (k : Fin 256) : EReal :=
  dgate hm d y z w p g k * (z (ix2 p ⟨g.val * 256 + k.val, by omega⟩) * sg (z (ix2 p ⟨g.val * 256 + k.val, by omega⟩)))
/-- of the gates, -/
def dzAt (p : Fin n) (g : Fin 8) (k : Fin 256) : EReal :=
  dgate hm d y z w p g k * y (ix2 p ⟨g.val * 256 + k.val, by omega⟩) * (sg (z (ix2 p ⟨g.val * 256 + k.val, by omega⟩))
    * (1 + z (ix2 p ⟨g.val * 256 + k.val, by omega⟩) * (1 - sg (z (ix2 p ⟨g.val * 256 + k.val, by omega⟩)))))
/-- and a row's part in that of the scales. -/
def dwAt (p : Fin n) (g : Fin 8) (k : Fin 256) : EReal :=
  d (ix2 p ⟨g.val * 256 + k.val, by omega⟩) * (grp hm y z p g k * root (grp hm y z p g))

/-- The three gradients as arrays. -/
def dyArr : FVec Ideal ⟨2, ![n, 2048]⟩ .f32 := fun i => dyAt hm d y z w (i 0) (gof (i 1)) (kof (i 1))
def dzArr : FVec Ideal ⟨2, ![n, 2048]⟩ .bf16 := fun i => dzAt hm d y z w (i 0) (gof (i 1)) (kof (i 1))
def dwArr : FVec Ideal ⟨2, ![1, 2048]⟩ .f32 := fun i => ∑ p : Fin n, dwAt hm d y z p (gof (i 1)) (kof (i 1))

/-- Every entry is a real number. -/
structure Fin4 : Prop where
  hd : ∀ i, ((EReal.toReal (d i) : ℝ) : EReal) = d i
  hy : ∀ i, ((EReal.toReal (y i) : ℝ) : EReal) = y i
  hz : ∀ i, ((EReal.toReal (z i) : ℝ) : EReal) = z i
  hw : ∀ i, ((EReal.toReal (w i) : ℝ) : EReal) = w i

variable {d y z w}

theorem grp_real (R : Fin4 d y z w) (p : Fin n) (g : Fin 8) : ∃ X : Fin 256 → ℝ, grp hm y z p g = fun l => (X l : EReal) := by
  have h : ∀ l, ∃ x : ℝ, grp hm y z p g l = (x : EReal) := fun l => by
    unfold grp
    rw [← R.hy, ← R.hz]
    obtain ⟨s, hs⟩ := sg_real (EReal.toReal (z (ix2 p ⟨g.val * 256 + l.val, by omega⟩)))
    rw [hs]
    exact ⟨EReal.toReal (y (ix2 p ⟨g.val * 256 + l.val, by omega⟩)) * (EReal.toReal (z (ix2 p ⟨g.val * 256 + l.val, by omega⟩)) * s), by
      rw [EReal.coe_mul, EReal.coe_mul]⟩
  choose X hX using h
  exact ⟨X, funext hX⟩

theorem cot_real (R : Fin4 d y z w) (p : Fin n) (g : Fin 8) : ∃ X : Fin 256 → ℝ, cot d w p g = fun l => (X l : EReal) :=
  ⟨fun l => EReal.toReal (d (ix2 p ⟨g.val * 256 + l.val, by omega⟩)) * EReal.toReal (w (ix2 0 ⟨g.val * 256 + l.val, by omega⟩)),
    funext fun l => by
      unfold cot
      rw [EReal.coe_mul, R.hd, R.hw]⟩

theorem dgate_eq (R : Fin4 d y z w) (p : Fin n) (g : Fin 8) (k : Fin 256) : dgate hm d y z w p g k = gradRef (grp hm y z p g) (cot d w p g) k := by
  obtain ⟨X, hX⟩ := grp_real hm R p g
  obtain ⟨G, hG⟩ := cot_real R p g
  unfold dgate
  rw [hX, hG]
  exact grad_eq X G k

/-- The gradient of the gates, as the derivative of the reference's lines has it. -/
theorem dzAt_eq (R : Fin4 d y z w) (p : Fin n) (g : Fin 8) (k : Fin 256) (j : Fin m) (hj : j = ⟨g.val * 256 + k.val, by omega⟩) (i : Fin 2048)
    (hi : i = ⟨g.val * 256 + k.val, by omega⟩) : dzAt hm d y z w p g k
    = y (ix2 p i) * gradRef (grp hm y z p g) (cot d w p g) k * sg (z (ix2 p j))
      + z (ix2 p j) * (y (ix2 p i) * gradRef (grp hm y z p g) (cot d w p g) k) * (sg (z (ix2 p j)) * (1 - sg (z (ix2 p j)))) := by
  subst hj hi
  unfold dzAt
  rw [← dgate_eq hm R]
  obtain ⟨X, hX⟩ := grp_real hm R p g
  obtain ⟨G, hG⟩ := cot_real R p g
  obtain ⟨e, he⟩ := grad_real X G k
  have h : dgate hm d y z w p g k = (e : EReal) := by
    unfold dgate
    rw [hX, hG, he]
  rw [h, ← R.hy, ← R.hz]
  exact gate_eq _ _ _
end

end Cert.Norm

end
-- ==== Proof.GateBack.lean ====
/- The gradient of the gate and the group norm: what a grid point of the call leaves. -/
module

public import proofs.«01_k».proof.Proof.Gen.Kernel4Ideal.Frame
public import proofs.«01_k».proof.Proof.Rms
public import Idealize.ShloMosaic.Lib.Pipeline.ValueKit

@[expose] public section

set_option maxRecDepth 16384

noncomputable section

namespace Cert.Norm

open Idealize.ShloMosaic Idealize.ShloMosaic.TcCoe Idealize.SL.Sem
open Cert.Kernel4Ideal Cert.Kernel4Ideal.Gen

/-! ## The arrays read at a column given by its group and its place in it -/

section
variable {n m : ℕ} (hm : 2048 ≤ m) (d y : FVec Ideal ⟨2, ![n, 2048]⟩ .f32) (z : FVec Ideal ⟨2, ![n, m]⟩ .f32) (w : FVec Ideal ⟨2, ![1, 2048]⟩ .f32)
  (i : (⟨2, ![n, 2048]⟩ : Shape).Idx) (p : Fin n) (g : Fin 8) (k : Fin 256)

theorem dyArr_at (h0 : (i 0 : ℕ) = p) (h1 : (i 1 : ℕ) = g.val * 256 + k.val) : dyArr hm d y z w i = dyAt hm d y z w p g k := by
  have e0 : i 0 = p := Fin.ext h0
  unfold dyArr
  rw [gof_eq h1, kof_eq h1, e0]

theorem dzArr_at (h0 : (i 0 : ℕ) = p) (h1 : (i 1 : ℕ) = g.val * 256 + k.val) : dzArr hm d y z w i = dzAt hm d y z w p g k := by
  have e0 : i 0 = p := Fin.ext h0
  unfold dzArr
  rw [gof_eq h1, kof_eq h1, e0]

theorem dwArr_at (i : (⟨2, ![1, 2048]⟩ : Shape).Idx) (h1 : (i 1 : ℕ) = g.val * 256 + k.val) : dwArr hm d y z i = ∑ p : Fin n, dwAt hm d y z p g k := by
  unfold dwArr
  rw [gof_eq h1, kof_eq h1]

theorem dwAdd_at (a : FVec Ideal ⟨2, ![1, 2048]⟩ .f32) (i : (⟨2, ![1, 2048]⟩ : Shape).Idx) (h1 : (i 1 : ℕ) = g.val * 256 + k.val) :
    a i + dwArr hm d y z i = a (ix2 0 ⟨g.val * 256 + k.val, by omega⟩) + ∑ p : Fin n, dwAt hm d y z p g k := by
  rw [dwArr_at hm d y z g k i h1]
  refine congrArg (fun x => a x + _) (funext fun b => ?_)
  match b with
  | 0 => exact Subsingleton.elim (α := Fin 1) _ _
  | 1 => exact Fin.ext h1
end

variable (m : (ℓ : Loc nD τ sig) → Buf (Elt Ideal) ℓ) (c : Dev nD) (t : Fin cfg0.N)

theorem dyA (hz : t.val % 16 = 0) (hp : ¬1 ≤ t.val) (y : S256x2048.Idx) : (outsAt0 m c t.val t.isLt).1 y
    = dyArr (n := 256) (m := 2048) le_rfl (iblk m c 0 t) (iblk m c 1 t) (iblk m c 2 t) (iblk m c 3 t) y := by
  rw [outsAt0_A m c t hz hp hz hp hz hp hz hp hz hp hz hp hz hp hz hp]; frame_out
  generalize iblk m c 0 t = x0, iblk m c 1 t = x1, iblk m c 2 t = x2, iblk m c 3 t = x3
  canon_tiles x h
  all_goals (open_payloads; pointwise; symm)
  · exact dyArr_at le_rfl x0 x1 x2 x3 y (x 0) 7 (x 1) h0 h1
  · exact dyArr_at le_rfl x0 x1 x2 x3 y (x 0) 6 (x 1) h0 h1
  · exact dyArr_at le_rfl x0 x1 x2 x3 y (x 0) 5 (x 1) h0 h1
  · exact dyArr_at le_rfl x0 x1 x2 x3 y (x 0) 4 (x 1) h0 h1
  · exact dyArr_at le_rfl x0 x1 x2 x3 y (x 0) 3 (x 1) h0 h1
  · exact dyArr_at le_rfl x0 x1 x2 x3 y (x 0) 2 (x 1) h0 h1
  · exact dyArr_at le_rfl x0 x1 x2 x3 y (x 0) 1 (x 1) h0 h1
  · refine (dyArr_at le_rfl x0 x1 x2 x3 y (x 0) 0 (x 1) h0 (h1.trans (by simp))).trans ?_
    simp only [dyAt, dgate, grad, grp, cot, root, ms, sg, Fin.val_zero, zero_mul, zero_add]

theorem dyB (hz : ¬t.val % 16 = 0) (hp : 1 ≤ t.val) (y : S256x2048.Idx) : (outsAt0 m c t.val t.isLt).1 y
    = dyArr (n := 256) (m := 2048) le_rfl (iblk m c 0 t) (iblk m c 1 t) (iblk m c 2 t) (iblk m c 3 t) y := by
  rw [outsAt0_B m c t hz hp hz hp hz hp hz hp hz hp hz hp hz hp hz hp]; frame_out
  generalize iblk m c 0 t = x0, iblk m c 1 t = x1, iblk m c 2 t = x2, iblk m c 3 t = x3
  canon_tiles x h
  all_goals (open_payloads; pointwise; symm)
  · exact dyArr_at le_rfl x0 x1 x2 x3 y (x 0) 7 (x 1) h0 h1
  · exact dyArr_at le_rfl x0 x1 x2 x3 y (x 0) 6 (x 1) h0 h1
  · exact dyArr_at le_rfl x0 x1 x2 x3 y (x 0) 5 (x 1) h0 h1
  · exact dyArr_at le_rfl x0 x1 x2 x3 y (x 0) 4 (x 1) h0 h1
  · exact dyArr_at le_rfl x0 x1 x2 x3 y (x 0) 3 (x 1) h0 h1
  · exact dyArr_at le_rfl x0 x1 x2 x3 y (x 0) 2 (x 1) h0 h1
  · exact dyArr_at le_rfl x0 x1 x2 x3 y (x 0) 1 (x 1) h0 h1
  · refine (dyArr_at le_rfl x0 x1 x2 x3 y (x 0) 0 (x 1) h0 (h1.trans (by simp))).trans ?_
    simp only [dyAt, dgate, grad, grp, cot, root, ms, sg, Fin.val_zero, zero_mul, zero_add]

theorem dzA (hz : t.val % 16 = 0) (hp : ¬1 ≤ t.val) (y : S256x2048.Idx) : (outsAt0 m c t.val t.isLt).2.1 y
    = dzArr (n := 256) (m := 2048) le_rfl (iblk m c 0 t) (iblk m c 1 t) (iblk m c 2 t) (iblk m c 3 t) y := by
  rw [outsAt0_A m c t hz hp hz hp hz hp hz hp hz hp hz hp hz hp hz hp]; frame_out
  generalize iblk m c 0 t = x0, iblk m c 1 t = x1, iblk m c 2 t = x2, iblk m c 3 t = x3
  canon_tiles x h
  all_goals (open_payloads; pointwise; symm)
  · exact dzArr_at le_rfl x0 x1 x2 x3 y (x 0) 7 (x 1) h0 h1
  · exact dzArr_at le_rfl x0 x1 x2 x3 y (x 0) 6 (x 1) h0 h1
  · exact dzArr_at le_rfl x0 x1 x2 x3 y (x 0) 5 (x 1) h0 h1
  · exact dzArr_at le_rfl x0 x1 x2 x3 y (x 0) 4 (x 1) h0 h1
  · exact dzArr_at le_rfl x0 x1 x2 x3 y (x 0) 3 (x 1) h0 h1
  · exact dzArr_at le_rfl x0 x1 x2 x3 y (x 0) 2 (x 1) h0 h1
  · exact dzArr_at le_rfl x0 x1 x2 x3 y (x 0) 1 (x 1) h0 h1
  · refine (dzArr_at le_rfl x0 x1 x2 x3 y (x 0) 0 (x 1) h0 (h1.trans (by simp))).trans ?_
    simp only [dzAt, dgate, grad, grp, cot, root, ms, sg, Fin.val_zero, zero_mul, zero_add]

theorem dzB (hz : ¬t.val % 16 = 0) (hp : 1 ≤ t.val) (y : S256x2048.Idx) : (outsAt0 m c t.val t.isLt).2.1 y
    = dzArr (n := 256) (m := 2048) le_rfl (iblk m c 0 t) (iblk m c 1 t) (iblk m c 2 t) (iblk m c 3 t) y := by
  rw [outsAt0_B m c t hz hp hz hp hz hp hz hp hz hp hz hp hz hp hz hp]; frame_out
  generalize iblk m c 0 t = x0, iblk m c 1 t = x1, iblk m c 2 t = x2, iblk m c 3 t = x3
  canon_tiles x h
  all_goals (open_payloads; pointwise; symm)
  · exact dzArr_at le_rfl x0 x1 x2 x3 y (x 0) 7 (x 1) h0 h1
  · exact dzArr_at le_rfl x0 x1 x2 x3 y (x 0) 6 (x 1) h0 h1
  · exact dzArr_at le_rfl x0 x1 x2 x3 y (x 0) 5 (x 1) h0 h1
  · exact dzArr_at le_rfl x0 x1 x2 x3 y (x 0) 4 (x 1) h0 h1
  · exact dzArr_at le_rfl x0 x1 x2 x3 y (x 0) 3 (x 1) h0 h1
  · exact dzArr_at le_rfl x0 x1 x2 x3 y (x 0) 2 (x 1) h0 h1
  · exact dzArr_at le_rfl x0 x1 x2 x3 y (x 0) 1 (x 1) h0 h1
  · refine (dzArr_at le_rfl x0 x1 x2 x3 y (x 0) 0 (x 1) h0 (h1.trans (by simp))).trans ?_
    simp only [dzAt, dgate, grad, grp, cot, root, ms, sg, Fin.val_zero, zero_mul, zero_add]

theorem dwA (hz : t.val % 16 = 0) (hp : ¬1 ≤ t.val) (y : S1x2048.Idx) : (outsAt0 m c t.val t.isLt).2.2 y
    = dwArr (n := 256) (m := 2048) le_rfl (iblk m c 0 t) (iblk m c 1 t) (iblk m c 2 t) y := by
  rw [outsAt0_A m c t hz hp hz hp hz hp hz hp hz hp hz hp hz hp hz hp]; frame_out
  generalize iblk m c 0 t = x0, iblk m c 1 t = x1, iblk m c 2 t = x2
  canon_tiles x h
  all_goals (open_payloads; pointwise; symm)
  · exact dwArr_at le_rfl x0 x1 x2 7 (x 1) y h1
  · exact dwArr_at le_rfl x0 x1 x2 6 (x 1) y h1
  · exact dwArr_at le_rfl x0 x1 x2 5 (x 1) y h1
  · exact dwArr_at le_rfl x0 x1 x2 4 (x 1) y h1
  · exact dwArr_at le_rfl x0 x1 x2 3 (x 1) y h1
  · exact dwArr_at le_rfl x0 x1 x2 2 (x 1) y h1
  · exact dwArr_at le_rfl x0 x1 x2 1 (x 1) y h1
  · refine (dwArr_at le_rfl x0 x1 x2 0 (x 1) y (h1.trans (by simp))).trans ?_
    simp only [dwAt, grp, root, ms, sg, Fin.val_zero, zero_mul, zero_add]

theorem dwB (hz : ¬t.val % 16 = 0) (hp : 1 ≤ t.val) (y : S1x2048.Idx) : (outsAt0 m c t.val t.isLt).2.2 y
    = (outsAt0 m c (t.val - 1) (Nat.lt_of_le_of_lt (Nat.sub_le _ _) t.isLt)).2.2 y
      + dwArr (n := 256) (m := 2048) le_rfl (iblk m c 0 t) (iblk m c 1 t) (iblk m c 2 t) y := by
  rw [outsAt0_B m c t hz hp hz hp hz hp hz hp hz hp hz hp hz hp hz hp]; frame_out
  generalize iblk m c 0 t = x0, iblk m c 1 t = x1, iblk m c 2 t = x2
  generalize (outsAt0 m c (t.val - 1) (Nat.lt_of_le_of_lt (Nat.sub_le _ _) t.isLt)).2.2 = a
  canon_tiles x h
  all_goals (open_payloads; pointwise; symm)
  · exact dwAdd_at le_rfl x0 x1 x2 7 (x 1) a y h1
  · exact dwAdd_at le_rfl x0 x1 x2 6 (x 1) a y h1
  · exact dwAdd_at le_rfl x0 x1 x2 5 (x 1) a y h1
  · exact dwAdd_at le_rfl x0 x1 x2 4 (x 1) a y h1
  · exact dwAdd_at le_rfl x0 x1 x2 3 (x 1) a y h1
  · exact dwAdd_at le_rfl x0 x1 x2 2 (x 1) a y h1
  · exact dwAdd_at le_rfl x0 x1 x2 1 (x 1) a y h1
  · refine (dwAdd_at le_rfl x0 x1 x2 0 (x 1) a y (h1.trans (by simp))).trans ?_
    simp only [dwAt, grp, root, ms, sg, Fin.val_zero, zero_mul, zero_add]

end Cert.Norm

end
-- ==== Proof.GateRef.lean ====
/- The reference of the gate's and group norm's gradient: the stages of its derivative. -/
module

public import proofs.«01_k».proof.Proof.Rms
public import proofs.«01_k».proof.Proof.Gen.Reference4Ideal.Run
public import proofs.«01_k».proof.Proof.Gen.Reference4Ideal.Read
public import Idealize.ShloMosaic.Lib.Pointwise

@[expose] public section

set_option maxRecDepth 16384

noncomputable section

namespace Cert.Norm.Ref

open Idealize.ShloMosaic Idealize.ShloMosaic.TcCoe Idealize.SL.Sem
open Cert.Reference4Ideal Cert.Reference4Ideal.Gen Cert.Reference4Ideal.Read

variable (x0 x1 : FVec Ideal S4096x2048 .f32) (x2 : FVec Ideal S4096x6144 .f32) (x3 : FVec Ideal S1x2048 .f32)

theorem wide : 2048 ≤ 6144 := by decide

theorem gates (i : Fin 4096) (j : Fin 2048) : val_main_v0 (F := Ideal) x2 (ix2 i j) = x2 (ix2 i ⟨j.val, by omega⟩) := by
  pointwise [val_main_v0]

theorem sig (i : Fin 4096) (j : Fin 2048) : val_main_v2_2 (F := Ideal) x2 (ix2 i j) = sg (x2 (ix2 i ⟨j.val, by omega⟩)) := by
  pointwise [val_main_v2_2, val_main_call0_v4, val_main_call0_v3, val_main_call0_v2, val_main_call0_v1, val_main_call0_v0, val_main_call0_cst, val_main_call0_cst_0, sg, gates x2]
  rw [zero_sub]

theorem group (p : Fin 4096) (g : Fin 8) (l : Fin 256) : val_main_v4 (F := Ideal) x1 x2 (ix3 p g l) = grp wide x1 x2 p g l := by
  pointwise [val_main_v4, val_main_v3, val_main_v2_0, gates x2, sig x2, grp]

theorem mean (p : Fin 4096) (g : Fin 8) : val_main_v11 (F := Ideal) x1 x2 (ix3 p g 0) = ms (grp wide x1 x2 p g) := by
  pointwise [val_main_v11, val_main_v10, val_main_v9, val_main_v8, val_main_v7, val_main_v6, val_main_v5, val_main_cst, val_main_cst_0, val_main_cst_1, group x1 x2, ms]

theorem roots (p : Fin 4096) (g : Fin 8) : val_main_v12 (F := Ideal) x1 x2 (ix3 p g 0) = root (grp wide x1 x2 p g) := by
  pointwise [val_main_v12, mean x1 x2, root]

theorem cots (p : Fin 4096) (g : Fin 8) (l : Fin 256) : val_main_v28 (F := Ideal) x0 x3 (ix3 p g l) = cot x0 x3 p g l := by
  pointwise [val_main_v28, val_main_v26, val_main_v25, val_main_v19, val_main_v1, cot]

theorem thru (p : Fin 4096) (g : Fin 8) : val_main_v36 (F := Ideal) x0 x1 x2 x3 (ix3 p g 0) = through (grp wide x1 x2 p g) (cot x0 x3 p g) := by
  pointwise [val_main_v36, val_main_v35, val_main_v34, val_main_v31, val_main_v30, val_main_v29, val_main_v15, val_main_v14, val_main_v13, val_main_cst_2, val_main_cst_5, val_main_cst_6, group x1 x2, cots x0 x3, roots x1 x2, mean x1 x2, through]

theorem summed (p : Fin 4096) (g : Fin 8) : val_main_v37 (F := Ideal) x0 x1 x2 x3 (ix2 p g) = through (grp wide x1 x2 p g) (cot x0 x3 p g) := by
  pointwise [val_main_v37, val_main_cst_7]
  exact (Fin.sum_univ_one _).trans (thru x0 x1 x2 x3 p g)

theorem v42 (p : Fin 4096) (g : Fin 8) (k : Fin 256) : val_main_v42 (F := Ideal) x0 x1 x2 x3 (ix3 p g k)
    = gradRef (grp wide x1 x2 p g) (cot x0 x3 p g) k := by
  pointwise [val_main_v42, val_main_v41, val_main_v40, val_main_v39, val_main_v38, val_main_v33, val_main_v32, group x1 x2, cots x0 x3, roots x1 x2, summed x0 x1 x2 x3, gradRef]

theorem v43 (p : Fin 4096) (j : Fin 2048) : val_main_v43 (F := Ideal) x0 x1 x2 x3 (ix2 p j)
    = gradRef (grp wide x1 x2 p (gof j)) (cot x0 x3 p (gof j)) (kof j) := by
  pointwise [val_main_v43, v42 x0 x1 x2 x3]

variable {x0 x1 x2 x3} (R : Fin4 x0 x1 x2 x3)
include R

theorem v45 (p : Fin 4096) (j : Fin 2048) : val_main_v45 (F := Ideal) x0 x1 x2 x3 (ix2 p j) = dyArr wide x0 x1 x2 x3 (ix2 p j) := by
  pointwise [val_main_v45, val_main_v2_0, v43 x0 x1 x2 x3, gates x2, sig x2, dyArr, dyAt]
  rw [dgate_eq wide R]
  simp only [Nat.div_add_mod']

theorem v47 (p : Fin 4096) (j : Fin 2048) : val_main_v47 (F := Ideal) x0 x1 x2 x3 (ix2 p j) = dzArr wide x0 x1 x2 x3 (ix2 p j) := by
  have h := dzAt_eq wide R p (gof j) (kof j) ⟨j.val, by omega⟩ (Fin.ext (Nat.div_add_mod' j.val 256).symm) j (Fin.ext (Nat.div_add_mod' j.val 256).symm)
  pointwise [val_main_v47, val_main_v46, val_main_call1_v2, val_main_call1_v1, val_main_call1_v0, val_main_v44, val_main_v2_1, val_main_call0_v7, val_main_call0_v6, val_main_call0_cst_1, v43 x0 x1 x2 x3, gates x2, sig x2, dzArr]
  exact h.symm

omit R in
theorem v48 (j : Fin 2048) : val_main_v48 (F := Ideal) x0 x1 x2 (ix2 0 j) = dwArr wide x0 x1 x2 (ix2 0 j) := by
  pointwise [val_main_v48, val_main_v27, val_main_cst_4, val_main_v24, val_main_v23, val_main_cst_3, val_main_v22, val_main_v18, val_main_v17, val_main_v16, group x1 x2, roots x1 x2, dwArr, dwAt]
  refine (Fin.sum_univ_one _).trans (Finset.sum_congr rfl fun p _ => (mul_comm _ _).trans ?_)
  simp only [Nat.div_add_mod']

end Cert.Norm.Ref

end
-- ==== Proof.GateRun.lean ====
/- The gradient of the gate and the group norm: the call's three arrays at the end, and the claim. -/
module

public import proofs.«01_k».proof.Defs
public import proofs.«01_k».proof.Proof.Mlp
public import proofs.«01_k».proof.Proof.Finite
public import proofs.«01_k».proof.Proof.GateBack
public import proofs.«01_k».proof.Proof.GateRef
public import proofs.«01_k».proof.Proof.Gen.Reference4Ideal.Run

@[expose] public section

set_option maxRecDepth 16384

noncomputable section

namespace Cert.Norm

open Idealize.ShloMosaic Idealize.ShloMosaic.TcCoe Idealize.SL.Sem
open Cert.Kernel4Ideal Cert.Kernel4Ideal.Gen

theorem at0 : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (ρ : Dev nD → PrngReg) (c : Dev nD)

/-- The three gradients of the arguments. -/
def dy : FVec Ideal S4096x2048 .f32 := dyArr (n := 4096) (m := 6144) (by decide) (m ((c : Thread nD τ).loc main_arg0)) (m ((c : Thread nD τ).loc main_arg1))
  (m ((c : Thread nD τ).loc main_arg2)) (m ((c : Thread nD τ).loc main_arg3))
def dz : FVec Ideal S4096x2048 .bf16 := dzArr (n := 4096) (m := 6144) (by decide) (m ((c : Thread nD τ).loc main_arg0)) (m ((c : Thread nD τ).loc main_arg1))
  (m ((c : Thread nD τ).loc main_arg2)) (m ((c : Thread nD τ).loc main_arg3))
def dw : FVec Ideal S1x2048 .f32 := dwArr (n := 4096) (m := 6144) (by decide) (m ((c : Thread nD τ).loc main_arg0)) (m ((c : Thread nD τ).loc main_arg1))
  (m ((c : Thread nD τ).loc main_arg2))

section
variable (t : Fin cfg0.N) (p : Fin 256) (P : Fin 4096) (hP : (P : ℕ) = t.val * 256 + p)
include hP

theorem read0 (j : Fin 2048) : iblk m c 0 t (ix2 p j) = m ((c : Thread nD τ).loc main_arg0) (ix2 P j) := by
  blk_point [iblk, V, (at0 t).1, hP]
theorem read1 (j : Fin 2048) : iblk m c 1 t (ix2 p j) = m ((c : Thread nD τ).loc main_arg1) (ix2 P j) := by
  blk_point [iblk, V, (at0 t).2.1, hP]
theorem read2 (j : Fin 2048) : iblk m c 2 t (ix2 p j) = m ((c : Thread nD τ).loc main_arg2) (ix2 P ⟨j.val, by omega⟩) := by
  blk_point [iblk, V, (at0 t).2.2.1, hP]
omit hP in
theorem read3 (j : Fin 2048) : iblk m c 3 t (ix2 0 j) = m ((c : Thread nD τ).loc main_arg3) (ix2 0 j) := by
  blk_point [iblk, V, (at0 t).2.2.2.1]

theorem grp_block (g : Fin 8) : grp (n := 256) (m := 2048) le_rfl (iblk m c 1 t) (iblk m c 2 t) p g
    = grp (n := 4096) (m := 6144) (by decide) (m ((c : Thread nD τ).loc main_arg1)) (m ((c : Thread nD τ).loc main_arg2)) P g := by
  funext l
  unfold grp
  rw [read1 m c t p P hP, read2 m c t p P hP]

theorem cot_block (g : Fin 8) : cot (n := 256) (iblk m c 0 t) (iblk m c 3 t) p g
    = cot (n := 4096) (m ((c : Thread nD τ).loc main_arg0)) (m ((c : Thread nD τ).loc main_arg3)) P g := by
  funext l
  unfold cot
  rw [read0 m c t p P hP, read3 m c t]

theorem dyAt_block (g : Fin 8) (k : Fin 256) : dyAt (n := 256) (m := 2048) le_rfl (iblk m c 0 t) (iblk m c 1 t) (iblk m c 2 t) (iblk m c 3 t) p g k
    = dyAt (n := 4096) (m := 6144) (by decide) (m ((c : Thread nD τ).loc main_arg0)) (m ((c : Thread nD τ).loc main_arg1))
      (m ((c : Thread nD τ).loc main_arg2)) (m ((c : Thread nD τ).loc main_arg3)) P g k := by
  unfold dyAt dgate
  rw [grp_block m c t p P hP, cot_block m c t p P hP, read2 m c t p P hP]

theorem dzAt_block (g : Fin 8) (k : Fin 256) : dzAt (n := 256) (m := 2048) le_rfl (iblk m c 0 t) (iblk m c 1 t) (iblk m c 2 t) (iblk m c 3 t) p g k
    = dzAt (n := 4096) (m := 6144) (by decide) (m ((c : Thread nD τ).loc main_arg0)) (m ((c : Thread nD τ).loc main_arg1))
      (m ((c : Thread nD τ).loc main_arg2)) (m ((c : Thread nD τ).loc main_arg3)) P g k := by
  unfold dzAt dgate
  rw [grp_block m c t p P hP, cot_block m c t p P hP, read1 m c t p P hP, read2 m c t p P hP]

theorem dwAt_block (g : Fin 8) (k : Fin 256) : dwAt (n := 256) (m := 2048) le_rfl (iblk m c 0 t) (iblk m c 1 t) (iblk m c 2 t) p g k
    = dwAt (n := 4096) (m := 6144) (by decide) (m ((c : Thread nD τ).loc main_arg0)) (m ((c : Thread nD τ).loc main_arg1))
      (m ((c : Thread nD τ).loc main_arg2)) P g k := by
  unfold dwAt
  rw [grp_block m c t p P hP, read0 m c t p P hP]
end

theorem point4 (t : Fin cfg0.N) (y : S256x2048.Idx) : dyArr (n := 256) (m := 2048) le_rfl (iblk m c 0 t) (iblk m c 1 t) (iblk m c 2 t) (iblk m c 3 t) y
    = dy m c ((win0_4.blk t).view.emb y) := by
  refine (dyAt_block m c t (y 0) ((win0_4.blk t).view.emb y 0) ?_ _ _).trans (dyArr_at _ _ _ _ _ _ _ (gof (y 1)) (kof (y 1)) rfl ?_).symm
  · blk_simp [(at0 t).2.2.2.2.1]
  · refine Eq.trans ?_ (Nat.div_add_mod' (y 1).val 256).symm
    blk_simp [(at0 t).2.2.2.2.1]

theorem point5 (t : Fin cfg0.N) (y : S256x2048.Idx) : dzArr (n := 256) (m := 2048) le_rfl (iblk m c 0 t) (iblk m c 1 t) (iblk m c 2 t) (iblk m c 3 t) y
    = dz m c ((win0_5.blk t).view.emb y) := by
  refine (dzAt_block m c t (y 0) ((win0_5.blk t).view.emb y 0) ?_ _ _).trans (dzArr_at _ _ _ _ _ _ _ (gof (y 1)) (kof (y 1)) rfl ?_).symm
  · blk_simp [(at0 t).2.2.2.2.2.1]
  · refine Eq.trans ?_ (Nat.div_add_mod' (y 1).val 256).symm
    blk_simp [(at0 t).2.2.2.2.2.1]

theorem final4 : (dats m 0 c).arrAt 4 (cfgs 0).N = dy m c := by
  refine (dats m 0 c).arrAt_eq_of_covers 4 _ (by decide +kernel) fun t _ y => ?_
  have ht : t.val < 16 := lt_of_lt_of_eq t.isLt N_0
  blk_simp
  rw [after0_4]
  refine Eq.trans ?_ (point4 m c t y)
  by_cases hz : t.val % 16 = 0
  · exact dyA m c t hz (by omega) y
  · exact dyB m c t hz (by omega) y

theorem final5 : (dats m 0 c).arrAt 5 (cfgs 0).N = dz m c := by
  refine (dats m 0 c).arrAt_eq_of_covers 5 _ (by decide +kernel) fun t _ y => ?_
  have ht : t.val < 16 := lt_of_lt_of_eq t.isLt N_0
  blk_simp
  rw [after0_5]
  refine Eq.trans ?_ (point5 m c t y)
  by_cases hz : t.val % 16 = 0
  · exact dzA m c t hz (by omega) y
  · exact dzB m c t hz (by omega) y

theorem final6 : (dats m 0 c).arrAt 6 (cfgs 0).N = dw m c := by
  refine (dats m 0 c).arrAt_eq_of_covers 6 _ (by decide +kernel) fun t hf y => ?_
  have ht : t.val < 16 := lt_of_lt_of_eq t.isLt N_0
  blk_simp
  rw [after0_6, Pipeline.eq_sum_fin_of_reset_step_apply_of_flush (fun n h => (outsAt0 m c n h).2.2) 16 (fun _ => 0)
    (fun p j => dwArr (n := 256) (m := 2048) le_rfl (iblk m c 0 p) (iblk m c 1 p) (iblk m c 2 p) j)
    (fun t h j => (dwA m c t h (by have : t.val < 16 := lt_of_lt_of_eq t.isLt N_0; omega) j).trans (zero_add _).symm)
    (fun t h j => dwB m c t h (by omega) j)
    t ((flush0_6 t).mp hf) _, zero_add]
  have e : (win0_6.blk t).view.emb y = y := by
    blk_ext [(at0 t).2.2.2.2.2.2]
  rw [e]
  unfold dw dwArr
  refine Fin.sum_mul_add_congr fun s k hl => ?_
  refine dwAt_block m c _ k ⟨s.val * 256 + k.val, hl⟩ ?_ _ _
  show s.val * 256 + k.val = (16 * (t.val / 16) + s.val) * 256 + k.val
  omega

theorem run : θ_run defs (onTc (τ := τ) (main (F := Ideal))) ⟨m, fun _ => 0, ρ⟩ (fun r => ∀ c : Dev nD,
      r.2.mem ((c.tc : Thread nD τ).loc main_v0_0) = dy m c
      ∧ r.2.mem ((c.tc : Thread nD τ).loc main_v0_1) = dz m c
      ∧ r.2.mem ((c.tc : Thread nD τ).loc main_v0_2) = dw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c), ((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

/-! ## The precondition -/

theorem facts : Cert.Pre_finite4.Facts where
  bcast_S_S4096x2048 := by decide
  reducesTo_S4096x2048_S_d0_1 := by decide
  h_S_ := by decide
  bcast_S_S4096x6144 := by decide
  reducesTo_S4096x6144_S_d0_1 := by decide
  bcast_S_S1x2048 := by decide
  reducesTo_S1x2048_S_d0_1 := by decide

open Cert.Attn (real_of_cmp ofBits_top) in
theorem entries (d y : FVec Ideal S4096x2048 .f32) (z : FVec Ideal S4096x6144 .f32) (w : FVec Ideal S1x2048 .f32)
    (h : @Cert.Pre_finite4.fn facts Ideal _ d y z w = fun _ => 1#1) : Fin4 (n := 4096) (m := 6144) d y z w := by
  have : Subsingleton Cert.Pre_finite4.S_.Idx := ⟨fun a b => funext fun k => k.elim0⟩
  have e := congrFun h (fun k => k.elim0)
  obtain ⟨e, e3⟩ := IntOp.andi_eq_one.1 e
  obtain ⟨e, e2⟩ := IntOp.andi_eq_one.1 e
  obtain ⟨e0, e1⟩ := IntOp.andi_eq_one.1 e
  exact ⟨fun i => real_of_cmp d _ i ofBits_top (Host.reduce_andi_all _ _ _ _ _ e0 i),
    fun i => real_of_cmp y _ i ofBits_top (Host.reduce_andi_all _ _ _ _ _ e1 i),
    fun i => real_of_cmp z _ i ofBits_top (Host.reduce_andi_all _ _ _ _ _ e2 i),
    fun i => real_of_cmp w _ i ofBits_top (Host.reduce_andi_all _ _ _ _ _ e3 i)⟩

/-! ## The claim -/

theorem frame_reference : @Cert.quiescent_Reference4Ideal Cert.Reference4Ideal.Gen.facts := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

theorem frame_reference_finite : @Cert.quiescent_Reference4Ideal_pre_finite4 Cert.Reference4Ideal.Gen.facts facts := fun m ρ _ =>
  frame_reference m ρ trivial

open Cert.Reference4Ideal.Read in
/-- The reference's results, as the kernel's functions of the arguments. -/
theorem reference_results {x0 x1 y0 y1 : FVec Ideal S4096x2048 .f32} {x2 y2 : FVec Ideal S4096x6144 .f32} {x3 y3 : FVec Ideal S1x2048 .f32}
    (R : Fin4 (n := 4096) (m := 6144) x0 x1 x2 x3) (h0 : y0 = x0) (h1 : y1 = x1) (h2 : y2 = x2) (h3 : y3 = x3) :
    val_main_v45 (F := Ideal) y0 y1 y2 y3 = dyArr (n := 4096) (m := 6144) (by decide) x0 x1 x2 x3
    ∧ val_main_v47 (F := Ideal) y0 y1 y2 y3 = dzArr (n := 4096) (m := 6144) (by decide) x0 x1 x2 x3
    ∧ val_main_v48 (F := Ideal) y0 y1 y2 = dwArr (n := 4096) (m := 6144) (by decide) x0 x1 x2 := by
  rw [h0, h1, h2, h3]
  refine ⟨funext fun i => ?_, funext fun i => ?_, funext fun i => ?_⟩
  · rw [Cert.Mlp.eta2 i]
    exact Ref.v45 R _ _
  · rw [Cert.Mlp.eta2 i]
    exact Ref.v47 R _ _
  · have e : i = ix2 0 (i 1) := by
      funext a
      match a with
      | 0 => exact Subsingleton.elim (α := Fin 1) _ _
      | 1 => rfl
    rw [e]
    exact Ref.v48 _

theorem algebraic : @Cert.algebraic_Kernel4Ideal_Reference4Ideal_pre_finite4 Cert.Kernel4Ideal.Gen.facts Cert.Reference4Ideal.Gen.facts facts := by
  intro m g m' g' hpre hargs
  refine ⟨_, _, _, run m g, ?_⟩
  refine (θ_run Cert.Reference4Ideal.defs _ _).mono (fun r h c => ?_) (Cert.Reference4Ideal.Value.run (F := Ideal) m' g')
  obtain ⟨h1, h2, h3, ha⟩ := h c
  obtain ⟨r1, r2, r3⟩ := reference_results (entries _ _ _ _ (hpre c)) (hargs c).1 (hargs c).2.1 (hargs c).2.2.1 (hargs c).2.2.2
  exact ⟨h1.trans ((Cert.Reference4Ideal.Read.val_main_v45_eq m' c).trans r1), h2.trans ((Cert.Reference4Ideal.Read.val_main_v47_eq m' c).trans r2),
    h3.trans ((Cert.Reference4Ideal.Read.val_main_v48_eq _ _ _).trans r3), ha⟩

end Cert.Norm

end
-- ==== Proof.AttnOut.lean ====
/- The attention's last line and its gradients: what the program's three calls leave, its run, the reference's stages
   and the claim. -/
module

public import proofs.«01_k».proof.Defs
public import proofs.«01_k».proof.Proof.Mlp
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.AttnOut

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section
open Cert.Kernel7Ideal Cert.Kernel7Ideal.Gen

/-- The product with the attention's transposed output, and the bias. -/
def out (a : FVec Ideal S1024x4096 .bf16) (w : FVec Ideal S1024x1024 .bf16) (b : FVec Ideal S1x1024 .f32) : FVec Ideal S4096x1024 .f32 :=
  fun i => (∑ k : Fin 1024, a (ix2 k (i 0)) * w (ix2 k (i 1))) + b (ix2 0 (i 1))
/-- The gradient of the matrix, -/
def dwo (a : FVec Ideal S1024x4096 .bf16) (d : FVec Ideal S4096x1024 .bf16) : FVec Ideal S1024x1024 .bf16 :=
  fun i => ∑ k : Fin 4096, a (ix2 (i 0) k) * d (ix2 k (i 1))
/-- cut into the devices' blocks of rows, -/
def dwoBlocks (a : FVec Ideal S1024x4096 .bf16) (d : FVec Ideal S4096x1024 .bf16) : FVec Ideal S8x128x1024 .bf16 :=
  shapeCast S8x128x1024 (dwo a d) shapeCasts_S1024x1024_S8x128x1024
/-- and of the attention's output, transposed. -/
def dao (w : FVec Ideal S1024x1024 .bf16) (d : FVec Ideal S4096x1024 .bf16) : FVec Ideal S1024x4096 .bf16 :=
  fun i => ∑ k : Fin 1024, w (ix2 (i 0) k) * d (ix2 (i 1) k)

theorem at0 : ∀ t : Fin cfg0.N, win0_0.index t = ![0, t.val] ∧ win0_1.index t = ![0, 0] ∧ win0_2.index t = ![0, 0] ∧ win0_3.index t = ![t.val, 0] :=
  (by decide +kernel : ∀ t : Fin grid0.N, _)
theorem at1 : ∀ t : Fin cfg1.N, win1_0.index t = ![t.val, 0] ∧ win1_1.index t = ![0, 0] ∧ win1_2.index t = ![t.val, 0] :=
  (by decide +kernel : ∀ t : Fin grid1.N, _)
theorem at2 : ∀ t : Fin cfg2.N, win2_0.index t = ![0, 0] ∧ win2_1.index t = ![t.val, 0] ∧ win2_2.index t = ![0, t.val] :=
  (by decide +kernel : ∀ t : Fin grid2.N, _)

section
variable (V : (c : Dev nD) → (b : Ref sig .tc) → Buf (Elt Ideal) ((c : Thread nD τ).loc b)) (c : Dev nD)

theorem point0 (t : Fin cfg0.N) (y) : k0_pay1 (F := Ideal) (iblk0 V c 0 t) (iblk0 V c 1 t) (iblk0 V c 2 t) y
    = out (V c main_arg0) (V c main_arg1) (V c main_arg2) ((win0_3.blk t).view.emb y) := by
  pointwise [k0_pay1, out]
  blk_point [iblk0, (at0 t).1, (at0 t).2.1, (at0 t).2.2.1, (at0 t).2.2.2]

theorem final0 : (dat0 V c).arrAt 3 cfg0.N = out (V c main_arg0) (V c main_arg1) (V c main_arg2) := by
  refine (dat0 V c).arrAt_eq_of_covers 3 _ (by decide +kernel) fun t _ y => ?_
  blk_simp
  rw [after0_3]; frame_out
  exact point0 V c t y

theorem point1 (t : Fin cfg1.N) (y) : k1_pay1 (F := Ideal) (iblk1 V c 0 t) (iblk1 V c 1 t) y
    = dwo (V c main_arg0) (V c main_arg3) ((win1_2.blk t).view.emb y) := by
  pointwise [k1_pay1, dwo]
  blk_point [iblk1, (at1 t).1, (at1 t).2.1, (at1 t).2.2]

theorem final1 : (dat1 V c).arrAt 2 cfg1.N = dwo (V c main_arg0) (V c main_arg3) := by
  refine (dat1 V c).arrAt_eq_of_covers 2 _ (by decide +kernel) fun t _ y => ?_
  blk_simp
  rw [after1_2]; frame_out
  exact point1 V c t y

theorem point2 (t : Fin cfg2.N) (y) : k2_pay1 (F := Ideal) (iblk2 V c 0 t) (iblk2 V c 1 t) y
    = dao (V c main_arg1) (V c main_arg3) ((win2_2.blk t).view.emb y) := by
  pointwise [k2_pay1, dao]
  blk_point [iblk2, (at2 t).1, (at2 t).2.1, (at2 t).2.2]

theorem final2 : (dat2 V c).arrAt 2 cfg2.N = dao (V c main_arg1) (V c main_arg3) := by
  refine (dat2 V c).arrAt_eq_of_covers 2 _ (by decide +kernel) fun t _ y => ?_
  blk_simp
  rw [after2_2]; frame_out
  exact point2 V c t y

end

section
/-- The resources the launch shares out. -/
abbrev Res (F : FTy → Type) [FloatOps F] := MT nD τ sig Unit (Elt F) ℕ (UR sig nD τ) ℕ

variable {F : FTy → Type} [FloatOps F] (m : (ℓ : Loc nD τ sig) → Buf (Elt F) ℓ) (ρ : Dev nD → PrngReg)

set_option backward.isDefEq.respectTransparency.types false in
/-- Every buffer outside the regions ends at the last boundary's contents. -/
theorem run_last : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)
end

variable (m : (ℓ : Loc nD τ sig) → Buf (Elt Ideal) ℓ) (ρ : Dev nD → PrngReg) (c : Dev nD)

theorem host2 (W : Valuation τ sig (Elt Ideal)) : StableHlo.after hostOps2 W main_v2
    = shapeCast S8x128x1024 (W main_v1 : FVec Ideal S1024x1024 .bf16) shapeCasts_S1024x1024_S8x128x1024 := by
  after_results
  rfl

theorem res0 : W4 m ρ c main_v0 = out (m ((c : Thread nD τ).loc main_arg0)) (m ((c : Thread nD τ).loc main_arg1)) (m ((c : Thread nD τ).loc main_arg2)) := by
  exact (W4_of m ρ c main_v0 (by decide)).trans ((W3_of m ρ c main_v0 (by decide)).trans ((W2_of m ρ c main_v0 (by decide)).trans
    ((W1_arr m ρ c 3).trans (final0 (V0 m ρ) c))))

theorem res2 : W4 m ρ c main_v2 = dwoBlocks (m ((c : Thread nD τ).loc main_arg0)) (m ((c : Thread nD τ).loc main_arg3)) := by
  refine (W4_of m ρ c main_v2 (by decide)).trans ((host2 (W2 m ρ c)).trans ?_)
  rw [show W2 m ρ c main_v1 = _ from (W2_arr m ρ c 2).trans (final1 (V1 m ρ) c),
    show V1 m ρ c main_arg0 = _ from W1_args m ρ c main_arg0 (by decide), show V1 m ρ c main_arg3 = _ from W1_args m ρ c main_arg3 (by decide)]
  rfl

theorem res3 : W4 m ρ c main_v3 = dao (m ((c : Thread nD τ).loc main_arg1)) (m ((c : Thread nD τ).loc main_arg3)) := by
  refine (W4_arr m ρ c 2).trans ((final2 (V3 m ρ) c).trans ?_)
  rw [show V3 m ρ c main_arg1 = _ from W3_args m ρ c main_arg1 (by decide), show V3 m ρ c main_arg3 = _ from W3_args m ρ c main_arg3 (by decide)]

theorem run : θ_run defs (onTc (τ := τ) (main (F := Ideal))) ⟨m, fun _ => 0, ρ⟩ (fun r => ∀ c : Dev nD,
      r.2.mem ((c.tc : Thread nD τ).loc main_v0) = out (m ((c : Thread nD τ).loc main_arg0)) (m ((c : Thread nD τ).loc main_arg1)) (m ((c : Thread nD τ).loc main_arg2))
      ∧ r.2.mem ((c.tc : Thread nD τ).loc main_v2) = dwoBlocks (m ((c : Thread nD τ).loc main_arg0)) (m ((c : Thread nD τ).loc main_arg3))
      ∧ r.2.mem ((c.tc : Thread nD τ).loc main_v3) = dao (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans (res0 m ρ c),
     (h c _ (mem_uc main_v2 (by decide))).trans (res2 m ρ c),
     (h c _ (mem_uc main_v3 (by decide))).trans (res3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_last m ρ)

end

namespace Ref
open Cert.Reference7Ideal Cert.Reference7Ideal.Gen Cert.Reference7Ideal.Read

variable (x0 : FVec Ideal S1024x4096 .bf16) (x1 : FVec Ideal S1024x1024 .bf16) (x2 : FVec Ideal S1x1024 .f32) (x3 : FVec Ideal S4096x1024 .bf16)

theorem v7 (i : Fin 4096) (j : Fin 1024) : val_main_v7 (F := Ideal) x0 x1 x2 (ix2 i j) = out x0 x1 x2 (ix2 i j) := by
  pointwise [val_main_v7, val_main_v6, val_main_v5, val_main_v4, val_main_v3, val_main_v2, val_main_v1, val_main_v0, out]

theorem v16 (b : Fin 8) (i : Fin 128) (j : Fin 1024) : val_main_v16 (F := Ideal) x0 x3 (ix3 b i j) = dwoBlocks x0 x3 (ix3 b i j) := by
  pointwise [val_main_v16, val_main_v15, val_main_v13, val_main_v12, val_main_v8, val_main_v1, val_main_v0, dwoBlocks, dwo]
  exact Finset.sum_congr rfl fun k _ => mul_comm _ _

theorem v18 (i : Fin 1024) (j : Fin 4096) : val_main_v18 (F := Ideal) x1 x3 (ix2 i j) = dao x1 x3 (ix2 i j) := by
  pointwise [val_main_v18, val_main_v17, val_main_v14, val_main_v8, val_main_v2, dao]
  exact Finset.sum_congr rfl fun k _ => mul_comm _ _

end Ref

theorem frame_reference : @Cert.quiescent_Reference7Ideal Cert.Reference7Ideal.Gen.facts := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

open Cert.Reference7Ideal in
/-- The reference's results, as the kernel's functions of the arguments. -/
theorem reference_results {x0 y0 : FVec Ideal S1024x4096 .bf16} {x1 y1 : FVec Ideal S1024x1024 .bf16} {x2 y2 : FVec Ideal S1x1024 .f32} {x3 y3 : FVec Ideal S4096x1024 .bf16}
    (h0 : y0 = x0) (h1 : y1 = x1) (h2 : y2 = x2) (h3 : y3 = x3) :
    Read.val_main_v7 (F := Ideal) y0 y1 y2 = out x0 x1 x2
    ∧ Read.val_main_v16 (F := Ideal) y0 y3 = dwoBlocks x0 x3
    ∧ Read.val_main_v18 (F := Ideal) y1 y3 = dao x1 x3 := by
  rw [h0, h1, h2, h3]
  refine ⟨funext fun i => ?_, funext fun i => ?_, funext fun i => ?_⟩
  · rw [Cert.Mlp.eta2 i]
    exact Ref.v7 x0 x1 x2 _ _
  · rw [Cert.Mlp.eta3 i]
    exact Ref.v16 x0 x3 _ _ _
  · rw [Cert.Mlp.eta2 i]
    exact Ref.v18 x1 x3 _ _

theorem algebraic : @Cert.algebraic_Kernel7Ideal_Reference7Ideal Cert.Kernel7Ideal.Gen.facts Cert.Reference7Ideal.Gen.facts := by
  intro m g m' g' _ hargs
  refine ⟨_, _, _, run m g, ?_⟩
  refine (θ_run Cert.Reference7Ideal.defs _ _).mono (fun r h c => ?_) (Cert.Reference7Ideal.Value.run (F := Ideal) m' g')
  obtain ⟨h1, h2, h3, ha⟩ := h c
  obtain ⟨a0, a1, a2, a3⟩ := hargs c
  obtain ⟨r1, r2, r3⟩ := reference_results a0 a1 a2 a3
  exact ⟨h1.trans ((Cert.Reference7Ideal.Read.val_main_v7_eq _ _ _).trans r1),
    h2.trans ((Cert.Reference7Ideal.Read.val_main_v16_eq _ _).trans r2),
    h3.trans ((Cert.Reference7Ideal.Read.val_main_v18_eq _ _).trans r3), ha⟩

end Cert.AttnOut

end
-- ==== Proof.AttnIn.lean ====
/- The attention's first line and its gradients: what the program's three calls leave, its run, the reference's stages
   and the claim. -/
module

public import proofs.«01_k».proof.Defs
public import proofs.«01_k».proof.Proof.Mlp
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.AttnIn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section
open Cert.Kernel8Ideal Cert.Kernel8Ideal.Gen

/-- The queries, keys and values, transposed: the product and the bias. -/
def qkv (w : FVec Ideal S1536x1024 .bf16) (u : FVec Ideal S4096x1024 .bf16) (b : FVec Ideal S1536x1 .f32) : FVec Ideal S1536x4096 .bf16 :=
  fun i => (∑ k : Fin 1024, w (ix2 (i 0) k) * u (ix2 (i 1) k)) + b (ix2 (i 0) 0)
/-- The gradient of the matrix, transposed, -/
def dw (d : FVec Ideal S1536x4096 .bf16) (u : FVec Ideal S4096x1024 .bf16) : FVec Ideal S1536x1024 .bf16 :=
  fun i => ∑ k : Fin 4096, d (ix2 (i 0) k) * u (ix2 k (i 1))
/-- cut into the devices' blocks of rows, -/
def dwBlocks (d : FVec Ideal S1536x4096 .bf16) (u : FVec Ideal S4096x1024 .bf16) : FVec Ideal S8x192x1024 .bf16 :=
  shapeCast S8x192x1024 (dw d u) shapeCasts_S1536x1024_S8x192x1024
/-- and of the input. -/
def du (d : FVec Ideal S1536x4096 .bf16) (w : FVec Ideal S1536x1024 .bf16) : FVec Ideal S4096x1024 .f32 :=
  fun i => ∑ k : Fin 1536, d (ix2 k (i 0)) * w (ix2 k (i 1))

theorem at0 : ∀ t : Fin cfg0.N, win0_0.index t = ![t.val / 4, 0] ∧ win0_1.index t = ![t.val % 4, 0] ∧ win0_2.index t = ![t.val / 4, 0]
    ∧ win0_3.index t = ![t.val / 4, t.val % 4] := (by decide +kernel : ∀ t : Fin grid0.N, _)
theorem at1 : ∀ t : Fin cfg1.N, win1_0.index t = ![t.val, 0] ∧ win1_1.index t = ![0, 0] ∧ win1_2.index t = ![t.val, 0] :=
  (by decide +kernel : ∀ t : Fin grid1.N, _)
theorem at2 : ∀ t : Fin cfg2.N, win2_0.index t = ![0, t.val] ∧ win2_1.index t = ![0, 0] ∧ win2_2.index t = ![t.val, 0] :=
  (by decide +kernel : ∀ t : Fin grid2.N, _)

section
variable (V : (c : Dev nD) → (b : Ref sig .tc) → Buf (Elt Ideal) ((c : Thread nD τ).loc b)) (c : Dev nD)

theorem point0 (t : Fin cfg0.N) (y) : k0_pay1 (F := Ideal) (iblk0 V c 0 t) (iblk0 V c 1 t) (iblk0 V c 2 t) y
    = qkv (V c main_arg0) (V c main_arg1) (V c main_arg2) ((win0_3.blk t).view.emb y) := by
  pointwise [k0_pay1, qkv]
  blk_point [iblk0, (at0 t).1, (at0 t).2.1, (at0 t).2.2.1, (at0 t).2.2.2]

theorem final0 : (dat0 V c).arrAt 3 cfg0.N = qkv (V c main_arg0) (V c main_arg1) (V c main_arg2) := by
  refine (dat0 V c).arrAt_eq_of_covers 3 _ (by decide +kernel) fun t _ y => ?_
  blk_simp
  rw [after0_3]; frame_out
  exact point0 V c t y

theorem point1 (t : Fin cfg1.N) (y) : k1_pay1 (F := Ideal) (iblk1 V c 0 t) (iblk1 V c 1 t) y
    = dw (V c main_arg3) (V c main_arg1) ((win1_2.blk t).view.emb y) := by
  pointwise [k1_pay1, dw]
  blk_point [iblk1, (at1 t).1, (at1 t).2.1, (at1 t).2.2]

theorem final1 : (dat1 V c).arrAt 2 cfg1.N = dw (V c main_arg3) (V c main_arg1) := by
  refine (dat1 V c).arrAt_eq_of_covers 2 _ (by decide +kernel) fun t _ y => ?_
  blk_simp
  rw [after1_2]; frame_out
  exact point1 V c t y

theorem point2 (t : Fin cfg2.N) (y) : k2_pay1 (F := Ideal) (iblk2 V c 0 t) (iblk2 V c 1 t) y
    = du (V c main_arg3) (V c main_arg0) ((win2_2.blk t).view.emb y) := by
  pointwise [k2_pay1, du]
  blk_point [iblk2, (at2 t).1, (at2 t).2.1, (at2 t).2.2]

theorem final2 : (dat2 V c).arrAt 2 cfg2.N = du (V c main_arg3) (V c main_arg0) := by
  refine (dat2 V c).arrAt_eq_of_covers 2 _ (by decide +kernel) fun t _ y => ?_
  blk_simp
  rw [after2_2]; frame_out
  exact point2 V c t y

end

section
/-- The resources the launch shares out. -/
abbrev Res (F : FTy → Type) [FloatOps F] := MT nD τ sig Unit (Elt F) ℕ (UR sig nD τ) ℕ

variable {F : FTy → Type} [FloatOps F] (m : (ℓ : Loc nD τ sig) → Buf (Elt F) ℓ) (ρ : Dev nD → PrngReg)

set_option backward.isDefEq.respectTransparency.types false in
/-- Every buffer outside the regions ends at the last boundary's contents. -/
theorem run_last : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)
end

variable (m : (ℓ : Loc nD τ sig) → Buf (Elt Ideal) ℓ) (ρ : Dev nD → PrngReg) (c : Dev nD)

theorem host2 (W : Valuation τ sig (Elt Ideal)) : StableHlo.after hostOps2 W main_v2
    = shapeCast S8x192x1024 (W main_v1 : FVec Ideal S1536x1024 .bf16) shapeCasts_S1536x1024_S8x192x1024 := by
  after_results
  rfl

theorem res0 : W4 m ρ c main_v0 = qkv (m ((c : Thread nD τ).loc main_arg0)) (m ((c : Thread nD τ).loc main_arg1)) (m ((c : Thread nD τ).loc main_arg2)) := by
  exact (W4_of m ρ c main_v0 (by decide)).trans ((W3_of m ρ c main_v0 (by decide)).trans ((W2_of m ρ c main_v0 (by decide)).trans
    ((W1_arr m ρ c 3).trans (final0 (V0 m ρ) c))))

theorem res2 : W4 m ρ c main_v2 = dwBlocks (m ((c : Thread nD τ).loc main_arg3)) (m ((c : Thread nD τ).loc main_arg1)) := by
  refine (W4_of m ρ c main_v2 (by decide)).trans ((host2 (W2 m ρ c)).trans ?_)
  rw [show W2 m ρ c main_v1 = _ from (W2_arr m ρ c 2).trans (final1 (V1 m ρ) c),
    show V1 m ρ c main_arg3 = _ from W1_args m ρ c main_arg3 (by decide), show V1 m ρ c main_arg1 = _ from W1_args m ρ c main_arg1 (by decide)]
  rfl

theorem res3 : W4 m ρ c main_v3 = du (m ((c : Thread nD τ).loc main_arg3)) (m ((c : Thread nD τ).loc main_arg0)) := by
  refine (W4_arr m ρ c 2).trans ((final2 (V3 m ρ) c).trans ?_)
  rw [show V3 m ρ c main_arg3 = _ from W3_args m ρ c main_arg3 (by decide), show V3 m ρ c main_arg0 = _ from W3_args m ρ c main_arg0 (by decide)]

theorem run : θ_run defs (onTc (τ := τ) (main (F := Ideal))) ⟨m, fun _ => 0, ρ⟩ (fun r => ∀ c : Dev nD,
      r.2.mem ((c.tc : Thread nD τ).loc main_v0) = qkv (m ((c : Thread nD τ).loc main_arg0)) (m ((c : Thread nD τ).loc main_arg1)) (m ((c : Thread nD τ).loc main_arg2))
      ∧ r.2.mem ((c.tc : Thread nD τ).loc main_v2) = dwBlocks (m ((c : Thread nD τ).loc main_arg3)) (m ((c : Thread nD τ).loc main_arg1))
      ∧ r.2.mem ((c.tc : Thread nD τ).loc main_v3) = du (m ((c : Thread nD τ).loc main_arg3)) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans (res0 m ρ c),
     (h c _ (mem_uc main_v2 (by decide))).trans (res2 m ρ c),
     (h c _ (mem_uc main_v3 (by decide))).trans (res3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_last m ρ)

end

namespace Ref
open Cert.Reference8Ideal Cert.Reference8Ideal.Gen Cert.Reference8Ideal.Read

variable (x0 : FVec Ideal S1536x1024 .bf16) (x1 : FVec Ideal S4096x1024 .bf16) (x2 : FVec Ideal S1536x1 .f32) (x3 : FVec Ideal S1536x4096 .bf16)

theorem v17 (i : Fin 1536) (j : Fin 4096) : val_main_v17 (F := Ideal) x0 x1 x2 (ix2 i j) = qkv x0 x1 x2 (ix2 i j) := by
  pointwise [val_main_v17, val_main_v16, val_main_v7, val_main_v6, val_main_v5, val_main_v4, val_main_v3, val_main_v2, val_main_v1, val_main_v0, qkv]
  exact congrArg (· + _) (Finset.sum_congr rfl fun k _ => mul_comm _ _)

theorem v20 (b : Fin 8) (i : Fin 192) (j : Fin 1024) : val_main_v20 (F := Ideal) x1 x3 (ix3 b i j) = dwBlocks x3 x1 (ix3 b i j) := by
  pointwise [val_main_v20, val_main_v19, val_main_v18, val_main_v14, val_main_v13, val_main_v9, val_main_v8, val_main_v0, dwBlocks, dw]

theorem v15 (i : Fin 4096) (j : Fin 1024) : val_main_v15 (F := Ideal) x0 x3 (ix2 i j) = du x3 x0 (ix2 i j) := by
  pointwise [val_main_v15, val_main_v9, val_main_v8, val_main_v2, val_main_v1, du]

end Ref

theorem frame_reference : @Cert.quiescent_Reference8Ideal Cert.Reference8Ideal.Gen.facts := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

open Cert.Reference8Ideal in
/-- The reference's results, as the kernel's functions of the arguments. -/
theorem reference_results {x0 y0 : FVec Ideal S1536x1024 .bf16} {x1 y1 : FVec Ideal S4096x1024 .bf16} {x2 y2 : FVec Ideal S1536x1 .f32} {x3 y3 : FVec Ideal S1536x4096 .bf16}
    (h0 : y0 = x0) (h1 : y1 = x1) (h2 : y2 = x2) (h3 : y3 = x3) :
    Read.val_main_v17 (F := Ideal) y0 y1 y2 = qkv x0 x1 x2
    ∧ Read.val_main_v20 (F := Ideal) y1 y3 = dwBlocks x3 x1
    ∧ Read.val_main_v15 (F := Ideal) y0 y3 = du x3 x0 := by
  rw [h0, h1, h2, h3]
  refine ⟨funext fun i => ?_, funext fun i => ?_, funext fun i => ?_⟩
  · rw [Cert.Mlp.eta2 i]
    exact Ref.v17 x0 x1 x2 _ _
  · rw [Cert.Mlp.eta3 i]
    exact Ref.v20 x1 x3 _ _ _
  · rw [Cert.Mlp.eta2 i]
    exact Ref.v15 x0 x3 _ _

theorem algebraic : @Cert.algebraic_Kernel8Ideal_Reference8Ideal Cert.Kernel8Ideal.Gen.facts Cert.Reference8Ideal.Gen.facts := by
  intro m g m' g' _ hargs
  refine ⟨_, _, _, run m g, ?_⟩
  refine (θ_run Cert.Reference8Ideal.defs _ _).mono (fun r h c => ?_) (Cert.Reference8Ideal.Value.run (F := Ideal) m' g')
  obtain ⟨h1, h2, h3, ha⟩ := h c
  obtain ⟨a0, a1, a2, a3⟩ := hargs c
  obtain ⟨r1, r2, r3⟩ := reference_results a0 a1 a2 a3
  exact ⟨h1.trans ((Cert.Reference8Ideal.Read.val_main_v17_eq _ _ _).trans r1),
    h2.trans ((Cert.Reference8Ideal.Read.val_main_v20_eq _ _).trans r2),
    h3.trans ((Cert.Reference8Ideal.Read.val_main_v15_eq _ _).trans r3), ha⟩

end Cert.AttnIn

end
-- ==== Proof.Layer.lean ====
/- A layer's norm over the extended reals: the two programs write the gradient of x ↦ x / root(mean of squares) differently,
   and the two agree at every row, the infinities among its entries included. -/
module

public import proofs.«01_k».proof.Proof.Rms
public import Idealize.ShloMosaic.Lib.Pointwise

@[expose] public section

noncomputable section

namespace Cert.Layer

open Idealize.ShloMosaic
open Cert.Attn (coe_sum div_real)
open Cert.Norm (ofBits_half ofBits_eps)

theorem ofBits_width : Ideal.ofBits .f32 0x44800000#32 = ((1024 : ℝ) : EReal) := by
  simp [Ideal.ofBits, Ideal.ieee, -EReal.coe_mul]; norm_num

/-! ## The norm of a row -/

/-- The mean of the squares of a row, with the constant that keeps it from zero, -/
def ms (x : Fin 1024 → EReal) : EReal := Ideal.div (∑ l, x l * x l) (Ideal.ofBits .f32 0x44800000#32) + Ideal.ofBits .f32 0x358637BD#32
/-- and what the row is multiplied with. -/
def root (x : Fin 1024 → EReal) : EReal := Ideal.rsqrt (ms x)

/-- The gradient as the kernel writes it, -/
def grad (x g : Fin 1024 → EReal) (k : Fin 1024) : EReal :=
  root x * (g k - x k * root x * Ideal.div (∑ l, g l * (x l * root x)) (Ideal.ofBits .f32 0x44800000#32))

/-- and as the derivative of the reference's lines has it: once through the row, and twice through its square. -/
def through (x g : Fin 1024 → EReal) : EReal :=
  Ideal.div ((∑ l, x l * g l) * (Ideal.ofBits .f32 0xBF000000#32 * Ideal.div (root x) (ms x))) (Ideal.ofBits .f32 0x44800000#32)
def gradRef (x g : Fin 1024 → EReal) (k : Fin 1024) : EReal := g k * root x + x k * through x g + through x g * x k

theorem sq_nonneg (x : EReal) : 0 ≤ x * x := by
  induction x with
  | bot => simp
  | coe r => exact_mod_cast mul_self_nonneg r
  | top => simp

/-- A row with an infinite entry has an infinite mean of squares, -/
theorem ms_top (x : Fin 1024 → EReal) (k : Fin 1024) (h : x k * x k = ⊤) : ms x = ⊤ := by
  obtain ⟨e, he, h2⟩ := ofBits_eps
  have hs : ∑ l, x l * x l = ⊤ :=
    top_le_iff.1 (h ▸ Finset.single_le_sum (f := fun l => x l * x l) (fun l _ => sq_nonneg (x l)) (Finset.mem_univ k))
  unfold ms
  rw [hs, h2, ofBits_width, Ideal.div_coe (by norm_num), EReal.top_mul_coe_of_pos (by norm_num), EReal.top_add_coe]

/-- and any other row a positive one. -/
theorem root_real (x : Fin 1024 → ℝ) : ∃ s r : ℝ, 0 < s ∧ 0 < r ∧ r * r = 1 / s ∧ ms (fun l => (x l : EReal)) = (s : EReal)
    ∧ root (fun l => (x l : EReal)) = (r : EReal) := by
  obtain ⟨e, he, h⟩ := ofBits_eps
  have hs : 0 < (∑ l, x l * x l) / 1024 + e :=
    add_pos_of_nonneg_of_pos (div_nonneg (Finset.sum_nonneg fun l _ => mul_self_nonneg _) (by norm_num)) he
  have h1 : ms (fun l => (x l : EReal)) = (((∑ l, x l * x l) / 1024 + e : ℝ) : EReal) := by
    unfold ms
    rw [h, ofBits_width, EReal.coe_add, ← div_real _ (by norm_num : (1024 : ℝ) ≠ 0), coe_sum]
    simp only [EReal.coe_mul]
  refine ⟨_, (Real.sqrt ((∑ l, x l * x l) / 1024 + e))⁻¹, hs, inv_pos.2 (Real.sqrt_pos.2 hs), ?_, h1, ?_⟩
  · rw [← mul_inv, Real.mul_self_sqrt hs.le, one_div]
  · unfold root
    rw [h1, Ideal.rsqrt_coe, if_neg (not_lt.2 hs.le), if_neg hs.ne']

/-- A nonnegative real goes through a sum of extended reals. -/
theorem sum_mul_real {ι : Type*} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (EReal.coe_nonneg.2 hr) (EReal.coe_ne_top r)]

/-- What both programs take from a row's gradient, given the sum over the row. -/
theorem part_eq (S : EReal) (x : ℝ) {s r : ℝ} (hs : 0 < s) (hr : 0 < r) (h : r * r = 1 / s) :
    (r : EReal) * -((x : EReal) * r * Ideal.div (S * r) ((1024 : ℝ) : EReal))
    = (x : EReal) * Ideal.div (S * (((-(1 / 2) : ℝ) : EReal) * Ideal.div (r : EReal) (s : EReal))) ((1024 : ℝ) : EReal)
      + Ideal.div (S * (((-(1 / 2) : ℝ) : EReal) * Ideal.div (r : EReal) (s : EReal))) ((1024 : ℝ) : EReal) * x := by
  have e2 : r / s = r * (r * r) := by rw [h]; ring
  have hn : -(1 / 2) * (r / s) < 0 := mul_neg_of_neg_of_pos (by norm_num) (div_pos hr hs)
  rw [div_real _ hs.ne', ← EReal.coe_mul (-(1 / 2)), ← EReal.coe_mul x]
  simp only [Ideal.div_coe (by norm_num : (1024 : ℝ) ≠ 0)]
  induction S with
  | bot =>
    rw [EReal.bot_mul_coe_of_pos hr, EReal.bot_mul_coe_of_pos (by norm_num), EReal.bot_mul_coe_of_neg hn, EReal.top_mul_coe_of_pos (by norm_num)]
    rcases lt_trichotomy x 0 with hx | hx | hx
    · rw [EReal.coe_mul_bot_of_neg (mul_neg_of_neg_of_pos hx hr), EReal.coe_mul_top_of_neg hx, EReal.top_mul_coe_of_neg hx, EReal.neg_top, EReal.coe_mul_bot_of_pos hr,
        EReal.bot_add]
    · simp [hx]
    · rw [EReal.coe_mul_bot_of_pos (mul_pos hx hr), EReal.coe_mul_top_of_pos hx, EReal.top_mul_coe_of_pos hx, EReal.neg_bot, EReal.coe_mul_top_of_pos hr,
        EReal.top_add_top]
  | coe S =>
    simp only [← EReal.coe_mul, ← EReal.coe_neg, ← EReal.coe_add]
    refine congrArg _ ?_
    rw [e2]
    ring
  | top =>
    rw [EReal.top_mul_coe_of_pos hr, EReal.top_mul_coe_of_pos (by norm_num), EReal.top_mul_coe_of_neg hn, EReal.bot_mul_coe_of_pos (by norm_num)]
    rcases lt_trichotomy x 0 with hx | hx | hx
    · rw [EReal.coe_mul_top_of_neg (mul_neg_of_neg_of_pos hx hr), EReal.coe_mul_bot_of_neg hx, EReal.bot_mul_coe_of_neg hx, EReal.neg_bot, EReal.coe_mul_top_of_pos hr,
        EReal.top_add_top]
    · simp [hx]
    · rw [EReal.coe_mul_top_of_pos (mul_pos hx hr), EReal.coe_mul_bot_of_pos hx, EReal.bot_mul_coe_of_pos hx, EReal.neg_top, EReal.coe_mul_bot_of_pos hr,
        EReal.bot_add]

/-- The two gradients of the norm agree at every row. -/
theorem grad_eq (x g : Fin 1024 → EReal) (k : Fin 1024) : grad x g k = gradRef x g k := by
  by_cases hx : ∃ l, x l * x l = ⊤
  · obtain ⟨l, hl⟩ := hx
    have h1 := ms_top x l hl
    have h2 : root x = 0 := by
      unfold root
      rw [h1, Ideal.rsqrt_top]
    have h3 : Ideal.div 0 ⊤ = 0 := by simp [Ideal.div]
    unfold grad gradRef through
    rw [h1, h2, h3, ofBits_width]
    simp [Ideal.div_coe (by norm_num : (1024 : ℝ) ≠ 0)]
  · have hX : ∀ l, ∃ r : ℝ, x l = (r : EReal) := fun l => by
      have h := not_exists.1 hx l
      generalize x l = a at h
      induction a with
      | bot => exact absurd (by simp) h
      | coe r => exact ⟨r, rfl⟩
      | top => exact absurd (by simp) h
    choose X hX using hX
    obtain rfl : x = fun l => (X l : EReal) := funext hX
    obtain ⟨s, r, hs, hr, h, h1, h2⟩ := root_real X
    have e1 : ∑ l, g l * ((X l : EReal) * r) = (∑ l, (X l : EReal) * g l) * r := by
      rw [← sum_mul_real _ _ hr.le]
      exact Finset.sum_congr rfl fun l _ => by rw [← mul_assoc, mul_comm (g l)]
    unfold grad gradRef through
    rw [h1, h2, e1, ofBits_width, ofBits_half, sub_eq_add_neg, EReal.left_distrib_of_nonneg_of_ne_top (EReal.coe_nonneg.2 hr.le) (EReal.coe_ne_top r),
      part_eq _ _ hs hr h, add_assoc, mul_comm (r : EReal)]

/-! ## Arrays of `n` rows: a layer's second norm back to the gradient of what it adds to, then its first -/

section
variable {n : ℕ} (d u h : FVec Ideal ⟨2, ![n, 1024]⟩ .f32) (a : FVec Ideal ⟨2, ![1, 1024]⟩ .f32) (y : FVec Ideal ⟨2, ![n, 1024]⟩ .f32)
  (b : FVec Ideal ⟨2, ![1, 1024]⟩ .f32)

/-- A row of an array, -/
def row (x : FVec Ideal ⟨2, ![n, 1024]⟩ .f32) (p : Fin n) (l : Fin 1024) : EReal := x (ix2 p l)
/-- and the gradient that comes back to it through the norm's scale. -/
def cot (u : Fin 1024 → EReal) (a : FVec Ideal ⟨2, ![1, 1024]⟩ .f32) (l : Fin 1024) : EReal := u l * a (ix2 0 l)

/-- The gradient of the residual, -/
def dhAt (p : Fin n) (l : Fin 1024) : EReal := d (ix2 p l) + grad (row h p) (cot (row u p) a) l
/-- of the second norm's argument, -/
def dyAt (p : Fin n) (l : Fin 1024) : EReal := grad (row y p) (cot (dhAt d u h a p) b) l
/-- and a row's part in that of a norm's scale. -/
def dwAt (g x : Fin 1024 → EReal) (l : Fin 1024) : EReal := g l * (x l * root x)

/-- The five gradients as arrays. -/
def dhArr : FVec Ideal ⟨2, ![n, 1024]⟩ .f32 := fun i => dhAt d u h a (i 0) (i 1)
def daArr : FVec Ideal ⟨2, ![1, 1024]⟩ .f32 := fun i => ∑ p : Fin n, dwAt (row u p) (row h p) (i 1)
def dyArr : FVec Ideal ⟨2, ![n, 1024]⟩ .bf16 := fun i => dyAt d u h a y b (i 0) (i 1)
def dbArr : FVec Ideal ⟨2, ![1, 1024]⟩ .f32 := fun i => ∑ p : Fin n, dwAt (dhAt d u h a p) (row y p) (i 1)
def dsArr : FVec Ideal ⟨2, ![1, 1024]⟩ .f32 := fun i => ∑ p : Fin n, dyAt d u h a y b p (i 1)
end

end Cert.Layer

end
-- ==== Proof.LayerBack.lean ====
/- The gradient of a layer's two norms: what a grid point of the call leaves. -/
module

public import proofs.«01_k».proof.Proof.Gen.Kernel9Ideal.Frame
public import proofs.«01_k».proof.Proof.Layer
public import proofs.«01_k».proof.Proof.Mlp
public import Idealize.ShloMosaic.Lib.Pipeline.ValueKit

@[expose] public section

set_option maxRecDepth 16384

noncomputable section

namespace Cert.Layer

open Idealize.ShloMosaic Idealize.ShloMosaic.TcCoe Idealize.SL.Sem
open Cert.Kernel9Ideal Cert.Kernel9Ideal.Gen

/-! ## The values the body stores -/

section
variable (d : FVec Ideal S512x1024 .f32) (h : FVec Ideal S512x1024 .f32) (a : FVec Ideal S1x1024 .f32) (u y : FVec Ideal S512x1024 .f32)
  (b : FVec Ideal S1x1024 .f32) (e : FVec Ideal S512x1024 .f32) (o : FVec Ideal S1x1024 .f32) (p : Fin 512) (l : Fin 1024)

theorem root_h : k0_pay2 (F := Ideal) h (ix2 p 0) = root (row h p) := by
  pointwise [k0_pay2, root, ms, row]
theorem unit_h : k0_pay3 (F := Ideal) h (ix2 p l) = row h p l * root (row h p) := by
  pointwise [k0_pay3, root_h h, row]
theorem dh_at : k0_pay4 (F := Ideal) d h a u (ix2 p l) = dhAt d u h a p l := by
  pointwise [k0_pay4, root_h h, unit_h h, dhAt, grad, cot, row]
theorem da_at : k0_pay5 (F := Ideal) h u (ix2 0 l) = ∑ p : Fin 512, dwAt (row u p) (row h p) l := by
  pointwise [k0_pay5, unit_h h, dwAt, row]

theorem root_y : k0_pay7 (F := Ideal) y (ix2 p 0) = root (row y p) := by
  pointwise [k0_pay7, root, ms, row]
theorem unit_y : k0_pay8 (F := Ideal) y (ix2 p l) = row y p l * root (row y p) := by
  pointwise [k0_pay8, root_y y, row]
theorem dy_at : k0_pay9 (F := Ideal) e y b (ix2 p l) = grad (row y p) (cot (row e p) b) l := by
  pointwise [k0_pay9, root_y y, unit_y y, grad, cot, row]
theorem dy_cast : k0_pay10 (F := Ideal) e y b (ix2 p l) = grad (row y p) (cot (row e p) b) l := by
  pointwise [k0_pay10, dy_at y b e]
theorem db_at : k0_pay11 (F := Ideal) e y (ix2 0 l) = ∑ p : Fin 512, dwAt (row e p) (row y p) l := by
  pointwise [k0_pay11, unit_y y, dwAt, row]
theorem ds_at : k0_pay13 (F := Ideal) e y b (ix2 0 l) = ∑ p : Fin 512, grad (row y p) (cot (row e p) b) l := by
  pointwise [k0_pay13, dy_at y b e]
end

/-! ## What a point leaves -/

variable (m : (ℓ : Loc nD τ sig) → Buf (Elt Ideal) ℓ) (c : Dev nD) (t : Fin cfg0.N)

theorem eta1 (i : S1x1024.Idx) : i = ix2 0 (i 1) := by
  funext a
  match a with
  | 0 => exact Subsingleton.elim (α := Fin 1) _ _
  | 1 => rfl

section
variable (d u h : FVec Ideal S512x1024 .f32) (a : FVec Ideal S1x1024 .f32) (y : FVec Ideal S512x1024 .f32) (b : FVec Ideal S1x1024 .f32)

theorem row_dh (p : Fin 512) : row (k0_pay4 (F := Ideal) d h a u) p = dhAt d u h a p := funext fun l => dh_at d h a u p l

theorem dh_block : k0_pay4 (F := Ideal) d h a u = dhArr d u h a := funext fun i => by
  rw [Cert.Mlp.eta2 i]
  exact dh_at d h a u _ _
theorem da_block : k0_pay5 (F := Ideal) h u = daArr u h := funext fun i => by
  rw [eta1 i]
  exact da_at h u _
theorem dy_block : k0_pay10 (F := Ideal) (k0_pay4 (F := Ideal) d h a u) y b = dyArr d u h a y b := funext fun i => by
  rw [Cert.Mlp.eta2 i]
  refine (dy_cast y b _ _ _).trans ?_
  exact congrArg (fun e => grad (row y (i 0)) (cot e b) (i 1)) (row_dh d u h a (i 0))
theorem db_block : k0_pay11 (F := Ideal) (k0_pay4 (F := Ideal) d h a u) y = dbArr d u h a y := funext fun i => by
  rw [eta1 i]
  refine (db_at y _ _).trans ?_
  simp only [row_dh]
  rfl
theorem ds_block : k0_pay13 (F := Ideal) (k0_pay4 (F := Ideal) d h a u) y b = dsArr d u h a y b := funext fun i => by
  rw [eta1 i]
  refine (ds_at y b _ _).trans ?_
  simp only [row_dh]
  rfl

theorem step6 (x o : FVec Ideal S1x1024 .f32) (i : S1x1024.Idx) : k0_pay6 (F := Ideal) x o i = o i + x i := by
  pointwise [k0_pay6]
theorem step12 (e : FVec Ideal S512x1024 .f32) (o : FVec Ideal S1x1024 .f32) (i : S1x1024.Idx) : k0_pay12 (F := Ideal) e y o i = o i + k0_pay11 (F := Ideal) e y i := by
  pointwise [k0_pay12]
theorem step1 (x o : FVec Ideal S1x1024 .f32) (i : S1x1024.Idx) : k0_pay1 (F := Ideal) x o i = o i + x i := by
  pointwise [k0_pay1]
end

/-- The first point's five blocks, -/
theorem outA (hz : t.val % 8 = 0) (hp : ¬1 ≤ t.val) : outsAt0 m c t.val t.isLt
    = (dhArr (iblk m c 0 t) (iblk m c 1 t) (iblk m c 2 t) (iblk m c 3 t), daArr (iblk m c 1 t) (iblk m c 2 t),
      dyArr (iblk m c 0 t) (iblk m c 1 t) (iblk m c 2 t) (iblk m c 3 t) (iblk m c 4 t) (iblk m c 5 t),
      dbArr (iblk m c 0 t) (iblk m c 1 t) (iblk m c 2 t) (iblk m c 3 t) (iblk m c 4 t),
      dsArr (iblk m c 0 t) (iblk m c 1 t) (iblk m c 2 t) (iblk m c 3 t) (iblk m c 4 t) (iblk m c 5 t)) := by
  rw [outsAt0_A m c t hz hp hz hp hz hp]
  refine Prod.ext ?_ (Prod.ext ?_ (Prod.ext ?_ (Prod.ext ?_ ?_))) <;> funext i <;> dsimp only <;> frame_out
  · exact congrFun (dh_block _ _ _ _) i
  · exact congrFun (da_block _ _) i
  · exact congrFun (dy_block _ _ _ _ _ _) i
  · exact congrFun (db_block _ _ _ _ _) i
  · exact congrFun (ds_block _ _ _ _ _ _) i

/-- and a later point's, added to what the point before left where they are sums over the rows. -/
theorem outB (hz : ¬t.val % 8 = 0) (hp : 1 ≤ t.val) : outsAt0 m c t.val t.isLt
    = (dhArr (iblk m c 0 t) (iblk m c 1 t) (iblk m c 2 t) (iblk m c 3 t),
      fun i => (outsAt0 m c (t.val - 1) (Nat.lt_of_le_of_lt (Nat.sub_le _ _) t.isLt)).2.1 i + daArr (iblk m c 1 t) (iblk m c 2 t) i,
      dyArr (iblk m c 0 t) (iblk m c 1 t) (iblk m c 2 t) (iblk m c 3 t) (iblk m c 4 t) (iblk m c 5 t),
      fun i => (outsAt0 m c (t.val - 1) (Nat.lt_of_le_of_lt (Nat.sub_le _ _) t.isLt)).2.2.2.1 i
        + dbArr (iblk m c 0 t) (iblk m c 1 t) (iblk m c 2 t) (iblk m c 3 t) (iblk m c 4 t) i,
      fun i => (outsAt0 m c (t.val - 1) (Nat.lt_of_le_of_lt (Nat.sub_le _ _) t.isLt)).2.2.2.2 i
        + dsArr (iblk m c 0 t) (iblk m c 1 t) (iblk m c 2 t) (iblk m c 3 t) (iblk m c 4 t) (iblk m c 5 t) i) := by
  rw [outsAt0_B m c t hz hp hz hp hz hp]
  refine Prod.ext ?_ (Prod.ext ?_ (Prod.ext ?_ (Prod.ext ?_ ?_))) <;> funext i <;> dsimp only <;> frame_out
  · exact congrFun (dh_block _ _ _ _) i
  · exact (step6 _ _ i).trans (congrArg _ (congrFun (da_block _ _) i))
  · exact congrFun (dy_block _ _ _ _ _ _) i
  · exact (step12 _ _ _ i).trans (congrArg _ (congrFun (db_block _ _ _ _ _) i))
  · exact (step1 _ _ i).trans (congrArg _ (congrFun (ds_block _ _ _ _ _ _) i))

end Cert.Layer

end
-- ==== Proof.LayerRef.lean ====
/- The reference of a layer's norms' gradient: the stages of its derivative. -/
module

public import proofs.«01_k».proof.Proof.Layer
public import proofs.«01_k».proof.Proof.Gen.Reference9Ideal.Run
public import proofs.«01_k».proof.Proof.Gen.Reference9Ideal.Read
public import Idealize.ShloMosaic.Lib.Pointwise

@[expose] public section

set_option maxRecDepth 16384

noncomputable section

namespace Cert.Layer.Ref

open Idealize.ShloMosaic Idealize.ShloMosaic.TcCoe Idealize.SL.Sem
open Cert.Reference9Ideal Cert.Reference9Ideal.Gen Cert.Reference9Ideal.Read

variable (x0 x1 x2 : FVec Ideal S4096x1024 .f32) (x3 : FVec Ideal S1x1024 .f32) (x4 : FVec Ideal S4096x1024 .f32) (x5 : FVec Ideal S1x1024 .f32)

/-! ## The first norm -/

theorem mean (p : Fin 4096) : val_main_v7 (F := Ideal) x2 (ix2 p 0) = ms (row x2 p) := by
  pointwise [val_main_v7, val_main_v6, val_main_v5, val_main_v4, val_main_v3, val_main_v2, val_main_v1, val_main_cst, val_main_cst_0, val_main_cst_1, ms, row]

theorem roots (p : Fin 4096) : val_main_v8 (F := Ideal) x2 (ix2 p 0) = root (row x2 p) := by
  pointwise [val_main_v8, mean x2, root]

theorem cots (p : Fin 4096) (l : Fin 1024) : val_main_v21 (F := Ideal) x1 x3 (ix2 p l) = cot (row x1 p) x3 l := by
  pointwise [val_main_v21, val_main_v20, val_main_v14, val_main_v0, cot, row]

theorem thru (p : Fin 4096) : val_main_v30 (F := Ideal) x1 x2 x3 (ix2 p 0) = through (row x2 p) (cot (row x1 p) x3) := by
  pointwise [val_main_v30, val_main_v29, val_main_v28, val_main_v25, val_main_v24, val_main_v23, val_main_v11, val_main_v10, val_main_v9, val_main_cst_2, val_main_cst_5, val_main_cst_6, cots x1 x3, roots x2, mean x2, through, row]

theorem summed (p : Fin 4096) : val_main_v31 (F := Ideal) x1 x2 x3 (ix1 p) = through (row x2 p) (cot (row x1 p) x3) := by
  pointwise [val_main_v31, val_main_cst_7]
  exact (Fin.sum_univ_one _).trans (thru x1 x2 x3 p)

theorem v36 (p : Fin 4096) (l : Fin 1024) : val_main_v36 (F := Ideal) x1 x2 x3 (ix2 p l) = gradRef (row x2 p) (cot (row x1 p) x3) l := by
  pointwise [val_main_v36, val_main_v35, val_main_v34, val_main_v33, val_main_v32, val_main_v27, val_main_v26, cots x1 x3, roots x2, summed x1 x2 x3, gradRef, row]

theorem v37 (p : Fin 4096) (l : Fin 1024) : val_main_v37 (F := Ideal) x0 x1 x2 x3 (ix2 p l) = dhAt x0 x1 x2 x3 p l := by
  pointwise [val_main_v37, v36 x1 x2 x3, dhAt, ← grad_eq]

theorem v82 (l : Fin 1024) : val_main_v82 (F := Ideal) x1 x2 (ix2 0 l) = daArr x1 x2 (ix2 0 l) := by
  pointwise [val_main_v82, val_main_v22, val_main_cst_4, val_main_v19, val_main_v18, val_main_v17, val_main_v13, val_main_v12, val_main_cst_3, roots x2, daArr, dwAt, row]
  refine (Fin.sum_univ_one _).trans (Finset.sum_congr rfl fun p _ => mul_comm _ _)

/-! ## The second norm -/

theorem biased (p : Fin 4096) (l : Fin 1024) : val_main_v42 (F := Ideal) x4 (ix2 p l) = row x4 p l := by
  pointwise [val_main_v42, val_main_v41, val_main_v40, val_main_v39, val_main_cst_8, row]

theorem mean' (p : Fin 4096) : val_main_v49 (F := Ideal) x4 (ix2 p 0) = ms (row x4 p) := by
  pointwise [val_main_v49, val_main_v48, val_main_v47, val_main_v46, val_main_v45, val_main_v44, val_main_v43, val_main_cst_9, val_main_cst_10, val_main_cst_11, biased x4, ms]

theorem roots' (p : Fin 4096) : val_main_v50 (F := Ideal) x4 (ix2 p 0) = root (row x4 p) := by
  pointwise [val_main_v50, mean' x4, root]

theorem cots' (p : Fin 4096) (l : Fin 1024) : val_main_v63 (F := Ideal) x0 x1 x2 x3 x5 (ix2 p l) = cot (dhAt x0 x1 x2 x3 p) x5 l := by
  pointwise [val_main_v63, val_main_v62, val_main_v56, val_main_v38, v37 x0 x1 x2 x3, cot]

theorem thru' (p : Fin 4096) : val_main_v72 (F := Ideal) x0 x1 x2 x3 x4 x5 (ix2 p 0) = through (row x4 p) (cot (dhAt x0 x1 x2 x3 p) x5) := by
  pointwise [val_main_v72, val_main_v71, val_main_v70, val_main_v67, val_main_v66, val_main_v65, val_main_v53, val_main_v52, val_main_v51, val_main_cst_12, val_main_cst_15, val_main_cst_16, cots' x0 x1 x2 x3 x5, biased x4, roots' x4, mean' x4, through]

theorem summed' (p : Fin 4096) : val_main_v73 (F := Ideal) x0 x1 x2 x3 x4 x5 (ix1 p) = through (row x4 p) (cot (dhAt x0 x1 x2 x3 p) x5) := by
  pointwise [val_main_v73, val_main_cst_17]
  exact (Fin.sum_univ_one _).trans (thru' x0 x1 x2 x3 x4 x5 p)

theorem v78 (p : Fin 4096) (l : Fin 1024) : val_main_v78 (F := Ideal) x0 x1 x2 x3 x4 x5 (ix2 p l) = dyAt x0 x1 x2 x3 x4 x5 p l := by
  pointwise [val_main_v78, val_main_v77, val_main_v76, val_main_v75, val_main_v74, val_main_v69, val_main_v68, cots' x0 x1 x2 x3 x5, biased x4, roots' x4, summed' x0 x1 x2 x3 x4 x5, dyAt, grad_eq, gradRef]

theorem v83 (p : Fin 4096) (l : Fin 1024) : val_main_v83 (F := Ideal) x0 x1 x2 x3 x4 x5 (ix2 p l) = dyAt x0 x1 x2 x3 x4 x5 p l := by
  pointwise [val_main_v83, v78 x0 x1 x2 x3 x4 x5]

theorem v84 (l : Fin 1024) : val_main_v84 (F := Ideal) x0 x1 x2 x3 x4 (ix2 0 l) = dbArr x0 x1 x2 x3 x4 (ix2 0 l) := by
  pointwise [val_main_v84, val_main_v64, val_main_cst_14, val_main_v61, val_main_v60, val_main_v59, val_main_v55, val_main_v54, val_main_cst_13, biased x4, roots' x4, v37 x0 x1 x2 x3, dbArr, dwAt]
  refine (Fin.sum_univ_one _).trans (Finset.sum_congr rfl fun p _ => mul_comm _ _)

theorem v85 (l : Fin 1024) : val_main_v85 (F := Ideal) x0 x1 x2 x3 x4 x5 (ix2 0 l) = dsArr x0 x1 x2 x3 x4 x5 (ix2 0 l) := by
  pointwise [val_main_v85, val_main_v81, val_main_cst_19, val_main_v80, val_main_v79, val_main_cst_18, v78 x0 x1 x2 x3 x4 x5, dsArr]
  exact Fin.sum_univ_one _

end Cert.Layer.Ref

end
-- ==== Proof.LayerRun.lean ====
/- The gradient of a layer's two norms: the call's five arrays at the end, and the claim. -/
module

public import proofs.«01_k».proof.Defs
public import proofs.«01_k».proof.Proof.Mlp
public import proofs.«01_k».proof.Proof.LayerBack
public import proofs.«01_k».proof.Proof.LayerRef
public import proofs.«01_k».proof.Proof.Gen.Reference9Ideal.Run

@[expose] public section

set_option maxRecDepth 16384

noncomputable section

namespace Cert.Layer

open Idealize.ShloMosaic Idealize.ShloMosaic.TcCoe Idealize.SL.Sem
open Cert.Kernel9Ideal Cert.Kernel9Ideal.Gen

theorem at0 : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0]
    ∧ win0_8.index t = ![t.val, 0] ∧ win0_9.index t = ![0, 0] ∧ win0_10.index t = ![0, 0] :=
  (by decide +kernel : ∀ t : Fin grid0.N, _)

variable (m : (ℓ : Loc nD τ sig) → Buf (Elt Ideal) ℓ) (ρ : Dev nD → PrngReg) (c : Dev nD)

/-- The six arguments. -/
abbrev X0 : FVec Ideal S4096x1024 .f32 := m ((c : Thread nD τ).loc main_arg0)
abbrev X1 : FVec Ideal S4096x1024 .f32 := m ((c : Thread nD τ).loc main_arg1)
abbrev X2 : FVec Ideal S4096x1024 .f32 := m ((c : Thread nD τ).loc main_arg2)
abbrev X3 : FVec Ideal S1x1024 .f32 := m ((c : Thread nD τ).loc main_arg3)
abbrev X4 : FVec Ideal S4096x1024 .f32 := m ((c : Thread nD τ).loc main_arg4)
abbrev X5 : FVec Ideal S1x1024 .f32 := m ((c : Thread nD τ).loc main_arg5)

/-- The five gradients of the arguments. -/
def dh : FVec Ideal S4096x1024 .f32 := dhArr (X0 m c) (X1 m c) (X2 m c) (X3 m c)
def da : FVec Ideal S1x1024 .f32 := daArr (X1 m c) (X2 m c)
def dy : FVec Ideal S4096x1024 .bf16 := dyArr (X0 m c) (X1 m c) (X2 m c) (X3 m c) (X4 m c) (X5 m c)
def db : FVec Ideal S1x1024 .f32 := dbArr (X0 m c) (X1 m c) (X2 m c) (X3 m c) (X4 m c)
def ds : FVec Ideal S1x1024 .f32 := dsArr (X0 m c) (X1 m c) (X2 m c) (X3 m c) (X4 m c) (X5 m c)

/-! ## A point's rows are rows of the arguments -/

section
variable (t : Fin cfg0.N) (p : Fin 512) (P : Fin 4096) (hP : (P : ℕ) = t.val * 512 + p)

theorem read3 (l : Fin 1024) : iblk m c 3 t (ix2 0 l) = X3 m c (ix2 0 l) := by
  blk_point [iblk, V, (at0 t).2.2.2.1]
theorem read5 (l : Fin 1024) : iblk m c 5 t (ix2 0 l) = X5 m c (ix2 0 l) := by
  blk_point [iblk, V, (at0 t).2.2.2.2.2.1]

include hP
theorem read0 (l : Fin 1024) : iblk m c 0 t (ix2 p l) = X0 m c (ix2 P l) := by
  blk_point [iblk, V, (at0 t).1, hP]
theorem read1 (l : Fin 1024) : iblk m c 1 t (ix2 p l) = X1 m c (ix2 P l) := by
  blk_point [iblk, V, (at0 t).2.1, hP]
theorem read2 (l : Fin 1024) : iblk m c 2 t (ix2 p l) = X2 m c (ix2 P l) := by
  blk_point [iblk, V, (at0 t).2.2.1, hP]
theorem read4 (l : Fin 1024) : iblk m c 4 t (ix2 p l) = X4 m c (ix2 P l) := by
  blk_point [iblk, V, (at0 t).2.2.2.2.1, hP]

theorem row1 : row (n := 512) (iblk m c 1 t) p = row (X1 m c) P := funext (read1 m c t p P hP)
theorem row2 : row (n := 512) (iblk m c 2 t) p = row (X2 m c) P := funext (read2 m c t p P hP)
theorem row4 : row (n := 512) (iblk m c 4 t) p = row (X4 m c) P := funext (read4 m c t p P hP)

theorem dhAt_block : dhAt (n := 512) (iblk m c 0 t) (iblk m c 1 t) (iblk m c 2 t) (iblk m c 3 t) p = dhAt (X0 m c) (X1 m c) (X2 m c) (X3 m c) P := by
  have e : cot (row (n := 512) (iblk m c 1 t) p) (iblk m c 3 t) = cot (row (X1 m c) P) (X3 m c) := by
    rw [row1 m c t p P hP]
    exact funext fun l => congrArg _ (read3 m c t l)
  funext l
  unfold dhAt
  rw [read0 m c t p P hP, e, row2 m c t p P hP]

theorem dyAt_block : dyAt (n := 512) (iblk m c 0 t) (iblk m c 1 t) (iblk m c 2 t) (iblk m c 3 t) (iblk m c 4 t) (iblk m c 5 t) p
    = dyAt (X0 m c) (X1 m c) (X2 m c) (X3 m c) (X4 m c) (X5 m c) P := by
  have e : ∀ g, cot g (iblk m c 5 t) = cot g (X5 m c) := fun g => funext fun l => congrArg _ (read5 m c t l)
  funext l
  unfold dyAt
  rw [dhAt_block m c t p P hP, row4 m c t p P hP, e]
end

/-! ## The five arrays -/

theorem first (t : Fin cfg0.N) (h : t.val % 8 = 0) : ¬1 ≤ t.val := by
  have : t.val < 8 := lt_of_lt_of_eq t.isLt N_0
  omega

theorem final6 : (dats m 0 c).arrAt 6 (cfgs 0).N = dh m c := by
  refine (dats m 0 c).arrAt_eq_of_covers 6 _ (by decide +kernel) fun t _ y => ?_
  blk_simp
  rw [after0_6]
  have e : (outsAt0 m c t.val t.isLt).1 = dhArr (n := 512) (iblk m c 0 t) (iblk m c 1 t) (iblk m c 2 t) (iblk m c 3 t) := by
    by_cases hz : t.val % 8 = 0
    · rw [outA m c t hz (first t hz)]
    · rw [outB m c t hz (by omega)]
  rw [e]
  refine (congrFun (dhAt_block m c t (y 0) ((win0_6.blk t).view.emb y 0) ?_) _).trans (congrArg _ ?_)
  · blk_simp [(at0 t).2.2.2.2.2.2.1]
  · refine Fin.ext ?_
    blk_simp [(at0 t).2.2.2.2.2.2.1]

theorem final8 : (dats m 0 c).arrAt 8 (cfgs 0).N = dy m c := by
  refine (dats m 0 c).arrAt_eq_of_covers 8 _ (by decide +kernel) fun t _ y => ?_
  blk_simp
  rw [after0_8]
  have e : (outsAt0 m c t.val t.isLt).2.2.1
      = dyArr (n := 512) (iblk m c 0 t) (iblk m c 1 t) (iblk m c 2 t) (iblk m c 3 t) (iblk m c 4 t) (iblk m c 5 t) := by
    by_cases hz : t.val % 8 = 0
    · rw [outA m c t hz (first t hz)]
    · rw [outB m c t hz (by omega)]
  rw [e]
  refine (congrFun (dyAt_block m c t (y 0) ((win0_8.blk t).view.emb y 0) ?_) _).trans (congrArg _ ?_)
  · blk_simp [(at0 t).2.2.2.2.2.2.2.2.1]
  · refine Fin.ext ?_
    blk_simp [(at0 t).2.2.2.2.2.2.2.2.1]

theorem final7 : (dats m 0 c).arrAt 7 (cfgs 0).N = da m c := by
  refine (dats m 0 c).arrAt_eq_of_covers 7 _ (by decide +kernel) fun t hf y => ?_
  have ht : t.val < 8 := lt_of_lt_of_eq t.isLt N_0
  blk_simp
  rw [after0_7, Pipeline.eq_sum_fin_of_reset_step_apply_of_flush (fun n h => (outsAt0 m c n h).2.1) 8 (fun _ => 0)
    (fun p j => daArr (n := 512) (iblk m c 1 p) (iblk m c 2 p) j)
    (fun t h j => by rw [outA m c t h (first t h), zero_add])
    (fun t h j => by rw [outB m c t h (by omega)])
    t ((flush0_7 t).mp hf) _, zero_add]
  have e : (win0_7.blk t).view.emb y = y := by
    blk_ext [(at0 t).2.2.2.2.2.2.2.1]
  rw [e]
  unfold da daArr
  refine Fin.sum_mul_add_congr fun s k hl => ?_
  rw [row1 m c _ k ⟨s.val * 512 + k.val, hl⟩, row2 m c _ k ⟨s.val * 512 + k.val, hl⟩]
  all_goals
    show s.val * 512 + k.val = (8 * (t.val / 8) + s.val) * 512 + k.val
    omega

theorem final9 : (dats m 0 c).arrAt 9 (cfgs 0).N = db m c := by
  refine (dats m 0 c).arrAt_eq_of_covers 9 _ (by decide +kernel) fun t hf y => ?_
  have ht : t.val < 8 := lt_of_lt_of_eq t.isLt N_0
  blk_simp
  rw [after0_9, Pipeline.eq_sum_fin_of_reset_step_apply_of_flush (fun n h => (outsAt0 m c n h).2.2.2.1) 8 (fun _ => 0)
    (fun p j => dbArr (n := 512) (iblk m c 0 p) (iblk m c 1 p) (iblk m c 2 p) (iblk m c 3 p) (iblk m c 4 p) j)
    (fun t h j => by rw [outA m c t h (first t h), zero_add])
    (fun t h j => by rw [outB m c t h (by omega)])
    t ((flush0_9 t).mp hf) _, zero_add]
  have e : (win0_9.blk t).view.emb y = y := by
    blk_ext [(at0 t).2.2.2.2.2.2.2.2.2.1]
  rw [e]
  unfold db dbArr
  refine Fin.sum_mul_add_congr fun s k hl => ?_
  rw [dhAt_block m c _ k ⟨s.val * 512 + k.val, hl⟩, row4 m c _ k ⟨s.val * 512 + k.val, hl⟩]
  all_goals
    show s.val * 512 + k.val = (8 * (t.val / 8) + s.val) * 512 + k.val
    omega

theorem final10 : (dats m 0 c).arrAt 10 (cfgs 0).N = ds m c := by
  refine (dats m 0 c).arrAt_eq_of_covers 10 _ (by decide +kernel) fun t hf y => ?_
  have ht : t.val < 8 := lt_of_lt_of_eq t.isLt N_0
  blk_simp
  rw [after0_10, Pipeline.eq_sum_fin_of_reset_step_apply_of_flush (fun n h => (outsAt0 m c n h).2.2.2.2) 8 (fun _ => 0)
    (fun p j => dsArr (n := 512) (iblk m c 0 p) (iblk m c 1 p) (iblk m c 2 p) (iblk m c 3 p) (iblk m c 4 p) (iblk m c 5 p) j)
    (fun t h j => by rw [outA m c t h (first t h), zero_add])
    (fun t h j => by rw [outB m c t h (by omega)])
    t ((flush0_10 t).mp hf) _, zero_add]
  have e : (win0_10.blk t).view.emb y = y := by
    blk_ext [(at0 t).2.2.2.2.2.2.2.2.2.2]
  rw [e]
  unfold ds dsArr
  refine Fin.sum_mul_add_congr fun s k hl => ?_
  rw [dyAt_block m c _ k ⟨s.val * 512 + k.val, hl⟩]
  show s.val * 512 + k.val = (8 * (t.val / 8) + s.val) * 512 + k.val
  omega

theorem run : θ_run defs (onTc (τ := τ) (main (F := Ideal))) ⟨m, fun _ => 0, ρ⟩ (fun r => ∀ c : Dev nD,
      r.2.mem ((c.tc : Thread nD τ).loc main_v0_0) = dh m c
      ∧ r.2.mem ((c.tc : Thread nD τ).loc main_v0_1) = da m c
      ∧ r.2.mem ((c.tc : Thread nD τ).loc main_v0_2) = dy m c
      ∧ r.2.mem ((c.tc : Thread nD τ).loc main_v0_3) = db m c
      ∧ r.2.mem ((c.tc : Thread nD τ).loc main_v0_4) = ds m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c), ((h c).1 7).trans (final7 m c), ((h c).1 8).trans (final8 m c),
      ((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

/-! ## The claim -/

theorem frame_reference : @Cert.quiescent_Reference9Ideal Cert.Reference9Ideal.Gen.facts := fun m ρ _ =>
  (θ_run Cert.Reference9Ideal.defs _ _).mono (fun r h => ⟨fun c => (h c).2.2.2.2.2, Idealize.ShloMosaic.sem_eq_zero_of_no_sems (by decide) r.2⟩)
    (Cert.Reference9Ideal.Value.run (F := Ideal) m ρ)

open Cert.Reference9Ideal.Read in
/-- The reference's results, as the kernel's functions of the arguments. -/
theorem reference_results {x0 x1 x2 x4 y0 y1 y2 y4 : FVec Ideal S4096x1024 .f32} {x3 x5 y3 y5 : FVec Ideal S1x1024 .f32}
    (h0 : y0 = x0) (h1 : y1 = x1) (h2 : y2 = x2) (h3 : y3 = x3) (h4 : y4 = x4) (h5 : y5 = x5) :
    val_main_v37 (F := Ideal) y0 y1 y2 y3 = dhArr x0 x1 x2 x3
    ∧ val_main_v82 (F := Ideal) y1 y2 = daArr x1 x2
    ∧ val_main_v83 (F := Ideal) y0 y1 y2 y3 y4 y5 = dyArr x0 x1 x2 x3 x4 x5
    ∧ val_main_v84 (F := Ideal) y0 y1 y2 y3 y4 = dbArr x0 x1 x2 x3 x4
    ∧ val_main_v85 (F := Ideal) y0 y1 y2 y3 y4 y5 = dsArr x0 x1 x2 x3 x4 x5 := by
  rw [h0, h1, h2, h3, h4, h5]
  refine ⟨funext fun i => ?_, funext fun i => ?_, funext fun i => ?_, funext fun i => ?_, funext fun i => ?_⟩
  · rw [Cert.Mlp.eta2 i]
    exact Ref.v37 _ _ _ _ _ _
  · rw [eta1 i]
    exact Ref.v82 _ _ _
  · rw [Cert.Mlp.eta2 i]
    exact Ref.v83 _ _ _ _ _ _ _ _
  · rw [eta1 i]
    exact Ref.v84 _ _ _ _ _ _
  · rw [eta1 i]
    exact Ref.v85 _ _ _ _ _ _ _

open Cert.Reference9Ideal.Read in
theorem algebraic : @Cert.algebraic_Kernel9Ideal_Reference9Ideal Cert.Kernel9Ideal.Gen.facts Cert.Reference9Ideal.Gen.facts := by
  intro m g m' g' _ hargs
  refine ⟨_, _, _, _, _, run m g, ?_⟩
  refine (θ_run Cert.Reference9Ideal.defs _ _).mono (fun r h c => ?_) (Cert.Reference9Ideal.Value.run (F := Ideal) m' g')
  obtain ⟨h1, h2, h3, h4, h5, ha⟩ := h c
  obtain ⟨a0, a1, a2, a3, a4, a5⟩ := hargs c
  obtain ⟨r1, r2, r3, r4, r5⟩ := reference_results a0 a1 a2 a3 a4 a5
  exact ⟨h1.trans ((val_main_v37_eq m' c).trans r1), h2.trans ((val_main_v82_eq _ _).trans r2), h3.trans ((val_main_v83_eq m' c).trans r3),
    h4.trans ((val_main_v84_eq m' c).trans r4), h5.trans ((val_main_v85_eq m' c).trans r5), ha⟩

end Cert.Layer

end
-- ==== Proof.Conv.lean ====
/- The gradient of a causal convolution over four rows, channel by channel: the functions the claim is about. -/
module

public import Idealize.ShloMosaic.Lib.Pipeline.ValueKit

@[expose] public section

noncomputable section

namespace Cert.Conv

open Idealize.ShloMosaic Idealize.ShloMosaic.TcCoe

/-- A shape of two axes. -/
abbrev Sh (n m : ℕ) : Shape := ⟨2, ![n, m]⟩

/-- The channel of the convolution's input that column `c` of its first stretch is, -/
def chan (c : Fin 2048) : Fin 6144 := ⟨2048 + c, by omega⟩
/-- and the channel of its weights. -/
def wcol (c : Fin 2048) : Fin 4096 := ⟨c, by omega⟩

variable (d : FVec Ideal (Sh 4096 2048) .f32) (z : FVec Ideal (Sh 4096 6144) .f32) (w : FVec Ideal (Sh 4 4096) .f32)

/-- The cotangent `k` rows on, nothing past the last row, -/
def ahead (k : ℕ) (p : Fin 4096) (c : Fin 2048) : EReal := if q : p + k < 4096 then d (ix2 ⟨p + k, q⟩ c) else 0
/-- and the input `k` rows back, nothing before the first. -/
def behind (k : ℕ) (p : Fin 4096) (c : Fin 2048) : EReal := if k ≤ p then z (ix2 ⟨p - k, by omega⟩ (chan c)) else 0

/-- The gradient of the input: the four weights, the last of them on the row itself. -/
def dxAt (p : Fin 4096) (c : Fin 2048) : EReal :=
  w (ix2 3 (wcol c)) * d (ix2 p c) + w (ix2 0 (wcol c)) * ahead d 3 p c + w (ix2 1 (wcol c)) * ahead d 2 p c + w (ix2 2 (wcol c)) * ahead d 1 p c
/-- The gradient of weight `r`: the cotangent times the input `3 - r` rows back, over all rows. -/
def dwAt (r : Fin 4) (c : Fin 2048) : EReal := ∑ p : Fin 4096, d (ix2 p c) * behind z (3 - r) p c
/-- The gradient of the bias. -/
def dbAt (c : Fin 2048) : EReal := ∑ p : Fin 4096, d (ix2 p c)

def dxArr : FVec Ideal (Sh 4096 2048) .bf16 := fun i => dxAt d w (i 0) (i 1)
def dwArr : FVec Ideal (Sh 4 2048) .f32 := fun i => dwAt d z (i 0) (i 1)
def dbArr : FVec Ideal (Sh 1 2048) .f32 := fun i => dbAt d (i 1)

end Cert.Conv

end
-- ==== Proof.ConvBack.lean ====
/- The gradient of a causal convolution: what a grid point of the call leaves. -/
module

public import proofs.«01_k».proof.Proof.Gen.Kernel10Ideal.Frame
public import proofs.«01_k».proof.Proof.Conv
public import proofs.«01_k».proof.Proof.Mlp
public import Idealize.ShloMosaic.Lib.Pipeline.ValueKit

@[expose] public section

set_option maxRecDepth 16384

noncomputable section

namespace Cert.Conv

open Idealize.ShloMosaic Idealize.ShloMosaic.TcCoe Idealize.SL.Sem
open Cert.Kernel10Ideal Cert.Kernel10Ideal.Gen

/-! ## A block's rows moved, the block before or after it supplying what comes in -/

section
variable (x : FVec Ideal S1024x512 .f32) (h : FVec Ideal S8x512 .f32)

/-- The rows moved down by `k`, the last of `h` coming in at the top, -/
def prevAt (k : ℕ) (p : Fin 1024) (l : Fin 512) : EReal :=
  if k ≤ p then x (ix2 ⟨p - k, by omega⟩ l) else h (ix2 ⟨(8 + p - k) % 8, Nat.mod_lt _ (by decide)⟩ l)
/-- and up by `k`, the first of `h` coming in at the bottom. -/
def nextAt (k : ℕ) (p : Fin 1024) (l : Fin 512) : EReal :=
  if q : p + k < 1024 then x (ix2 ⟨p + k, q⟩ l) else h (ix2 ⟨(p + k - 1024) % 8, Nat.mod_lt _ (by decide)⟩ l)

/-- The body's two moves, by their amounts as words. -/
def down (n : BitVec 32) : FVec Ideal S1024x512 .f32 :=
  concatenate S1024x512 0 [⟨S8x512, select (cmpi .slt (iota .tc S8x512 32 [0] iota_S8x512_d0_w32) (broadcast S8x512 n))
      (dynamicRotate 0 n none h rotates_S8x512_d0)
      (extractStridedSlice S8x512 ![0, 0] (dynamicRotate 0 n none x rotates_S1024x512_d0) slices_S1024x512_o0_0_S8x512)⟩,
    ⟨S1016x512, extractStridedSlice S1016x512 ![8, 0] (dynamicRotate 0 n none x rotates_S1024x512_d0) slices_S1024x512_o8_0_S1016x512⟩]
    concatenates_S8x512_S1016x512_S1024x512_d0
def up (n n' : BitVec 32) : FVec Ideal S1024x512 .f32 :=
  concatenate S1024x512 0 [⟨S1016x512, extractStridedSlice S1016x512 ![0, 0] (dynamicRotate 0 n none x rotates_S1024x512_d0) slices_S1024x512_o0_0_S1016x512⟩,
    ⟨S8x512, select (cmpi .sge (iota .tc S8x512 32 [0] iota_S8x512_d0_w32) (broadcast S8x512 n'))
      (dynamicRotate 0 n' none h rotates_S8x512_d0)
      (extractStridedSlice S8x512 ![1016, 0] (dynamicRotate 0 n none x rotates_S1024x512_d0) slices_S1024x512_o1016_0_S8x512)⟩]
    concatenates_S1016x512_S8x512_S1024x512_d0

theorem word_lt (k : Fin 4) : ∀ s : Fin 8, IntOp.cmpi .slt (BitVec.ofNat 32 s) (BitVec.ofNat 32 k) = if (s : ℕ) < k then 1#1 else 0#1 := by
  revert k; decide +kernel
theorem word_ge (k : Fin 4) : ∀ s : Fin 8, IntOp.cmpi .sge (BitVec.ofNat 32 s) (BitVec.ofNat 32 (8 - k)) = if 8 - (k : ℕ) ≤ s then 1#1 else 0#1 := by
  revert k; decide +kernel

theorem down_at (k : Fin 4) (p : Fin 1024) (l : Fin 512) : down x h (BitVec.ofNat 32 k) (ix2 p l) = prevAt x h k p l := by
  have e : (BitVec.ofNat 32 (k : ℕ)).toNat = k := by revert k; decide
  pointwise [down, e]
  have hk := k.isLt
  unfold prevAt
  by_cases h8 : (p : ℕ) < 8
  · refine (dif_pos h8).trans ((congrArg (fun e => Scalar.select e _ _) (word_lt k ⟨p, h8⟩)).trans ?_)
    by_cases q : (k : ℕ) ≤ p
    · rw [if_pos q, if_neg (show ¬((⟨p, h8⟩ : Fin 8) : ℕ) < k from Nat.not_lt.2 q)]
      exact congrArg (fun y => x (ix2 y l)) (Fin.ext (by dsimp only; omega))
    · rw [if_neg q, if_pos (show ((⟨p, h8⟩ : Fin 8) : ℕ) < k from Nat.lt_of_not_le q)]
      exact congrArg (fun y => h (ix2 y l)) (Fin.ext (by dsimp only; omega))
  · refine (dif_neg h8).trans (Eq.trans ?_ (if_pos (by omega)).symm)
    exact congrArg (fun y => x (ix2 y l)) (Fin.ext (by dsimp only; omega))

theorem up_at (k : Fin 4) (k0 : 0 < (k : ℕ)) (p : Fin 1024) (l : Fin 512) : up x h (BitVec.ofNat 32 (1024 - k)) (BitVec.ofNat 32 (8 - k)) (ix2 p l) = nextAt x h k p l := by
  have e : (BitVec.ofNat 32 (1024 - (k : ℕ))).toNat = 1024 - k := by revert k; decide
  have e' : (BitVec.ofNat 32 (8 - (k : ℕ))).toNat = 8 - k := by revert k; decide
  pointwise [up, e, e']
  have hk := k.isLt
  have hp := p.isLt
  unfold nextAt
  by_cases h8 : (p : ℕ) < 1016
  · refine (dif_pos h8).trans (Eq.trans ?_ (dif_pos (by omega)).symm)
    exact congrArg (fun y => x (ix2 y l)) (Fin.ext (by dsimp only; omega))
  · refine (dif_neg h8).trans ((congrArg (fun e => Scalar.select e _ _) (word_ge k ⟨p - 1016, by omega⟩)).trans ?_)
    by_cases q : (p : ℕ) + k < 1024
    · rw [dif_pos q, if_neg (show ¬8 - (k : ℕ) ≤ ((⟨p - 1016, by omega⟩ : Fin 8) : ℕ) by dsimp only; omega)]
      exact congrArg (fun y => x (ix2 y l)) (Fin.ext (by dsimp only; omega))
    · rw [dif_neg q, if_pos (show 8 - (k : ℕ) ≤ ((⟨p - 1016, by omega⟩ : Fin 8) : ℕ) by dsimp only; omega)]
      exact congrArg (fun y => h (ix2 y l)) (Fin.ext (by dsimp only; omega))

end

/-! ## The values the body stores -/

/-- The rows of the block after a point's, none after the last block, -/
def hNext (i : ℕ) (h : FVec Ideal S8x512 .f32) : FVec Ideal S8x512 .f32 := fun y => if i < 3 then h y else 0
/-- and of the block before, none before the first. -/
def hPrev (i : ℕ) (h : FVec Ideal S8x512 .f32) : FVec Ideal S8x512 .f32 := fun y => if 0 < i then h y else 0

theorem word_last : ∀ i : Fin 4, Scalar.cmpi .slt (BitVec.ofNat 32 i) 3#32 = if (i : ℕ) < 3 then 1#1 else 0#1 := by decide +kernel
theorem word_first : ∀ i : Fin 4, Scalar.cmpi .sgt (BitVec.ofNat 32 i) 0#32 = if 0 < (i : ℕ) then 1#1 else 0#1 := by decide +kernel

theorem pay3 (i : grid0.Coords) (h : FVec Ideal S8x512 .f32) : k0_pay3 (F := Ideal) i h = hNext (i 1) h := by
  funext y
  pointwise [k0_pay3, hNext, word_last (i 1)]
  split_ifs <;> rfl
theorem pay4 (i : grid0.Coords) (h : FVec Ideal S8x512 .f32) : k0_pay4 (F := Ideal) i h = hPrev (i 1) h := by
  funext y
  pointwise [k0_pay4, hPrev, word_first (i 1)]
  split_ifs <;> rfl

section
variable (w : FVec Ideal S4x512 .f32) (x a b c z : FVec Ideal S1024x512 .f32) (h : FVec Ideal S8x512 .f32) (l : Fin 512)

/-- The four weights on four arrays. -/
def mix : FVec Ideal S1024x512 .bf16 :=
  truncf .bf16 (addf (addf (addf
    (mulf (broadcastTo S1024x512 (extractStridedSlice S1x512 ![3, 0] (k0_pay5 w) slices_S4x512_o3_0_S1x512) broadcasts_S1x512_S1024x512) x)
    (mulf (broadcastTo S1024x512 (extractStridedSlice S1x512 ![0, 0] (k0_pay5 w) slices_S4x512_o0_0_S1x512) broadcasts_S1x512_S1024x512) a))
    (mulf (broadcastTo S1024x512 (extractStridedSlice S1x512 ![1, 0] (k0_pay5 w) slices_S4x512_o1_0_S1x512) broadcasts_S1x512_S1024x512) b))
    (mulf (broadcastTo S1024x512 (extractStridedSlice S1x512 ![2, 0] (k0_pay5 w) slices_S4x512_o2_0_S1x512) broadcasts_S1x512_S1024x512) c)) bitsLt_bf16_f32

theorem mix_at (p : Fin 1024) : mix w x a b c (ix2 p l)
    = w (ix2 3 l) * x (ix2 p l) + w (ix2 0 l) * a (ix2 p l) + w (ix2 1 l) * b (ix2 p l) + w (ix2 2 l) * c (ix2 p l) := by
  pointwise [mix, k0_pay5]

theorem pay9 (i : grid0.Coords) : k0_pay9 (F := Ideal) x (k0_pay3 i h) (k0_pay5 w) (k0_pay6 i x h w) (k0_pay7 w) (k0_pay8 i x h)
    = mix w x (up x (k0_pay3 (F := Ideal) i h) 1021#32 5#32) (up x (k0_pay3 (F := Ideal) i h) 1022#32 6#32) (up x (k0_pay3 (F := Ideal) i h) 1023#32 7#32) := rfl

theorem pay19_at : k0_pay19 (F := Ideal) x z (ix2 0 l) = ∑ p : Fin 1024, x (ix2 p l) * z (ix2 p l) := by
  pointwise [k0_pay19]
theorem pay10 : k0_pay10 (F := Ideal) x z h = k0_pay19 x (down z h 3#32) := rfl
theorem pay15 : k0_pay15 (F := Ideal) x (k0_pay12 z) k0_pay13 (k0_pay14 h) = k0_pay19 x (down z h 2#32) := rfl
theorem pay17 : k0_pay17 (F := Ideal) x z h = k0_pay19 x (down z h 1#32) := rfl
theorem pay1_at : k0_pay1 (F := Ideal) (k0_pay21 x) (ix2 0 l) = ∑ p : Fin 1024, x (ix2 p l) := by
  pointwise [k0_pay1, k0_pay21]
end

/-! ## The blocks a point leaves -/

section
variable (i : ℕ) (d : FVec Ideal S1024x512 .f32) (h : FVec Ideal S8x512 .f32) (z : FVec Ideal S1024x512 .f32) (h' : FVec Ideal S8x512 .f32)
  (w : FVec Ideal S4x512 .f32)

def dxB : FVec Ideal S1024x512 .bf16 := fun y =>
  w (ix2 3 (y 1)) * d (ix2 (y 0) (y 1)) + w (ix2 0 (y 1)) * nextAt d (hNext i h) 3 (y 0) (y 1)
    + w (ix2 1 (y 1)) * nextAt d (hNext i h) 2 (y 0) (y 1) + w (ix2 2 (y 1)) * nextAt d (hNext i h) 1 (y 0) (y 1)
def dwB : FVec Ideal S4x512 .f32 := fun y => ∑ p : Fin 1024, d (ix2 p (y 1)) * prevAt z (hPrev i h') (3 - y 0) p (y 1)
def dbB : FVec Ideal S1x512 .f32 := fun y => ∑ p : Fin 1024, d (ix2 p (y 1))
end

section
variable (i : grid0.Coords) (d : FVec Ideal S1024x512 .f32) (h : FVec Ideal S8x512 .f32) (z : FVec Ideal S1024x512 .f32) (h' : FVec Ideal S8x512 .f32)
  (w : FVec Ideal S4x512 .f32)

theorem eta1 (y : S1x512.Idx) : y = ix2 0 (y 1) := by
  funext a
  match a with
  | 0 => exact Subsingleton.elim (α := Fin 1) _ _
  | 1 => rfl

theorem dx_block : k0_pay9 (F := Ideal) d (k0_pay3 i h) (k0_pay5 w) (k0_pay6 i d h w) (k0_pay7 w) (k0_pay8 i d h) = dxB (i 1) d h w := by
  rw [pay9, pay3]
  funext y
  rw [Cert.Mlp.eta2 y]
  refine (mix_at _ _ _ _ _ _ _).trans ?_
  exact congrArg₂ (· + ·) (congrArg₂ (· + ·) (congrArg (fun e => _ + _ * e) (up_at _ _ 3 (by decide) _ _)) (congrArg _ (up_at _ _ 2 (by decide) _ _)))
    (congrArg _ (up_at _ _ 1 (by decide) _ _))

/-- A row of the weights' block is one of the body's four sums. -/
theorem dw_row (k r : Fin 4) (hr : (k : ℕ) = 3 - r) (g : FVec Ideal S8x512 .f32) (l : Fin 512) (hg : g = hPrev (i 1) h') :
    k0_pay19 (F := Ideal) d (down z g (BitVec.ofNat 32 k)) (ix2 0 l) = dwB (i 1) d z h' (ix2 r l) := by
  subst hg
  refine (pay19_at _ _ _).trans (Finset.sum_congr rfl fun p _ => congrArg _ ((down_at _ _ k p l).trans ?_))
  rw [hr]
  rfl

theorem dw0 (l : Fin 512) : k0_pay10 (F := Ideal) d z (k0_pay4 i h') (ix2 0 l) = dwB (i 1) d z h' (ix2 0 l) := dw_row i d z h' 3 0 rfl _ l (pay4 i h')
theorem dw1 (l : Fin 512) : k0_pay15 (F := Ideal) d (k0_pay12 z) k0_pay13 (k0_pay14 (k0_pay4 i h')) (ix2 0 l) = dwB (i 1) d z h' (ix2 1 l) :=
  dw_row i d z h' 2 1 rfl _ l (pay4 i h')
theorem dw2 (l : Fin 512) : k0_pay17 (F := Ideal) d z (k0_pay4 i h') (ix2 0 l) = dwB (i 1) d z h' (ix2 2 l) := dw_row i d z h' 1 2 rfl _ l (pay4 i h')
theorem dw3 (l : Fin 512) : k0_pay19 (F := Ideal) d z (ix2 0 l) = dwB (i 1) d z h' (ix2 3 l) := by
  refine (pay19_at _ _ _).trans (Finset.sum_congr rfl fun p _ => congrArg _ ?_)
  exact (if_pos (Nat.zero_le _)).symm

theorem db_block : k0_pay1 (F := Ideal) (k0_pay21 d) = dbB d := funext fun y => by
  rw [eta1 y]
  exact pay1_at d _

theorem step2 (o : FVec Ideal S1x512 .f32) (y : S1x512.Idx) (u : FVec Ideal S512 .f32) : k0_pay2 (F := Ideal) u o y = o y + k0_pay1 u y := by
  pointwise [k0_pay2]
theorem step11 (o : FVec Ideal S1x512 .f32) (y : S1x512.Idx) : k0_pay11 (F := Ideal) d z h o y = o y + k0_pay10 d z h y := by
  pointwise [k0_pay11]
theorem step16 (b : IVec S8x512 1) (o : FVec Ideal S1x512 .f32) (y : S1x512.Idx) : k0_pay16 (F := Ideal) d z b h o y = o y + k0_pay15 d z b h y := by
  pointwise [k0_pay16]
theorem step18 (o : FVec Ideal S1x512 .f32) (y : S1x512.Idx) : k0_pay18 (F := Ideal) d z h o y = o y + k0_pay17 d z h y := by
  pointwise [k0_pay18]
theorem step20 (o : FVec Ideal S1x512 .f32) (y : S1x512.Idx) : k0_pay20 (F := Ideal) d z o y = o y + k0_pay19 d z y := by
  pointwise [k0_pay20]
end

/-- A statement about a row of four, at any index of the row. -/
theorem of_row {f : S1x512.Idx → EReal} {g : S4x512.Idx → EReal} (r : Fin 4) (e : ∀ l, f (ix2 0 l) = g (ix2 r l)) (x : S1x512.Idx) (y : S4x512.Idx)
    (h0 : (y 0 : ℕ) = r) (h1 : (y 1 : ℕ) = x 1) : f x = g y := by
  have ey : y = ix2 r (x 1) := by
    rw [Cert.Mlp.eta2 y]
    exact congrArg₂ ix2 (Fin.ext h0) (Fin.ext h1)
  rw [eta1 x, ey]
  exact e _

/-! ## What a point leaves -/

variable (m : (ℓ : Loc nD τ sig) → Buf (Elt Ideal) ℓ) (c : Dev nD) (t : Fin cfg0.N)

/-- The first point of a column of blocks, -/
theorem outA (hz : t.val % 4 = 0) (hp : ¬1 ≤ t.val % 4) : outsAt0 m c t.val t.isLt
    = (dxB (grid0.coords t 1) (iblk m c 0 t) (iblk m c 1 t) (iblk m c 4 t),
      dwB (grid0.coords t 1) (iblk m c 0 t) (iblk m c 2 t) (iblk m c 3 t), dbB (iblk m c 0 t)) := by
  rw [outsAt0_A m c t hz hp hz hp hz hp hz hp hz hp]
  refine Prod.ext ?_ (Prod.ext ?_ ?_) <;> funext y <;> dsimp only <;> frame_out
  · exact congrFun (dx_block (grid0.coords t) _ _ _) y
  · canon_tiles x h
    · exact of_row 3 (dw3 (grid0.coords t) _ _ _) x y (show (y 0 : ℕ) = 3 by omega) h1
    · exact of_row 2 (dw2 (grid0.coords t) _ _ _) x y (show (y 0 : ℕ) = 2 by omega) h1
    · exact of_row 1 (dw1 (grid0.coords t) _ _ _) x y (show (y 0 : ℕ) = 1 by omega) h1
    · exact of_row 0 (dw0 (grid0.coords t) _ _ _) x y (show (y 0 : ℕ) = 0 by omega) h1
  · exact congrFun (db_block _) y

/-- and a later point's, added to what the point before left where they are sums over the rows. -/
theorem outB (hz : ¬t.val % 4 = 0) (hp : 1 ≤ t.val % 4) : outsAt0 m c t.val t.isLt
    = (dxB (grid0.coords t 1) (iblk m c 0 t) (iblk m c 1 t) (iblk m c 4 t),
      fun y => (outsAt0 m c (t.val - 1) (Nat.lt_of_le_of_lt (Nat.sub_le _ _) t.isLt)).2.1 y
        + dwB (grid0.coords t 1) (iblk m c 0 t) (iblk m c 2 t) (iblk m c 3 t) y,
      fun y => (outsAt0 m c (t.val - 1) (Nat.lt_of_le_of_lt (Nat.sub_le _ _) t.isLt)).2.2 y + dbB (iblk m c 0 t) y) := by
  rw [outsAt0_B m c t hz hp hz hp hz hp hz hp hz hp]
  refine Prod.ext ?_ (Prod.ext ?_ ?_) <;> funext y <;> dsimp only <;> frame_out
  · exact congrFun (dx_block (grid0.coords t) _ _ _) y
  · generalize (outsAt0 m c (t.val - 1) (Nat.lt_of_le_of_lt (Nat.sub_le _ _) t.isLt)).2.1 = a
    canon_tiles x h
    · exact (step20 _ _ _ x).trans (congrArg₂ (· + ·) (View.ld_unit_apply_of a _ _ _ x y fun
          | 0 => h0
          | 1 => h1.trans (Nat.zero_add _).symm)
        (of_row 3 (dw3 (grid0.coords t) _ _ _) x y (show (y 0 : ℕ) = 3 by omega) h1))
    · exact (step18 _ _ _ _ x).trans (congrArg₂ (· + ·) (View.ld_unit_apply_of a _ _ _ x y fun
          | 0 => h0
          | 1 => h1.trans (Nat.zero_add _).symm)
        (of_row 2 (dw2 (grid0.coords t) _ _ _) x y (show (y 0 : ℕ) = 2 by omega) h1))
    · exact (step16 _ _ _ _ _ x).trans (congrArg₂ (· + ·) (View.ld_unit_apply_of a _ _ _ x y fun
          | 0 => h0
          | 1 => h1.trans (Nat.zero_add _).symm)
        (of_row 1 (dw1 (grid0.coords t) _ _ _) x y (show (y 0 : ℕ) = 1 by omega) h1))
    · exact (step11 _ _ _ _ x).trans (congrArg₂ (· + ·) (View.ld_unit_apply_of a _ _ _ x y fun
          | 0 => h0.trans (Nat.zero_add _).symm
          | 1 => h1.trans (Nat.zero_add _).symm)
        (of_row 0 (dw0 (grid0.coords t) _ _ _) x y (show (y 0 : ℕ) = 0 by omega) h1))
  · exact (step2 _ y _).trans (congrArg _ (congrFun (db_block _) y))

end Cert.Conv

end
-- ==== Proof.ConvRef.lean ====
/- The reference of a causal convolution's gradient: the stages of its derivative. -/
module

public import proofs.«01_k».proof.Proof.Conv
public import proofs.«01_k».proof.Proof.Gen.Reference10Ideal.Run
public import proofs.«01_k».proof.Proof.Gen.Reference10Ideal.Read
public import Idealize.ShloMosaic.Lib.Pointwise

@[expose] public section

set_option maxRecDepth 16384

noncomputable section

namespace Cert.Conv.Ref

open Idealize.ShloMosaic Idealize.ShloMosaic.TcCoe Idealize.SL.Sem
open Cert.Reference10Ideal Cert.Reference10Ideal.Gen Cert.Reference10Ideal.Read

/-! ## A block of rows set among rows of zeros -/

theorem pad_rows {n n' m lo hi : ℕ} (x : FVec Ideal (Sh n m) .f32) {u : Shape} (v : FVec Ideal u .f32) (h : (Sh n m).Pads ![lo, 0] ![hi, 0] ![0, 0] (Sh n' m))
    (hu : 0 < u.numel) (hv : v (Shape.Idx.first hu) = 0) (q : Fin n') (c : Fin m) :
    pad (Sh n' m) ![lo, 0] ![hi, 0] ![0, 0] x v h hu (ix2 q c) = if e : lo ≤ q ∧ q - lo < n then x (ix2 ⟨q - lo, e.2⟩ c) else 0 := by
  rw [pad_apply]
  by_cases e : lo ≤ (q : ℕ) ∧ (q : ℕ) - lo < n
  · rw [dif_pos e, dif_pos]
    · refine congrArg x (funext fun a => ?_)
      match a with
      | 0 => exact Fin.ext (Nat.div_one _)
      | 1 => exact Fin.ext (Nat.div_one _)
    · intro a
      match a with
      | 0 => exact ⟨e.1, Nat.mod_one _, (Nat.div_one _).trans_lt e.2⟩
      | 1 => exact ⟨Nat.zero_le _, Nat.mod_one _, (Nat.div_one _).trans_lt c.isLt⟩
  · rw [dif_neg e, dif_neg, hv]
    exact fun k => e ⟨(k 0).1, (Nat.div_one _).symm.trans_lt (k 0).2.2⟩

variable (x0 : FVec Ideal S4096x2048 .f32) (x1 : FVec Ideal S4096x6144 .f32) (x2 : FVec Ideal S4x4096 .f32)

/-! ## The input's gradient -/

section
variable (p : Fin 4096) (c : Fin 2048)

theorem t3 : val_main_v38 (F := Ideal) x0 x2 (ix2 p c) = x2 (ix2 3 (wcol c)) * x0 (ix2 p c) := by
  pointwise [val_main_v38, val_main_v30, val_main_v37, val_main_v23, val_main_v1, wcol]
  exact mul_comm _ _
theorem t2 : val_main_v45 (F := Ideal) x0 x2 (ix2 p c) = x2 (ix2 2 (wcol c)) * x0 (ix2 p c) := by
  pointwise [val_main_v45, val_main_v30, val_main_v44, val_main_v18, val_main_v1, wcol]
  exact mul_comm _ _
theorem t1 : val_main_v54 (F := Ideal) x0 x2 (ix2 p c) = x2 (ix2 1 (wcol c)) * x0 (ix2 p c) := by
  pointwise [val_main_v54, val_main_v30, val_main_v53, val_main_v13, val_main_v1, wcol]
  exact mul_comm _ _
theorem t0 : val_main_v63 (F := Ideal) x0 x2 (ix2 p c) = x2 (ix2 0 (wcol c)) * x0 (ix2 p c) := by
  pointwise [val_main_v63, val_main_v30, val_main_v62, val_main_v7, val_main_v1, wcol]
  exact mul_comm _ _

/-- A term set `k` rows lower among zeros, read three rows lower still than it was. -/
theorem shifted {lo hi k : ℕ} (hk : lo + k = 3) {f : FVec Ideal (Sh 4096 2048) .f32} {a : EReal} {u : Shape} (v : FVec Ideal u .f32)
    (h : (Sh 4096 2048).Pads ![lo, 0] ![hi, 0] ![0, 0] (Sh 4099 2048)) (hu : 0 < u.numel) (hv : v (Shape.Idx.first hu) = 0)
    (hf : ∀ p, f (ix2 p c) = a * x0 (ix2 p c)) (q : Fin 4099) (hq : (q : ℕ) = 3 + p) :
    pad (Sh 4099 2048) ![lo, 0] ![hi, 0] ![0, 0] f v h hu (ix2 q c) = a * ahead x0 k p c := by
  rw [pad_rows f v h hu hv q c]
  unfold ahead
  by_cases e : (p : ℕ) + k < 4096
  · rw [dif_pos e, dif_pos (by omega), hf]
    exact congrArg (fun r => a * x0 (ix2 r c)) (Fin.ext (by dsimp only; omega))
  · rw [dif_neg e, dif_neg (by omega), mul_zero]

theorem ahead_zero : ahead x0 0 p c = x0 (ix2 p c) := dif_pos p.isLt

theorem swap (a b e f : EReal) : a + b + e + f = a + f + e + b := by ac_rfl

theorem v67 (q : Fin 4099) (hq : (q : ℕ) = 3 + p) : val_main_v67 (F := Ideal) x0 x2 (ix2 q c) = dxAt x0 x2 p c := by
  have e3 := shifted x0 p c (lo := 3) (k := 0) rfl (val_main_cst_7 (F := Ideal)) pads_S4096x2048_S4099x2048_300_000 h_S_ (by pointwise [val_main_cst_7]) (t3 x0 x2 · c) q hq
  have e2 := shifted x0 p c (lo := 2) (k := 1) rfl (val_main_cst_10 (F := Ideal)) pads_S4096x2048_S4099x2048_210_000 h_S_ (by pointwise [val_main_cst_10]) (t2 x0 x2 · c) q hq
  have e1 := shifted x0 p c (lo := 1) (k := 2) rfl (val_main_cst_13 (F := Ideal)) pads_S4096x2048_S4099x2048_120_000 h_S_ (by pointwise [val_main_cst_13]) (t1 x0 x2 · c) q hq
  have e0 := shifted x0 p c (lo := 0) (k := 3) rfl (val_main_cst_16 (F := Ideal)) pads_S4096x2048_S4099x2048_030_000 h_S_ (by pointwise [val_main_cst_16]) (t0 x0 x2 · c) q hq
  have s : val_main_v67 (F := Ideal) x0 x2 (ix2 q c) = val_main_v40 (F := Ideal) x0 x2 (ix2 q c) + val_main_v48 (F := Ideal) x0 x2 (ix2 q c)
      + val_main_v57 (F := Ideal) x0 x2 (ix2 q c) + val_main_v66 (F := Ideal) x0 x2 (ix2 q c) := rfl
  refine s.trans ((congrArg₂ (· + ·) (congrArg₂ (· + ·) (congrArg₂ (· + ·) e3 e2) e1) e0).trans ?_)
  rw [ahead_zero]
  exact swap _ _ _ _

theorem v70 : val_main_v70 (F := Ideal) x0 x2 (ix2 p c) = dxAt x0 x2 p c := by
  pointwise [val_main_v70, val_main_v69]
  exact v67 x0 x2 p c _ rfl
end

/-! ## The weights' and the bias's -/

section
variable (c : Fin 2048)

theorem rows (q : Fin 4099) : val_main_v4 (F := Ideal) x1 (ix2 q c) = if e : (q : ℕ) < 3 then 0 else x1 (ix2 ⟨q - 3, by omega⟩ (chan c)) := by
  pointwise [val_main_v4, val_main_v3, val_main_v0, val_main_cst_0, chan]

theorem rows_behind (r k : ℕ) (hr : k + r = 3) (p : Fin 4096) (q : Fin 4099) (hq : (q : ℕ) = r + p) : val_main_v4 (F := Ideal) x1 (ix2 q c) = behind x1 k p c := by
  rw [rows]
  unfold behind
  by_cases e : k ≤ (p : ℕ)
  · rw [if_pos e, dif_neg (by omega)]
    exact congrArg (fun y => x1 (ix2 y (chan c))) (Fin.ext (by dsimp only; omega))
  · rw [if_neg e, dif_pos (by omega)]

theorem s3 : val_main_v36 (F := Ideal) x0 x1 (ix2 0 c) = dwAt x0 x1 3 c := by
  pointwise [val_main_v36, val_main_v35, val_main_cst_5, val_main_v34, val_main_v22, val_main_v30, dwAt]
  exact Finset.sum_congr rfl fun p _ => (mul_comm _ _).trans (congrArg _ (rows_behind x1 c 3 0 rfl p _ rfl))
theorem s2 : val_main_v43 (F := Ideal) x0 x1 (ix2 0 c) = dwAt x0 x1 2 c := by
  pointwise [val_main_v43, val_main_v42, val_main_cst_8, val_main_v41, val_main_v17, val_main_v30, dwAt]
  exact Finset.sum_congr rfl fun p _ => (mul_comm _ _).trans (congrArg _ (rows_behind x1 c 2 1 rfl p _ rfl))
theorem s1 : val_main_v52 (F := Ideal) x0 x1 (ix2 0 c) = dwAt x0 x1 1 c := by
  pointwise [val_main_v52, val_main_v51, val_main_cst_11, val_main_v50, val_main_v12, val_main_v30, dwAt]
  exact Finset.sum_congr rfl fun p _ => (mul_comm _ _).trans (congrArg _ (rows_behind x1 c 1 2 rfl p _ rfl))
theorem s0 : val_main_v61 (F := Ideal) x0 x1 (ix2 0 c) = dwAt x0 x1 0 c := by
  pointwise [val_main_v61, val_main_v60, val_main_cst_14, val_main_v59, val_main_v6, val_main_v30, dwAt]
  exact Finset.sum_congr rfl fun p _ => (mul_comm _ _).trans (congrArg _ (rows_behind x1 c 0 3 rfl p _ (Nat.zero_add _).symm))

/-- A row set at `lo` among zeros. -/
theorem placed {lo hi : ℕ} {f : FVec Ideal (Sh 1 2048) .f32} {a : EReal} {u : Shape} (v : FVec Ideal u .f32) (h : (Sh 1 2048).Pads ![lo, 0] ![hi, 0] ![0, 0] (Sh 4 2048))
    (hu : 0 < u.numel) (hv : v (Shape.Idx.first hu) = 0) (hf : f (ix2 0 c) = a) (r : Fin 4) :
    pad (Sh 4 2048) ![lo, 0] ![hi, 0] ![0, 0] f v h hu (ix2 r c) = if (r : ℕ) = lo then a else 0 := by
  rw [pad_rows f v h hu hv r c]
  by_cases e : (r : ℕ) = lo
  · rw [if_pos e, dif_pos (by omega), ← hf]
    exact congrArg (fun y => f (ix2 y c)) (Subsingleton.elim _ _)
  · rw [if_neg e, dif_neg (by omega)]

theorem v65 (r : Fin 4) : val_main_v65 (F := Ideal) x0 x1 (ix2 r c) = dwAt x0 x1 r c := by
  have e3 := placed c (val_main_cst_6 (F := Ideal)) pads_S1x2048_S4x2048_300_000 h_S_ (by pointwise [val_main_cst_6]) (s3 x0 x1 c) r
  have e2 := placed c (val_main_cst_9 (F := Ideal)) pads_S1x2048_S4x2048_210_000 h_S_ (by pointwise [val_main_cst_9]) (s2 x0 x1 c) r
  have e1 := placed c (val_main_cst_12 (F := Ideal)) pads_S1x2048_S4x2048_120_000 h_S_ (by pointwise [val_main_cst_12]) (s1 x0 x1 c) r
  have e0 := placed c (val_main_cst_15 (F := Ideal)) pads_S1x2048_S4x2048_030_000 h_S_ (by pointwise [val_main_cst_15]) (s0 x0 x1 c) r
  have s : val_main_v65 (F := Ideal) x0 x1 (ix2 r c) = val_main_v39 (F := Ideal) x0 x1 (ix2 r c) + val_main_v46 (F := Ideal) x0 x1 (ix2 r c)
      + val_main_v55 (F := Ideal) x0 x1 (ix2 r c) + val_main_v64 (F := Ideal) x0 x1 (ix2 r c) := rfl
  refine s.trans ((congrArg₂ (· + ·) (congrArg₂ (· + ·) (congrArg₂ (· + ·) e3 e2) e1) e0).trans ?_)
  match r with
  | 0 => simp
  | 1 => simp
  | 2 => simp
  | 3 => simp

theorem v71 : val_main_v71 (F := Ideal) x0 (ix2 0 c) = dbAt x0 c := by
  pointwise [val_main_v71, val_main_v33, val_main_cst_4, val_main_v32, val_main_v31, val_main_cst_3, dbAt]
  exact Fin.sum_univ_one _
end

end Cert.Conv.Ref

end
-- ==== Proof.ConvRun.lean ====
/- The gradient of a causal convolution: the call's three arrays at the end, and the claim. -/
module

public import proofs.«01_k».proof.Defs
public import proofs.«01_k».proof.Proof.Mlp
public import proofs.«01_k».proof.Proof.ConvBack
public import proofs.«01_k».proof.Proof.ConvRef
public import proofs.«01_k».proof.Proof.Gen.Reference10Ideal.Run

@[expose] public section

set_option maxRecDepth 16384

noncomputable section

namespace Cert.Conv

open Idealize.ShloMosaic Idealize.ShloMosaic.TcCoe Idealize.SL.Sem
open Cert.Kernel10Ideal Cert.Kernel10Ideal.Gen

theorem at0 : ∀ t : Fin cfg0.N, win0_0.index t = ![t.val % 4, t.val / 4] ∧ win0_1.index t = ![min ((t.val % 4 + 1) * 128) 511, t.val / 4]
    ∧ win0_2.index t = ![t.val % 4, 4 + t.val / 4] ∧ win0_3.index t = ![t.val % 4 * 128 - 1, 4 + t.val / 4]
    ∧ win0_4.index t = ![0, t.val / 4] ∧ win0_5.index t = ![t.val % 4, t.val / 4] ∧ win0_6.index t = ![0, t.val / 4] ∧ win0_7.index t = ![0, t.val / 4] :=
  (by decide +kernel : ∀ t : Fin grid0.N, _)
theorem row_of : ∀ t : Fin cfg0.N, ((grid0.coords t 1 : Fin _) : ℕ) = t.val % 4 := (by decide +kernel : ∀ t : Fin grid0.N, _)

variable (m : (ℓ : Loc nD τ sig) → Buf (Elt Ideal) ℓ) (ρ : Dev nD → PrngReg) (c : Dev nD)

/-- The three arguments. -/
abbrev X0 : FVec Ideal S4096x2048 .f32 := m ((c : Thread nD τ).loc main_arg0)
abbrev X1 : FVec Ideal S4096x6144 .f32 := m ((c : Thread nD τ).loc main_arg1)
abbrev X2 : FVec Ideal S4x4096 .f32 := m ((c : Thread nD τ).loc main_arg2)

/-- The three gradients of the arguments. -/
def dx : FVec Ideal S4096x2048 .bf16 := dxArr (X0 m c) (X2 m c)
def dw : FVec Ideal S4x2048 .f32 := dwArr (X0 m c) (X1 m c)
def db : FVec Ideal S1x2048 .f32 := dbArr (X0 m c)

theorem host0 (W : Valuation τ sig (Elt Ideal)) : StableHlo.after hostOps0 W main_v0
    = extractStridedSlice S4x2048 ![0, 0] (W main_arg2) slices_S4x4096_S4x2048_0_0 := by
  after_results

/-- The weights the call is given: the first 2048 channels'. -/
theorem weights (r : Fin 4) (q : Fin 2048) : (V m c main_v0 : FVec Ideal S4x2048 .f32) (ix2 r q) = X2 m c (ix2 r (wcol q)) := by
  refine (congrFun (host0 fun b => m (c, b)) _).trans ?_
  pointwise [wcol]

/-! ## A point's rows are rows of the arguments -/

section
variable (t : Fin cfg0.N) (l : Fin 512) (q : Fin 2048) (hq : (q : ℕ) = t.val / 4 * 512 + l)
include hq

theorem read0 (p : Fin 1024) (P : Fin 4096) (hP : (P : ℕ) = t.val % 4 * 1024 + p) : iblk m c 0 t (ix2 p l) = X0 m c (ix2 P q) := by
  blk_point [iblk, V_main_arg0, (at0 t).1, hP, hq]
theorem read1 (h : t.val % 4 < 3) (p : Fin 8) (P : Fin 4096) (hP : (P : ℕ) = (t.val % 4 + 1) * 1024 + p) : iblk m c 1 t (ix2 p l) = X0 m c (ix2 P q) := by
  have e : (P : ℕ) = min ((t.val % 4 + 1) * 128) 511 * 8 + p := by omega
  blk_point [iblk, V_main_arg0, (at0 t).2.1, e, hq]
theorem read2 (p : Fin 1024) (P : Fin 4096) (hP : (P : ℕ) = t.val % 4 * 1024 + p) : iblk m c 2 t (ix2 p l) = X1 m c (ix2 P (chan q)) := by
  have e : (chan q : ℕ) = (4 + t.val / 4) * 512 + l := by unfold chan; dsimp only; omega
  blk_point [iblk, V_main_arg1, (at0 t).2.2.1, hP, e]
theorem read3 (h : 0 < t.val % 4) (p : Fin 8) (P : Fin 4096) (hP : (P : ℕ) + 8 = t.val % 4 * 1024 + p) : iblk m c 3 t (ix2 p l) = X1 m c (ix2 P (chan q)) := by
  have e : (chan q : ℕ) = (4 + t.val / 4) * 512 + l := by unfold chan; dsimp only; omega
  have e' : (P : ℕ) = (t.val % 4 * 128 - 1) * 8 + p := by omega
  blk_point [iblk, V_main_arg1, (at0 t).2.2.2.1, e', e]
theorem read4 (r : Fin 4) : iblk m c 4 t (ix2 r l) = X2 m c (ix2 r (wcol q)) := by
  refine Eq.trans ?_ (weights m c r q)
  blk_point [iblk, (at0 t).2.2.2.2.1, hq]

theorem next_block (k : ℕ) (hk : k < 8) (p : Fin 1024) (P : Fin 4096) (hP : (P : ℕ) = t.val % 4 * 1024 + p) :
    nextAt (iblk m c 0 t) (hNext (grid0.coords t 1) (iblk m c 1 t)) k p l = ahead (X0 m c) k P q := by
  unfold nextAt ahead
  by_cases e : (p : ℕ) + k < 1024
  · refine (dif_pos e).trans (Eq.trans ?_ (dif_pos (by omega)).symm)
    exact read0 m c t l q hq _ _ (by dsimp only; omega)
  · refine (dif_neg e).trans ?_
    unfold hNext
    rw [row_of t]
    by_cases h : t.val % 4 < 3
    · refine (if_pos h).trans (Eq.trans ?_ (dif_pos (by omega)).symm)
      exact read1 m c t l q hq h _ _ (by dsimp only; omega)
    · refine (if_neg h).trans ?_
      have e' : ¬ (P : ℕ) + k < 4096 := by omega
      rw [dif_neg e']

theorem prev_block (k : ℕ) (hk : k < 8) (p : Fin 1024) (P : Fin 4096) (hP : (P : ℕ) = t.val % 4 * 1024 + p) :
    prevAt (iblk m c 2 t) (hPrev (grid0.coords t 1) (iblk m c 3 t)) k p l = behind (X1 m c) k P q := by
  unfold prevAt behind
  by_cases e : k ≤ (p : ℕ)
  · refine (if_pos e).trans (Eq.trans ?_ (if_pos (by omega)).symm)
    exact read2 m c t l q hq _ _ (by dsimp only; omega)
  · refine (if_neg e).trans ?_
    unfold hPrev
    rw [row_of t]
    by_cases h : 0 < t.val % 4
    · refine (if_pos h).trans (Eq.trans ?_ (if_pos (by omega)).symm)
      exact read3 m c t l q hq h _ _ (by dsimp only; omega)
    · refine (if_neg h).trans ?_
      exact (if_neg (by omega)).symm

theorem dx_at (p : Fin 1024) (P : Fin 4096) (hP : (P : ℕ) = t.val % 4 * 1024 + p) :
    dxB (grid0.coords t 1) (iblk m c 0 t) (iblk m c 1 t) (iblk m c 4 t) (ix2 p l) = dxAt (X0 m c) (X2 m c) P q := by
  have e0 := read4 m c t l q hq 0
  have e1 := read4 m c t l q hq 1
  have e2 := read4 m c t l q hq 2
  have e3 := read4 m c t l q hq 3
  have ed := read0 m c t l q hq p P hP
  have n1 := next_block m c t l q hq 1 (by decide) p P hP
  have n2 := next_block m c t l q hq 2 (by decide) p P hP
  have n3 := next_block m c t l q hq 3 (by decide) p P hP
  exact congrArg₂ (· + ·) (congrArg₂ (· + ·) (congrArg₂ (· + ·) (congrArg₂ (· * ·) e3 ed) (congrArg₂ (· * ·) e0 n3)) (congrArg₂ (· * ·) e1 n2))
    (congrArg₂ (· * ·) e2 n1)
end

/-! ## The three arrays -/

theorem dx_out (t : Fin cfg0.N) : (outsAt0 m c t.val t.isLt).1 = dxB (grid0.coords t 1) (iblk m c 0 t) (iblk m c 1 t) (iblk m c 4 t) := by
  by_cases hz : t.val % 4 = 0
  · rw [outA m c t hz (by omega)]
  · rw [outB m c t hz (by omega)]

theorem final5 : (dats m 0 c).arrAt 5 (cfgs 0).N = dx m c := by
  refine (dats m 0 c).arrAt_eq_of_covers 5 _ (by decide +kernel) fun t _ y => ?_
  blk_simp
  rw [after0_5, dx_out]
  refine (congrArg _ (Cert.Mlp.eta2 y)).trans (dx_at m c t (y 1) ((win0_5.blk t).view.emb y 1) ?_ (y 0) ((win0_5.blk t).view.emb y 0) ?_)
  · blk_simp [(at0 t).2.2.2.2.2.1]
  · blk_simp [(at0 t).2.2.2.2.2.1]

theorem final6 : (dats m 0 c).arrAt 6 (cfgs 0).N = dw m c := by
  refine (dats m 0 c).arrAt_eq_of_covers 6 _ (by decide +kernel) fun t hf y => ?_
  have ht : t.val < 16 := lt_of_lt_of_eq t.isLt N_0
  blk_simp
  rw [after0_6, Pipeline.eq_sum_fin_of_reset_step_apply_of_flush (fun n h => (outsAt0 m c n h).2.1) 4 (fun _ => 0)
    (fun p j => dwB (grid0.coords p 1) (iblk m c 0 p) (iblk m c 2 p) (iblk m c 3 p) j)
    (fun t h j => by rw [outA m c t h (by omega), zero_add])
    (fun t h j => by rw [outB m c t h (by omega)])
    t ((flush0_6 t).mp hf) _, zero_add]
  have e0 : (win0_6.blk t).view.emb y 0 = y 0 := Fin.ext (by blk_simp [(at0 t).2.2.2.2.2.2.1])
  have e1 : ((win0_6.blk t).view.emb y 1 : ℕ) = t.val / 4 * 512 + y 1 := by blk_simp [(at0 t).2.2.2.2.2.2.1]
  unfold dw dwArr dwAt
  rw [e0]
  refine Fin.sum_mul_add_congr fun s k hl => ?_
  have ht' : 4 * (t.val / 4) + s < cfg0.N := lt_of_lt_of_eq (by omega : _ < 16) N_0.symm
  exact congrArg₂ (· * ·) (read0 m c ⟨4 * (t.val / 4) + s, ht'⟩ (y 1) _ (e1.trans (by dsimp only; omega)) k _ (by dsimp only; omega))
    (prev_block m c ⟨4 * (t.val / 4) + s, ht'⟩ (y 1) _ (e1.trans (by dsimp only; omega)) _ (by omega) k _ (by dsimp only; omega))

theorem final7 : (dats m 0 c).arrAt 7 (cfgs 0).N = db m c := by
  refine (dats m 0 c).arrAt_eq_of_covers 7 _ (by decide +kernel) fun t hf y => ?_
  have ht : t.val < 16 := lt_of_lt_of_eq t.isLt N_0
  blk_simp
  rw [after0_7, Pipeline.eq_sum_fin_of_reset_step_apply_of_flush (fun n h => (outsAt0 m c n h).2.2) 4 (fun _ => 0)
    (fun p j => dbB (iblk m c 0 p) j)
    (fun t h j => by rw [outA m c t h (by omega), zero_add])
    (fun t h j => by rw [outB m c t h (by omega)])
    t ((flush0_7 t).mp hf) _, zero_add]
  have e1 : ((win0_7.blk t).view.emb y 1 : ℕ) = t.val / 4 * 512 + y 1 := by blk_simp [(at0 t).2.2.2.2.2.2.2]
  unfold db dbArr dbAt
  refine Fin.sum_mul_add_congr fun s k hl => ?_
  have ht' : 4 * (t.val / 4) + s < cfg0.N := lt_of_lt_of_eq (by omega : _ < 16) N_0.symm
  exact read0 m c ⟨4 * (t.val / 4) + s, ht'⟩ (y 1) _ (e1.trans (by dsimp only; omega)) k _ (by dsimp only; omega)

/-- The call runs, ends with the three gradients, and leaves its arguments as they were. -/
theorem run : θ_run defs (onTc (τ := τ) (main (F := Ideal))) ⟨m, fun _ => 0, ρ⟩ (fun r => ∀ c : Dev nD,
      r.2.mem ((c.tc : Thread nD τ).loc main_v1_0) = dx m c
      ∧ r.2.mem ((c.tc : Thread nD τ).loc main_v1_1) = dw m c
      ∧ r.2.mem ((c.tc : Thread nD τ).loc main_v1_2) = db m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (final5 m c), ((h.1 c).1 6).trans (final6 m c), ((h.1 c).1 7).trans (final7 m c), h.2 c⟩)
    (θ_run_and (run_main m ρ) (unchanged m ρ))

/-! ## The claim -/

theorem frame_reference : @Cert.quiescent_Reference10Ideal Cert.Reference10Ideal.Gen.facts := fun m ρ _ =>
  (θ_run Cert.Reference10Ideal.defs _ _).mono (fun r h => ⟨fun c => (h c).2.2.2, Idealize.ShloMosaic.sem_eq_zero_of_no_sems (by decide) r.2⟩)
    (Cert.Reference10Ideal.Value.run (F := Ideal) m ρ)

open Cert.Reference10Ideal.Read in
/-- The reference's results, as the kernel's functions of the arguments. -/
theorem reference_results {x0 y0 : FVec Ideal S4096x2048 .f32} {x1 y1 : FVec Ideal S4096x6144 .f32} {x2 y2 : FVec Ideal S4x4096 .f32}
    (h0 : y0 = x0) (h1 : y1 = x1) (h2 : y2 = x2) :
    val_main_v70 (F := Ideal) y0 y2 = dxArr x0 x2 ∧ val_main_v65 (F := Ideal) y0 y1 = dwArr x0 x1 ∧ val_main_v71 (F := Ideal) y0 = dbArr x0 := by
  rw [h0, h1, h2]
  refine ⟨funext fun i => ?_, funext fun i => ?_, funext fun i => ?_⟩
  · rw [Cert.Mlp.eta2 i]
    exact Ref.v70 _ _ _ _
  · rw [Cert.Mlp.eta2 i]
    exact Ref.v65 _ _ _ _
  · rw [(Cert.Mlp.eta2 i).trans (congrArg (ix2 · (i 1)) (Fin.eq_zero (i 0)))]
    exact Ref.v71 _ _

open Cert.Reference10Ideal.Read in
theorem algebraic : @Cert.algebraic_Kernel10Ideal_Reference10Ideal Cert.Kernel10Ideal.Gen.facts Cert.Reference10Ideal.Gen.facts := by
  intro m g m' g' _ hargs
  refine ⟨_, _, _, run m g, ?_⟩
  refine (θ_run Cert.Reference10Ideal.defs _ _).mono (fun r h c => ?_) (Cert.Reference10Ideal.Value.run (F := Ideal) m' g')
  obtain ⟨h1, h2, h3, ha⟩ := h c
  obtain ⟨a0, a1, a2⟩ := hargs c
  obtain ⟨r1, r2, r3⟩ := reference_results a0 a1 a2
  exact ⟨h1.trans ((val_main_v70_eq _ _).trans r1), h2.trans ((val_main_v65_eq _ _).trans r2), h3.trans ((val_main_v71_eq _).trans r3), ha⟩

end Cert.Conv

end
-- ==== Proof.lean ====
/- The proof of the claims: the frames, that the idealized kernels are the kernels, that at finite arguments the
   attention's three results and those of the gate's gradient are the reference's, and that the others' are at all arguments. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import Idealize.ShloMosaic.Adequacy
public import Idealize.ShloMosaic.Init
public import proofs.«01_k».proof.Proof.Frames
public import proofs.«01_k».proof.Proof.Finite
public import proofs.«01_k».proof.Proof.Fold
public import proofs.«01_k».proof.Proof.RefGrad
public import proofs.«01_k».proof.Proof.Mlp
public import proofs.«01_k».proof.Proof.ProjRef
public import proofs.«01_k».proof.Proof.InProj
public import proofs.«01_k».proof.Proof.OutRun
public import proofs.«01_k».proof.Proof.GateRun
public import proofs.«01_k».proof.Proof.AttnOut
public import proofs.«01_k».proof.Proof.AttnIn
public import proofs.«01_k».proof.Proof.LayerRun
public import proofs.«01_k».proof.Proof.ConvRun

@[expose] public section

set_option maxRecDepth 16384

noncomputable section

namespace Cert.Proof

open Idealize.ShloMosaic Idealize.SL.Sem Cert.Attn

/-- The reference's results at finite arguments, as the model's. -/
theorem reference_results {X D : ℕ → ℕ → ℝ} {σ : ℕ → ℝ} {x : FVec Ideal Cert.ReferenceIdeal.S1536x4096 .bf16}
    {d : FVec Ideal Cert.ReferenceIdeal.S1024x4096 .bf16} {s : FVec Ideal Cert.ReferenceIdeal.S1x16 .f32} (R : Real X D σ x d s) :
    Cert.ReferenceIdeal.Read.val_main_v179 (F := Ideal) x d s = (fun i => (G X D σ (i 0) (i 1) : EReal))
    ∧ Cert.ReferenceIdeal.Read.val_main_v180 (F := Ideal) x d s = (fun i => (Gb X D σ (i 0) : EReal))
    ∧ Cert.ReferenceIdeal.Read.val_main_v145 (F := Ideal) x d s = (fun i => (Gs X D σ (i 1) : EReal)) := by
  obtain ⟨μ, hμ⟩ := Ref.v72 R.hx R.hs
  refine ⟨funext fun i => ?_, funext fun i => ?_, funext fun i => ?_⟩
  · have e : i = ix2 (i 0) (i 1) := by
      funext a
      match a with
      | 0 => rfl
      | 1 => rfl
    exact (congrArg _ e).trans (Ref.v179 R.hx R.hd R.hs hμ (i 0) (i 1))
  · have e : i = ix2 (i 0) 0 := by
      funext a
      match a with
      | 0 => rfl
      | 1 => exact Subsingleton.elim (α := Fin 1) _ _
    exact (congrArg _ e).trans (Ref.v180 R.hx R.hd R.hs hμ (i 0))
  · have e : i = ix2 0 (i 1) := by
      funext a
      match a with
      | 0 => exact Subsingleton.elim (α := Fin 1) _ _
      | 1 => rfl
    exact (congrArg _ e).trans (Ref.v145 R.hx R.hd R.hs hμ (i 1))

theorem real_eq {X D : ℕ → ℕ → ℝ} {σ : ℕ → ℝ} {x x' : FVec Ideal Cert.ReferenceIdeal.S1536x4096 .bf16}
    {d d' : FVec Ideal Cert.ReferenceIdeal.S1024x4096 .bf16} {s s' : FVec Ideal Cert.ReferenceIdeal.S1x16 .f32} (R : Real X D σ x d s)
    (hx : x' = x) (hd : d' = d) (hs : s' = s) : Real X D σ x' d' s' := by
  rw [hx, hd, hs]
  exact R

theorem algebraic : @Cert.algebraic_KernelIdeal_ReferenceIdeal_pre_finite Cert.KernelIdeal.Gen.facts Cert.ReferenceIdeal.Gen.facts finite_facts := by
  intro m g m' g' hpre hargs
  have R := fun c => real_of_finite _ _ _ (hpre c)
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h1, h2, h3, ha⟩ := h c
  have k := real_eq (R c) (hargs c).1 (hargs c).2.1 (hargs c).2.2
  obtain ⟨r1, r2, r3⟩ := reference_results k
  exact ⟨(h1.trans (Cert.ReferenceIdeal.Read.val_main_v179_eq _)).trans (r1.trans (final7 m c (R c)).symm),
    (h2.trans (Cert.ReferenceIdeal.Read.val_main_v180_eq _)).trans (r2.trans (final8 m c (R c)).symm),
    (h3.trans (Cert.ReferenceIdeal.Read.val_main_v145_eq _)).trans (r3.trans (final9 m c (R c)).symm), ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, finite_facts, Cert.Norm.facts,
  fun m ρ _ => Cert.Kernel.Gen.frame m ρ,
  fun m ρ _ => Cert.KernelIdeal.Gen.frame m ρ,
  fun m ρ _ => Cert.KernelIdeal.Gen.frame m ρ,
  frame_reference,
  frame_reference_finite,
  fun m ρ _ => Cert.Kernel2.Gen.frame m ρ,
  fun m ρ _ => Cert.Kernel2Ideal.Gen.frame m ρ,
  Cert.Mlp.frame_reference,
  fun m ρ _ => Cert.Kernel3.Gen.frame m ρ,
  fun m ρ _ => Cert.Kernel3Ideal.Gen.frame m ρ,
  Cert.Proj.frame_reference,
  fun m ρ _ => Cert.Kernel4.Gen.frame m ρ,
  fun m ρ _ => Cert.Kernel4Ideal.Gen.frame m ρ,
  fun m ρ _ => Cert.Kernel4Ideal.Gen.frame m ρ,
  Cert.Norm.frame_reference,
  Cert.Norm.frame_reference_finite,
  fun m ρ _ => Cert.Kernel5.Gen.frame m ρ,
  fun m ρ _ => Cert.Kernel5Ideal.Gen.frame m ρ,
  Cert.Out.frame_reference,
  fun m ρ _ => Cert.Kernel6.Gen.frame m ρ,
  fun m ρ _ => Cert.Kernel6Ideal.Gen.frame m ρ,
  Cert.InProj.frame_reference,
  fun m ρ _ => Cert.Kernel7.Gen.frame m ρ,
  fun m ρ _ => Cert.Kernel7Ideal.Gen.frame m ρ,
  Cert.AttnOut.frame_reference,
  fun m ρ _ => Cert.Kernel8.Gen.frame m ρ,
  fun m ρ _ => Cert.Kernel8Ideal.Gen.frame m ρ,
  Cert.AttnIn.frame_reference,
  fun m ρ _ => Cert.Kernel9.Gen.frame m ρ,
  fun m ρ _ => Cert.Kernel9Ideal.Gen.frame m ρ,
  Cert.Layer.frame_reference,
  fun m ρ _ => Cert.Kernel10.Gen.frame m ρ,
  fun m ρ _ => Cert.Kernel10Ideal.Gen.frame m ρ,
  Cert.Conv.frame_reference,
  trivial,
  algebraic,
  trivial,
  Cert.Mlp.algebraic,
  trivial,
  Cert.Proj.algebraic,
  trivial,
  Cert.Norm.algebraic,
  trivial,
  Cert.Out.algebraic,
  trivial,
  Cert.InProj.algebraic,
  trivial,
  Cert.AttnOut.algebraic,
  trivial,
  Cert.AttnIn.algebraic,
  trivial,
  Cert.Layer.algebraic,
  trivial,
  Cert.Conv.algebraic⟩

end Cert.Proof

end
